-- ==== Defs.lean ====
def Pre_Kernel (m : (ℓ : Loc Cert.Kernel.nD Cert.Kernel.τ Cert.Kernel.sig) → Buf (Elt Bits) ℓ) : Prop :=
  True

def Pre_Kernel_separated [hPre_separated : Cert.Pre_separated.Facts] (m : (ℓ : Loc Cert.Kernel.nD Cert.Kernel.τ Cert.Kernel.sig) → Buf (Elt Bits) ℓ) : Prop :=
  ∀ c : Dev Cert.Kernel.nD,
    (Cert.Pre_separated.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_separated [hKernel : Cert.Kernel.Facts] [hPre_separated : Cert.Pre_separated.Facts] : Prop :=
  ∀ (m : (ℓ : Loc Cert.Kernel.nD Cert.Kernel.τ Cert.Kernel.sig) → Buf (Elt Bits) ℓ) (g : Dev Cert.Kernel.nD → PrngReg), Pre_Kernel_separated m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_Kernel_pre_separated (hKernel := hKernel) (hPre_separated := hPre_separated)
    ∧ quiescent_KernelIdeal (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal (hKernelIdeal := hKernelIdeal) (hReferenceIdeal := hReferenceIdeal) (hPre_separated := hPre_separated)
-- ==== Pre_separated.lean ====
abbrev S784x1536 : Shape := ⟨2, ![784, 1536]⟩
abbrev S16384x1536 : Shape := ⟨2, ![16384, 1536]⟩
abbrev S_ : Shape := ⟨0, ![]⟩
abbrev S16384 : Shape := ⟨1, ![16384]⟩
abbrev S16384x1 : Shape := ⟨2, ![16384, 1]⟩
abbrev S16384x784 : Shape := ⟨2, ![16384, 784]⟩
abbrev S16x1024x784 : Shape := ⟨3, ![16, 1024, 784]⟩
abbrev S16x784 : Shape := ⟨2, ![16, 784]⟩
abbrev S16x1x784 : Shape := ⟨3, ![16, 1, 784]⟩

class Facts : Prop where
  bcast_S_S16384x1536 : S_.BroadcastsInDim S16384x1536 (![] : Fin 0 → Fin S16384x1536.rank)
  reducesTo_S16384x1536_S_d0_1 : S16384x1536.ReducesTo [0, 1] S_
  h_S_ : 0 < S_.numel
  reducesTo_S16384x1536_S16384_d1 : S16384x1536.ReducesTo [1] S16384
  bcast_S16384_S16384x1_0 : S16384.BroadcastsInDim S16384x1 (![0] : Fin 1 → Fin S16384x1.rank)
  bcast_S_S16384x784 : S_.BroadcastsInDim S16384x784 (![] : Fin 0 → Fin S16384x784.rank)
  bcast_S16384x1_S16384x784_0_1 : S16384x1.BroadcastsInDim S16384x784 (![0, 1] : Fin 2 → Fin S16384x784.rank)
  shapeCasts_S16384x784_S16x1024x784 : S16384x784.ShapeCasts S16x1024x784
  reducesTo_S16x1024x784_S16x784_d1 : S16x1024x784.ReducesTo [1] S16x784
  bcast_S16x784_S16x1x784_0_2 : S16x784.BroadcastsInDim S16x1x784 (![0, 2] : Fin 2 → Fin S16x1x784.rank)
  bcast_S16x1x784_S16x1024x784_0_1_2 : S16x1x784.BroadcastsInDim S16x1024x784 (![0, 1, 2] : Fin 3 → Fin S16x1024x784.rank)
  natLt_1_32 : 1 < 32
  bcast_S_S16x784 : S_.BroadcastsInDim S16x784 (![] : Fin 0 → Fin S16x784.rank)
  reducesTo_S16x784_S_d0_1 : S16x784.ReducesTo [0, 1] S_
  dot_S16384x1536_S784x1536_S16384x784_1_1_0_0_n_n_wf : DotDims.WF S16384x1536 S784x1536 S16384x784 [1] [1] [0] [0] [] []

variable [Facts]

def dot_S16384x1536_S784x1536_S16384x784_1_1_0_0_n_n : DotDims S16384x1536 S784x1536 S16384x784 where
  lhsContracting := [1]
  rhsContracting := [1]
  lhsNonContracting := [0]
  rhsNonContracting := [0]
  lhsBatch := []
  rhsBatch := []
  wf := dot_S16384x1536_S784x1536_S16384x784_1_1_0_0_n_n_wf
def fn_part1 {F : FTy → Type} [FloatOps F] (main_v3 : IVec S_ 1) (main_v17 : IVec S16x1024x784 32) (main_c_3 : IVec S_ 32) : IVec S_ 1 :=
  let main_v18 : IVec S16x784 32 := (fun x v => Host.reduce IntOp.addi x v reducesTo_S16x1024x784_S16x784_d1 h_S_) main_v17 main_c_3
  let main_c_4 : IVec S_ 32 := constantI S_ 32 1#32
  let main_v19 : IVec S16x784 32 := broadcastInDim S16x784 ![] bcast_S_S16x784 main_c_4
  let main_v20 : IVec S16x784 1 := cmpi .eq main_v18 main_v19
  let main_c_5 : IVec S_ 1 := constantI S_ 1 1#1
  let main_v21 : IVec S_ 1 := (fun x v => Host.reduce IntOp.andi x v reducesTo_S16x784_S_d0_1 h_S_) main_v20 main_c_5
  let main_v22 : IVec S_ 1 := andi main_v3 main_v21
  main_v22

def fn {F : FTy → Type} [FloatOps F] (main_arg0 : FVec F S784x1536 .f32) (main_arg1 : FVec F S16384x1536 .f32) : IVec S_ 1 :=
  let main_v0 : FVec F S16384x1536 .f32 := Host.absf main_arg1
  let main_cst : FVec F S_ .f32 := constant S_ .f32 0x7F800000#32
  let main_v1 : FVec F S16384x1536 .f32 := broadcastInDim S16384x1536 ![] bcast_S_S16384x1536 main_cst
  let main_v2 : IVec S16384x1536 1 := cmpf .olt main_v0 main_v1
  let main_c : IVec S_ 1 := constantI S_ 1 1#1
  let main_v3 : IVec S_ 1 := (fun x v => Host.reduce IntOp.andi x v reducesTo_S16384x1536_S_d0_1 h_S_) main_v2 main_c
  let main_v4 : FVec F S16384x1536 .f32 := mulf main_arg1 main_arg1
  let main_cst_0 : FVec F S_ .f32 := constant S_ .f32 0x00000000#32
  let main_v5 : FVec F S16384 .f32 := (fun x v => Host.reduceAdd x v reducesTo_S16384x1536_S16384_d1 h_S_) main_v4 main_cst_0
  let main_v6 : FVec F S16384x1 .f32 := broadcastInDim S16384x1 ![0] bcast_S16384_S16384x1_0 main_v5
  let main_v7 : FVec F S16384x784 .f32 := (fun l r => Host.dotGeneral dot_S16384x1536_S784x1536_S16384x784_1_1_0_0_n_n none l r) main_arg1 main_arg0
  let main_cst_1 : FVec F S_ .f32 := constant S_ .f32 0x40000000#32
  let main_v8 : FVec F S16384x784 .f32 := broadcastInDim S16384x784 ![] bcast_S_S16384x784 main_cst_1
  let main_v9 : FVec F S16384x784 .f32 := mulf main_v8 main_v7
  let main_v10 : FVec F S16384x784 .f32 := broadcastInDim S16384x784 ![0, 1] bcast_S16384x1_S16384x784_0_1 main_v6
  let main_v11 : FVec F S16384x784 .f32 := subf main_v10 main_v9
  let main_v12 : FVec F S16x1024x784 .f32 := shapeCast S16x1024x784 main_v11 shapeCasts_S16384x784_S16x1024x784
  let main_cst_2 : FVec F S_ .f32 := constant S_ .f32 0x7F800000#32
  let main_v13 : FVec F S16x784 .f32 := (fun x v => Host.reduce FloatOps.minimumf x v reducesTo_S16x1024x784_S16x784_d1 h_S_) main_v12 main_cst_2
  let main_v14 : FVec F S16x1x784 .f32 := broadcastInDim S16x1x784 ![0, 2] bcast_S16x784_S16x1x784_0_2 main_v13
  let main_v15 : FVec F S16x1024x784 .f32 := broadcastInDim S16x1024x784 ![0, 1, 2] bcast_S16x1x784_S16x1024x784_0_1_2 main_v14
  let main_v16 : IVec S16x1024x784 1 := cmpf .oeq main_v12 main_v15
  let main_v17 : IVec S16x1024x784 32 := (extui 32 · natLt_1_32) main_v16
  let main_c_3 : IVec S_ 32 := constantI S_ 32 0#32
  fn_part1 (F := F) main_v3 main_v17 main_c_3
-- ==== Kernel.lean ====
abbrev S784x1536 : Shape := ⟨2, ![784, 1536]⟩
abbrev S16384x1536 : Shape := ⟨2, ![16384, 1536]⟩
abbrev S1536x784 : Shape := ⟨2, ![1536, 784]⟩
abbrev S1x784 : Shape := ⟨2, ![1, 784]⟩
abbrev S1x1 : Shape := ⟨2, ![1, 1]⟩
abbrev S16384x1 : Shape := ⟨2, ![16384, 1]⟩
abbrev S1024x1536 : Shape := ⟨2, ![1024, 1536]⟩
abbrev S1024x1 : Shape := ⟨2, ![1024, 1]⟩
abbrev S1024x784 : Shape := ⟨2, ![1024, 784]⟩
abbrev S1024 : Shape := ⟨1, ![1024]⟩
abbrev S784 : Shape := ⟨1, ![784]⟩
abbrev S1x1x784 : Shape := ⟨3, ![1, 1, 784]⟩
abbrev S1 : Shape := ⟨1, ![1]⟩
abbrev S1x1x1 : Shape := ⟨3, ![1, 1, 1]⟩
abbrev S_ : Shape := ⟨0, ![]⟩
abbrev S1x1536 : Shape := ⟨2, ![1, 1536]⟩
abbrev S2x1536 : Shape := ⟨2, ![2, 1536]⟩
abbrev S1536x2 : Shape := ⟨2, ![1536, 2]⟩
abbrev S16384x2 : Shape := ⟨2, ![16384, 2]⟩
abbrev S1024x2 : Shape := ⟨2, ![1024, 2]⟩
abbrev S224 : Shape := ⟨1, ![224]⟩
abbrev S28 : Shape := ⟨1, ![28]⟩
abbrev S1x224 : Shape := ⟨2, ![1, 224]⟩
abbrev S28x1 : Shape := ⟨2, ![28, 1]⟩
abbrev S28x224 : Shape := ⟨2, ![28, 224]⟩
abbrev S224x28 : Shape := ⟨2, ![224, 28]⟩
abbrev S28x28 : Shape := ⟨2, ![28, 28]⟩
abbrev S16384 : Shape := ⟨1, ![16384]⟩
abbrev S1x16384 : Shape := ⟨2, ![1, 16384]⟩
abbrev S224x224 : Shape := ⟨2, ![224, 224]⟩
abbrev S1x1x16384 : Shape := ⟨3, ![1, 1, 16384]⟩
abbrev S1x1x224x224 : Shape := ⟨4, ![1, 1, 224, 224]⟩

abbrev nBuf : Space → Nat
  | .hbm => 108
  | .vmem => 27
  | .smem => 1
  | _ => 0

abbrev bufTy : (tb : Table) → Fin (tcTables nBuf tb) → BufTy
  | .hbm, ⟨0, _⟩ => ⟨S784x1536, .f32⟩
  | .hbm, ⟨1, _⟩ => ⟨S16384x1536, .f32⟩
  | .hbm, ⟨2, _⟩ => ⟨S1536x784, .f32⟩
  | .hbm, ⟨3, _⟩ => ⟨S1x784, .f32⟩
  | .hbm, ⟨4, _⟩ => ⟨S1x1, .f32⟩
  | .hbm, ⟨5, _⟩ => ⟨S1x1, .i32⟩
  | .hbm, ⟨6, _⟩ => ⟨S1x1, .i32⟩
  | .hbm, ⟨7, _⟩ => ⟨S16384x1, .f32⟩
  | .hbm, ⟨8, _⟩ => ⟨S1x784, .f32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1x1536, .f32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1x1536, .f32⟩
  | .hbm, ⟨25, _⟩ => ⟨S2x1536, .f32⟩
  | .hbm, ⟨26, _⟩ => ⟨S1536x2, .f32⟩
  | .hbm, ⟨27, _⟩ => ⟨S16384x2, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S224, .f32⟩
  | .hbm, ⟨32, _⟩ => ⟨S_, .f32⟩
  | .hbm, ⟨33, _⟩ => ⟨S224, .f32⟩
  | .hbm, ⟨34, _⟩ => ⟨S224, .f32⟩
  | .hbm, ⟨35, _⟩ => ⟨S_, .f32⟩
  | .hbm, ⟨36, _⟩ => ⟨S224, .f32⟩
  | .hbm, ⟨37, _⟩ => ⟨S224, .f32⟩
  | .hbm, ⟨38, _⟩ => ⟨S_, .f32⟩
  | .hbm, ⟨39, _⟩ => ⟨S224, .f32⟩
  | .hbm, ⟨40, _⟩ => ⟨S224, .f32⟩
  | .hbm, ⟨41, _⟩ => ⟨S_, .f32⟩
  | .hbm, ⟨42, _⟩ => ⟨S224, .f32⟩
  | .hbm, ⟨43, _⟩ => ⟨S224, .f32⟩
  | .hbm, ⟨44, _⟩ => ⟨S28, .f32⟩
  | .hbm, ⟨45, _⟩ => ⟨S1x224, .f32⟩
  | .hbm, ⟨46, _⟩ => ⟨S28x1, .f32⟩
  | .hbm, ⟨47, _⟩ => ⟨S28x224, .f32⟩
  | .hbm, ⟨48, _⟩ => ⟨S28x224, .f32⟩
  | .hbm, ⟨49, _⟩ => ⟨S28x224, .f32⟩
  | .hbm, ⟨50, _⟩ => ⟨S28x224, .f32⟩
  | .hbm, ⟨51, _⟩ => ⟨S28x224, .f32⟩
  | .hbm, ⟨52, _⟩ => ⟨S28x224, .f32⟩
  | .hbm, ⟨53, _⟩ => ⟨S28x224, .f32⟩
  | .hbm, ⟨54, _⟩ => ⟨S_, .f32⟩
  | .hbm, ⟨55, _⟩ => ⟨S28x224, .f32⟩
  | .hbm, ⟨56, _⟩ => ⟨S28x224, .f32⟩
  | .hbm, ⟨57, _⟩ => ⟨S_, .f32⟩
  | .hbm, ⟨58, _⟩ => ⟨S28x224, .f32⟩
  | .hbm, ⟨59, _⟩ => ⟨S28x224, .f32⟩
  | .hbm, ⟨60, _⟩ => ⟨S_, .f32⟩
  | .hbm, ⟨61, _⟩ => ⟨S224, .f32⟩
  | .hbm, ⟨62, _⟩ => ⟨S1x224, .f32⟩
  | .hbm, ⟨63, _⟩ => ⟨S1x224, .f32⟩
  | .hbm, ⟨64, _⟩ => ⟨S_, .f32⟩
  | .hbm, ⟨65, _⟩ => ⟨S1x224, .f32⟩
  | .hbm, ⟨66, _⟩ => ⟨S1x224, .i1⟩
  | .hbm, ⟨67, _⟩ => ⟨S_, .f32⟩
  | .hbm, ⟨68, _⟩ => ⟨S1x224, .f32⟩
  | .hbm, ⟨69, _⟩ => ⟨S1x224, .i1⟩
  | .hbm, ⟨70, _⟩ => ⟨S_, .i32⟩
  | .hbm, ⟨71, _⟩ => ⟨S_, .f32⟩
  | .hbm, ⟨72, _⟩ => ⟨S1x224, .f32⟩
  | .hbm, ⟨73, _⟩ => ⟨S1x224, .f32⟩
  | .hbm, ⟨74, _⟩ => ⟨S28x224, .f32⟩
  | .hbm, ⟨75, _⟩ => ⟨S28x224, .f32⟩
  | .hbm, ⟨76, _⟩ => ⟨S_, .i32⟩
  | .hbm, ⟨77, _⟩ => ⟨S_, .f32⟩
  | .hbm, ⟨78, _⟩ => ⟨S28x224, .i1⟩
  | .hbm, ⟨79, _⟩ => ⟨S28x224, .f32⟩
  | .hbm, ⟨80, _⟩ => ⟨S28x224, .f32⟩
  | .hbm, ⟨81, _⟩ => ⟨S_, .f32⟩
  | .hbm, ⟨82, _⟩ => ⟨S224, .f32⟩
  | .hbm, ⟨83, _⟩ => ⟨S224, .i1⟩
  | .hbm, ⟨84, _⟩ => ⟨S_, .f32⟩
  | .hbm, ⟨85, _⟩ => ⟨S224, .f32⟩
  | .hbm, ⟨86, _⟩ => ⟨S224, .i1⟩
  | .hbm, ⟨87, _⟩ => ⟨S224, .i1⟩
  | .hbm, ⟨88, _⟩ => ⟨S1x224, .i1⟩
  | .hbm, ⟨89, _⟩ => ⟨S_, .i32⟩
  | .hbm, ⟨90, _⟩ => ⟨S_, .f32⟩
  | .hbm, ⟨91, _⟩ => ⟨S28x224, .i1⟩
  | .hbm, ⟨92, _⟩ => ⟨S28x224, .f32⟩
  | .hbm, ⟨93, _⟩ => ⟨S28x224, .f32⟩
  | .hbm, ⟨94, _⟩ => ⟨S224x28, .f32⟩
  | .hbm, ⟨95, _⟩ => ⟨S28x28, .f32⟩
  | .hbm, ⟨96, _⟩ => ⟨S16384x1, .f32⟩
  | .hbm, ⟨97, _⟩ => ⟨S16384, .f32⟩
  | .hbm, ⟨98, _⟩ => ⟨S1x16384, .f32⟩
  | .hbm, ⟨99, _⟩ => ⟨S16384x1, .f32⟩
  | .hbm, ⟨100, _⟩ => ⟨S16384, .f32⟩
  | .hbm, ⟨101, _⟩ => ⟨S1x16384, .f32⟩
  | .hbm, ⟨102, _⟩ => ⟨S1x16384, .f32⟩
  | .hbm, ⟨103, _⟩ => ⟨S28x224, .f32⟩
  | .hbm, ⟨104, _⟩ => ⟨S1x1, .f32⟩
  | .hbm, ⟨105, _⟩ => ⟨S224x224, .f32⟩
  | .hbm, ⟨106, _⟩ => ⟨S_, .f32⟩
  | .hbm, ⟨107, _⟩ => ⟨S1x1x224x224, .f32⟩
  | .local _ .vmem, ⟨0, _⟩ => ⟨S1536x784, .f32⟩
  | .local _ .vmem, ⟨1, _⟩ => ⟨S1024x1536, .f32⟩
  | .local _ .vmem, ⟨2, _⟩ => ⟨S1024x1536, .f32⟩
  | .local _ .vmem, ⟨3, _⟩ => ⟨S1x784, .f32⟩
  | .local _ .vmem, ⟨4, _⟩ => ⟨S1x1, .f32⟩
  | .local _ .vmem, ⟨5, _⟩ => ⟨S1x1, .i32⟩
  | .local _ .vmem, ⟨6, _⟩ => ⟨S1x1, .i32⟩
  | .local _ .vmem, ⟨7, _⟩ => ⟨S1024x1, .f32⟩
  | .local _ .vmem, ⟨8, _⟩ => ⟨S1024x1, .f32⟩
  | .local _ .vmem, ⟨9, _⟩ => ⟨S1x784, .f32⟩
  | .local _ .vmem, ⟨10, _⟩ => ⟨S1x784, .f32⟩
  | .local _ .vmem, ⟨11, _⟩ => ⟨S1x784, .i32⟩
  | .local _ .vmem, ⟨12, _⟩ => ⟨S1024x1536, .f32⟩
  | .local _ .vmem, ⟨13, _⟩ => ⟨S1024x1536, .f32⟩
  | .local _ .vmem, ⟨14, _⟩ => ⟨S1536x2, .f32⟩
  | .local _ .vmem, ⟨15, _⟩ => ⟨S1024x2, .f32⟩
  | .local _ .vmem, ⟨16, _⟩ => ⟨S1024x2, .f32⟩
  | .local _ .vmem, ⟨17, _⟩ => ⟨S1x16384, .f32⟩
  | .local _ .vmem, ⟨18, _⟩ => ⟨S1x16384, .f32⟩
  | .local _ .vmem, ⟨19, _⟩ => ⟨S1x16384, .f32⟩
  | .local _ .vmem, ⟨20, _⟩ => ⟨S1x784, .f32⟩
  | .local _ .vmem, ⟨21, _⟩ => ⟨S1x1, .f32⟩
  | .local _ .vmem, ⟨22, _⟩ => ⟨S28x28, .f32⟩
  | .local _ .vmem, ⟨23, _⟩ => ⟨S224x28, .f32⟩
  | .local _ .vmem, ⟨24, _⟩ => ⟨S28x224, .f32⟩
  | .local _ .vmem, ⟨25, _⟩ => ⟨S1x1, .f32⟩
  | .local _ .vmem, ⟨26, _⟩ => ⟨S224x224, .f32⟩
  | .local _ .smem, ⟨0, _⟩ => ⟨S1, .i32⟩
  | _, _ => ⟨S784x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v1_5 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_cst_7 : Ref sig .tc := ⟨.hbm, 35, rfl⟩
abbrev main_v19 : Ref sig .tc := ⟨.hbm, 36, rfl⟩
abbrev main_v20 : Ref sig .tc := ⟨.hbm, 37, rfl⟩
abbrev main_cst_8 : Ref sig .tc := ⟨.hbm, 38, rfl⟩
abbrev main_v21 : Ref sig .tc := ⟨.hbm, 39, rfl⟩
abbrev main_v22 : Ref sig .tc := ⟨.hbm, 40, rfl⟩
abbrev main_cst_9 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_10 : Ref sig .tc := ⟨.hbm, 54, rfl⟩
abbrev main_v35 : Ref sig .tc := ⟨.hbm, 55, rfl⟩
abbrev main_v36 : Ref sig .tc := ⟨.hbm, 56, rfl⟩
abbrev main_cst_11 : Ref sig .tc := ⟨.hbm, 57, rfl⟩
abbrev main_v37 : Ref sig .tc := ⟨.hbm, 58, rfl⟩
abbrev main_v38 : Ref sig .tc := ⟨.hbm, 59, rfl⟩
abbrev main_cst_12 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_13 : Ref sig .tc := ⟨.hbm, 64, rfl⟩
abbrev main_v42 : Ref sig .tc := ⟨.hbm, 65, rfl⟩
abbrev main_v43 : Ref sig .tc := ⟨.hbm, 66, rfl⟩
abbrev main_cst_14 : Ref sig .tc := ⟨.hbm, 67, rfl⟩
abbrev main_v44 : Ref sig .tc := ⟨.hbm, 68, rfl⟩
abbrev main_v45 : Ref sig .tc := ⟨.hbm, 69, rfl⟩
abbrev main_c_15 : Ref sig .tc := ⟨.hbm, 70, rfl⟩
abbrev main_call0_v0 : Ref sig .tc := ⟨.hbm, 71, rfl⟩
abbrev main_call0_v1 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_16 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v49 : Ref sig .tc := ⟨.hbm, 80, rfl⟩
abbrev main_cst_17 : Ref sig .tc := ⟨.hbm, 81, rfl⟩
abbrev main_v50 : Ref sig .tc := ⟨.hbm, 82, rfl⟩
abbrev main_v51 : Ref sig .tc := ⟨.hbm, 83, rfl⟩
abbrev main_cst_18 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_19 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v67 : Ref sig .tc := ⟨.hbm, 103, rfl⟩
abbrev main_v68_0 : Ref sig .tc := ⟨.hbm, 104, rfl⟩
abbrev main_v68_1 : Ref sig .tc := ⟨.hbm, 105, rfl⟩
abbrev main_v69 : Ref sig .tc := ⟨.hbm, 106, rfl⟩
abbrev main_v70 : Ref sig .tc := ⟨.hbm, 107, rfl⟩
abbrev main_v66 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v25 : BitVec 1 := Scalar.cmpi .eq arg0 c15_i32
  let v26 : BitVec 32 := Scalar.extui v25
  let c0_i32_11 : BitVec 32 := 0#32
  let v27 : BitVec 1 := Scalar.cmpi .ne v26 c0_i32_11
  v27

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x784 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x784 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x784 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1536x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

abbrev pre2 : Pipeline.Prefetch sig := ⟨1, ![main_v66.idx], fun | 0 => main_v66.names | ⟨_ + 1, h⟩ => absurd h (Nat.not_lt.2 (Nat.le_add_left _ _)), fun | 0 => rfl | ⟨_ + 1, h⟩ => absurd h (Nat.not_lt.2 (Nat.le_add_left _ _))⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x16384 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x16384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x784 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S28x28 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S224x28 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S28x224 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S224x224 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]
-- ==== ReferenceIdeal.lean ====
abbrev S784x1536 : Shape := ⟨2, ![784, 1536]⟩
abbrev S16384x1536 : Shape := ⟨2, ![16384, 1536]⟩
abbrev S_ : Shape := ⟨0, ![]⟩
abbrev S784 : Shape := ⟨1, ![784]⟩
abbrev S784x1 : Shape := ⟨2, ![784, 1]⟩
abbrev S16384 : Shape := ⟨1, ![16384]⟩
abbrev S1x16384 : Shape := ⟨2, ![1, 16384]⟩
abbrev S784x16384 : Shape := ⟨2, ![784, 16384]⟩
abbrev S1536x16384 : Shape := ⟨2, ![1536, 16384]⟩
abbrev S1x1536 : Shape := ⟨2, ![1, 1536]⟩
abbrev S1536 : Shape := ⟨1, ![1536]⟩
abbrev S1 : Shape := ⟨1, ![1]⟩
abbrev S1x1 : Shape := ⟨2, ![1, 1]⟩
abbrev S1x3 : Shape := ⟨2, ![1, 3]⟩
abbrev S1x2 : Shape := ⟨2, ![1, 2]⟩
abbrev S2 : Shape := ⟨1, ![2]⟩
abbrev S2x1 : Shape := ⟨2, ![2, 1]⟩
abbrev S2x1536 : Shape := ⟨2, ![2, 1536]⟩
abbrev S1x1x28x28 : Shape := ⟨4, ![1, 1, 28, 28]⟩
abbrev S224 : Shape := ⟨1, ![224]⟩
abbrev S28 : Shape := ⟨1, ![28]⟩
abbrev S1x224 : Shape := ⟨2, ![1, 224]⟩
abbrev S28x1 : Shape := ⟨2, ![28, 1]⟩
abbrev S28x224 : Shape := ⟨2, ![28, 224]⟩
abbrev S224x1x1x28 : Shape := ⟨4, ![224, 1, 1, 28]⟩
abbrev S224x1x1x224 : Shape := ⟨4, ![224, 1, 1, 224]⟩
abbrev S1x1x224x224 : Shape := ⟨4, ![1, 1, 224, 224]⟩

abbrev nBuf : Space → Nat
  | .hbm => 267
  | .vmem => 0
  | .smem => 0
  | _ => 0

abbrev hbmTy0_0 (i : Nat) : BufTy := match i % 128 with
  | 0 => ⟨S784x1536, .f32⟩
  | 1 => ⟨S16384x1536, .f32⟩
  | 2 => ⟨S784x1536, .f32⟩
  | 3 => ⟨S_, .f32⟩
  | 4 => ⟨S784, .f32⟩
  | 5 => ⟨S784x1, .f32⟩
  | 6 => ⟨S16384x1536, .f32⟩
  | 7 => ⟨S_, .f32⟩
  | 8 => ⟨S16384, .f32⟩
  | 9 => ⟨S1x16384, .f32⟩
  | 10 => ⟨S784x16384, .f32⟩
  | 11 => ⟨S784x16384, .f32⟩
  | 12 => ⟨S784x16384, .f32⟩
  | 13 => ⟨S1536x16384, .f32⟩
  | 14 => ⟨S784x16384, .f32⟩
  | 15 => ⟨S_, .f32⟩
  | 16 => ⟨S784x16384, .f32⟩
  | 17 => ⟨S784x16384, .f32⟩
  | 18 => ⟨S784x16384, .f32⟩
  | 19 => ⟨S_, .f32⟩
  | 20 => ⟨S784x16384, .f32⟩
  | 21 => ⟨S784x16384, .f32⟩
  | 22 => ⟨S784x16384, .f32⟩
  | 23 => ⟨S_, .f32⟩
  | 24 => ⟨S784, .f32⟩
  | 25 => ⟨S784x16384, .i32⟩
  | 26 => ⟨S_, .f32⟩
  | 27 => ⟨S_, .i32⟩
  | 28 => ⟨S784, .f32⟩
  | 29 => ⟨S784, .i32⟩
  | 30 => ⟨S784, .i32⟩
  | 31 => ⟨S_, .f32⟩
  | 32 => ⟨S_, .i32⟩
  | 33 => ⟨S_, .f32⟩
  | 34 => ⟨S_, .i32⟩
  | 35 => ⟨S_, .f32⟩
  | 36 => ⟨S_, .f32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S1x1536, .f32⟩
  | 51 => ⟨S1536, .f32⟩
  | 52 => ⟨S1x1536, .f32⟩
  | 53 => ⟨S_, .i32⟩
  | 54 => ⟨S_, .i1⟩
  | 55 => ⟨S_, .i32⟩
  | 56 => ⟨S_, .i32⟩
  | 57 => ⟨S_, .i32⟩
  | 58 => ⟨S1, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S1x1536, .f32⟩
  | 74 => ⟨S1536, .f32⟩
  | 75 => ⟨S1x1536, .f32⟩
  | 76 => ⟨S1x1536, .f32⟩
  | 77 => ⟨S_, .f32⟩
  | 78 => ⟨S1, .f32⟩
  | 79 => ⟨S1x1, .f32⟩
  | 80 => ⟨S16384x1536, .f32⟩
  | 81 => ⟨S_, .f32⟩
  | 82 => ⟨S16384, .f32⟩
  | 83 => ⟨S1x16384, .f32⟩
  | 84 => ⟨S1x16384, .f32⟩
  | 85 => ⟨S1x16384, .f32⟩
  | 86 => ⟨S1536x16384, .f32⟩
  | 87 => ⟨S1x16384, .f32⟩
  | 88 => ⟨S_, .f32⟩
  | 89 => ⟨S1x16384, .f32⟩
  | 90 => ⟨S1x16384, .f32⟩
  | 91 => ⟨S1x16384, .f32⟩
  | 92 => ⟨S_, .f32⟩
  | 93 => ⟨S1x16384, .f32⟩
  | 94 => ⟨S1x16384, .f32⟩
  | 95 => ⟨S1x16384, .f32⟩
  | 96 => ⟨S1x16384, .f32⟩
  | 97 => ⟨S1x3, .f32⟩
  | 98 => ⟨S1x3, .i32⟩
  | 99 => ⟨S1x2, .i32⟩
  | 100 => ⟨S2, .i32⟩
  | 101 => ⟨S_, .i32⟩
  | 102 => ⟨S2, .i32⟩
  | 103 => ⟨S2, .i1⟩
  | 104 => ⟨S_, .i32⟩
  | 105 => ⟨S2, .i32⟩
  | 106 => ⟨S2, .i32⟩
  | 107 => ⟨S2, .i32⟩
  | 108 => ⟨S2x1, .i32⟩
  | 109 => ⟨S2x1536, .f32⟩
  | 110 => ⟨S2x1536, .f32⟩
  | 111 => ⟨S2x1536, .f32⟩
  | 112 => ⟨S2x1536, .f32⟩
  | 113 => ⟨S_, .f32⟩
  | 114 => ⟨S2, .f32⟩
  | 115 => ⟨S2, .f32⟩
  | 116 => ⟨S_, .f32⟩
  | 117 => ⟨S_, .f32⟩
  | 118 => ⟨S_, .f32⟩
  | 119 => ⟨S_, .f32⟩
  | 120 => ⟨S2, .f32⟩
  | 121 => ⟨S2, .f32⟩
  | 122 => ⟨S2, .f32⟩
  | 123 => ⟨S_, .f32⟩
  | 124 => ⟨S_, .f32⟩
  | 125 => ⟨S_, .f32⟩
  | 126 => ⟨S_, .f32⟩
  | 127 => ⟨S_, .f32⟩
  | _ => ⟨S784x1536, .f32⟩

abbrev hbmTy0_1 (i : Nat) : BufTy := match i % 128 with
  | 0 => ⟨S_, .f32⟩
  | 1 => ⟨S1x1x28x28, .f32⟩
  | 2 => ⟨S_, .f32⟩
  | 3 => ⟨S_, .f32⟩
  | 4 => ⟨S_, .f32⟩
  | 5 => ⟨S224, .f32⟩
  | 6 => ⟨S_, .f32⟩
  | 7 => ⟨S224, .f32⟩
  | 8 => ⟨S224, .f32⟩
  | 9 => ⟨S_, .f32⟩
  | 10 => ⟨S224, .f32⟩
  | 11 => ⟨S224, .f32⟩
  | 12 => ⟨S_, .f32⟩
  | 13 => ⟨S224, .f32⟩
  | 14 => ⟨S224, .f32⟩
  | 15 => ⟨S_, .f32⟩
  | 16 => ⟨S224, .f32⟩
  | 17 => ⟨S224, .f32⟩
  | 18 => ⟨S28, .f32⟩
  | 19 => ⟨S1x224, .f32⟩
  | 20 => ⟨S28x1, .f32⟩
  | 21 => ⟨S28x224, .f32⟩
  | 22 => ⟨S28x224, .f32⟩
  | 23 => ⟨S28x224, .f32⟩
  | 24 => ⟨S28x224, .f32⟩
  | 25 => ⟨S_, .f32⟩
  | 26 => ⟨S28x224, .f32⟩
  | 27 => ⟨S28x224, .f32⟩
  | 28 => ⟨S28x224, .f32⟩
  | 29 => ⟨S_, .f32⟩
  | 30 => ⟨S28x224, .f32⟩
  | 31 => ⟨S28x224, .f32⟩
  | 32 => ⟨S_, .f32⟩
  | 33 => ⟨S28x224, .f32⟩
  | 34 => ⟨S28x224, .f32⟩
  | 35 => ⟨S_, .f32⟩
  | 36 => ⟨S224, .f32⟩
  | 37 => ⟨S1x224, .f32⟩
  | 38 => ⟨S1x224, .f32⟩
  | 39 => ⟨S_, .f32⟩
  | 40 => ⟨S1x224, .f32⟩
  | 41 => ⟨S1x224, .i1⟩
  | 42 => ⟨S_, .f32⟩
  | 43 => ⟨S1x224, .f32⟩
  | 44 => ⟨S1x224, .i1⟩
  | 45 => ⟨S_, .i32⟩
  | 46 => ⟨S_, .f32⟩
  | 47 => ⟨S1x224, .f32⟩
  | 48 => ⟨S1x224, .f32⟩
  | 49 => ⟨S28x224, .f32⟩
  | 50 => ⟨S28x224, .f32⟩
  | 51 => ⟨S_, .i32⟩
  | 52 => ⟨S_, .f32⟩
  | 53 => ⟨S28x224, .i1⟩
  | 54 => ⟨S28x224, .f32⟩
  | 55 => ⟨S28x224, .f32⟩
  | 56 => ⟨S_, .f32⟩
  | 57 => ⟨S224, .f32⟩
  | 58 => ⟨S224, .i1⟩
  | 59 => ⟨S_, .f32⟩
  | 60 => ⟨S224, .f32⟩
  | 61 => ⟨S224, .i1⟩
  | 62 => ⟨S224, .i1⟩
  | 63 => ⟨S1x224, .i1⟩
  | 64 => ⟨S_, .i32⟩
  | 65 => ⟨S_, .f32⟩
  | 66 => ⟨S28x224, .i1⟩
  | 67 => ⟨S28x224, .f32⟩
  | 68 => ⟨S28x224, .f32⟩
  | 69 => ⟨S_, .f32⟩
  | 70 => ⟨S_, .f32⟩
  | 71 => ⟨S_, .f32⟩
  | 72 => ⟨S224, .f32⟩
  | 73 => ⟨S_, .f32⟩
  | 74 => ⟨S224, .f32⟩
  | 75 => ⟨S224, .f32⟩
  | 76 => ⟨S_, .f32⟩
  | 77 => ⟨S224, .f32⟩
  | 78 => ⟨S224, .f32⟩
  | 79 => ⟨S_, .f32⟩
  | 80 => ⟨S224, .f32⟩
  | 81 => ⟨S224, .f32⟩
  | 82 => ⟨S_, .f32⟩
  | 83 => ⟨S224, .f32⟩
  | 84 => ⟨S224, .f32⟩
  | 85 => ⟨S28, .f32⟩
  | 86 => ⟨S1x224, .f32⟩
  | 87 => ⟨S28x1, .f32⟩
  | 88 => ⟨S28x224, .f32⟩
  | 89 => ⟨S28x224, .f32⟩
  | 90 => ⟨S28x224, .f32⟩
  | 91 => ⟨S28x224, .f32⟩
  | 92 => ⟨S_, .f32⟩
  | 93 => ⟨S28x224, .f32⟩
  | 94 => ⟨S28x224, .f32⟩
  | 95 => ⟨S28x224, .f32⟩
  | 96 => ⟨S_, .f32⟩
  | 97 => ⟨S28x224, .f32⟩
  | 98 => ⟨S28x224, .f32⟩
  | 99 => ⟨S_, .f32⟩
  | 100 => ⟨S28x224, .f32⟩
  | 101 => ⟨S28x224, .f32⟩
  | 102 => ⟨S_, .f32⟩
  | 103 => ⟨S224, .f32⟩
  | 104 => ⟨S1x224, .f32⟩
  | 105 => ⟨S1x224, .f32⟩
  | 106 => ⟨S_, .f32⟩
  | 107 => ⟨S1x224, .f32⟩
  | 108 => ⟨S1x224, .i1⟩
  | 109 => ⟨S_, .f32⟩
  | 110 => ⟨S1x224, .f32⟩
  | 111 => ⟨S1x224, .i1⟩
  | 112 => ⟨S_, .i32⟩
  | 113 => ⟨S_, .f32⟩
  | 114 => ⟨S1x224, .f32⟩
  | 115 => ⟨S1x224, .f32⟩
  | 116 => ⟨S28x224, .f32⟩
  | 117 => ⟨S28x224, .f32⟩
  | 118 => ⟨S_, .i32⟩
  | 119 => ⟨S_, .f32⟩
  | 120 => ⟨S28x224, .i1⟩
  | 121 => ⟨S28x224, .f32⟩
  | 122 => ⟨S28x224, .f32⟩
  | 123 => ⟨S_, .f32⟩
  | 124 => ⟨S224, .f32⟩
  | 125 => ⟨S224, .i1⟩
  | 126 => ⟨S_, .f32⟩
  | 127 => ⟨S224, .f32⟩
  | _ => ⟨S784x1536, .f32⟩

abbrev hbmTy0_2 (i : Nat) : BufTy := match i % 128 with
  | 0 => ⟨S224, .i1⟩
  | 1 => ⟨S224, .i1⟩
  | 2 => ⟨S1x224, .i1⟩
  | 3 => ⟨S_, .i32⟩
  | 4 => ⟨S_, .f32⟩
  | 5 => ⟨S28x224, .i1⟩
  | 6 => ⟨S28x224, .f32⟩
  | 7 => ⟨S28x224, .f32⟩
  | 8 => ⟨S224x1x1x28, .f32⟩
  | 9 => ⟨S224x1x1x224, .f32⟩
  | 10 => ⟨S1x1x224x224, .f32⟩
  | _ => ⟨S784x1536, .f32⟩

abbrev hbmTy (i : Nat) : BufTy := match i / 128 with
  | 0 => hbmTy0_0 i
  | 1 => hbmTy0_1 i
  | 2 => hbmTy0_2 i
  | _ => ⟨S784x1536, .f32⟩

abbrev bufTy : (tb : Table) → Fin (tcTables nBuf tb) → BufTy
  | .hbm, ⟨i, _⟩ => hbmTy i
  | _, _ => ⟨S784x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v18 : Ref sig .tc := ⟨.hbm, 29, rfl⟩
abbrev main_call1_v0 : Ref sig .tc := ⟨.hbm, 30, rfl⟩
abbrev main_call1_cst : Ref sig .tc := ⟨.hbm, 31, rfl⟩
abbrev main_call1_c : Ref sig .tc := ⟨.hbm, 32, rfl⟩
abbrev main_call1_v1_0 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_c_7 : Ref sig .tc := ⟨.hbm, 43, rfl⟩
abbrev main_v24 : Ref sig .tc := ⟨.hbm, 44, rfl⟩
abbrev main_c_8 : Ref sig .tc := ⟨.hbm, 45, rfl⟩
abbrev main_c_9 : Ref sig .tc := ⟨.hbm, 46, rfl⟩
abbrev main_v25 : Ref sig .tc := ⟨.hbm, 47, rfl⟩
abbrev main_c_10 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_11 : Ref sig .tc := ⟨.hbm, 53, rfl⟩
abbrev main_v30 : Ref sig .tc := ⟨.hbm, 54, rfl⟩
abbrev main_c_12 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_13 : Ref sig .tc := ⟨.hbm, 60, rfl⟩
abbrev main_v35 : Ref sig .tc := ⟨.hbm, 61, rfl⟩
abbrev main_c_14 : Ref sig .tc := ⟨.hbm, 62, rfl⟩
abbrev main_v36 : Ref sig .tc := ⟨.hbm, 63, rfl⟩
abbrev main_v37 : Ref sig .tc := ⟨.hbm, 64, rfl⟩
abbrev main_c_15 : Ref sig .tc := ⟨.hbm, 65, rfl⟩
abbrev main_c_16 : Ref sig .tc := ⟨.hbm, 66, rfl⟩
abbrev main_v38 : Ref sig .tc := ⟨.hbm, 67, rfl⟩
abbrev main_c_17 : Ref sig .tc := ⟨.hbm, 68, rfl⟩
abbrev main_c_18 : Ref sig .tc := ⟨.hbm, 69, rfl⟩
abbrev main_v39 : Ref sig .tc := ⟨.hbm, 70, rfl⟩
abbrev main_c_19 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_20 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_21 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_22 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_23 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_values : Ref sig .tc := ⟨.hbm, 97, rfl⟩
abbrev main_indices : Ref sig .tc := ⟨.hbm, 98, rfl⟩
abbrev main_v61 : Ref sig .tc := ⟨.hbm, 99, rfl⟩
abbrev main_v62 : Ref sig .tc := ⟨.hbm, 100, rfl⟩
abbrev main_c_24 : Ref sig .tc := ⟨.hbm, 101, rfl⟩
abbrev main_v63 : Ref sig .tc := ⟨.hbm, 102, rfl⟩
abbrev main_v64 : Ref sig .tc := ⟨.hbm, 103, rfl⟩
abbrev main_c_25 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_call2_v0 : Ref sig .tc := ⟨.hbm, 112, rfl⟩
abbrev main_call2_cst : Ref sig .tc := ⟨.hbm, 113, rfl⟩
abbrev main_call2_v1 : Ref sig .tc := ⟨.hbm, 114, rfl⟩
abbrev main_v72 : Ref sig .tc := ⟨.hbm, 115, rfl⟩
abbrev main_cst_26 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_27 : Ref sig .tc := ⟨.hbm, 123, rfl⟩
abbrev main_v79 : Ref sig .tc := ⟨.hbm, 124, rfl⟩
abbrev main_v80 : Ref sig .tc := ⟨.hbm, 125, rfl⟩
abbrev main_cst_28 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_call3_cst : Ref sig .tc := ⟨.hbm, 130, rfl⟩
abbrev main_call3_cst_0 : Ref sig .tc := ⟨.hbm, 131, rfl⟩
abbrev main_call3_v0 : Ref sig .tc := ⟨.hbm, 132, rfl⟩
abbrev main_call3_v1 : Ref sig .tc := ⟨.hbm, 133, rfl⟩
abbrev main_call3_cst_1 : Ref sig .tc := ⟨.hbm, 134, rfl⟩
abbrev main_call3_v2 : Ref sig .tc := ⟨.hbm, 135, rfl⟩
abbrev main_call3_v3 : Ref sig .tc := ⟨.hbm, 136, rfl⟩
abbrev main_call3_cst_2 : Ref sig .tc := ⟨.hbm, 137, rfl⟩
abbrev main_call3_v4 : Ref sig .tc := ⟨.hbm, 138, rfl⟩
abbrev main_call3_v5 : Ref sig .tc := ⟨.hbm, 139, rfl⟩
abbrev main_call3_cst_3 : Ref sig .tc := ⟨.hbm, 140, rfl⟩
abbrev main_call3_v6 : Ref sig .tc := ⟨.hbm, 141, rfl⟩
abbrev main_call3_v7 : Ref sig .tc := ⟨.hbm, 142, rfl⟩
abbrev main_call3_cst_4 : Ref sig .tc := ⟨.hbm, 143, rfl⟩
abbrev main_call3_v8 : Ref sig .tc := ⟨.hbm, 144, rfl⟩
abbrev main_call3_v9 : Ref sig .tc := ⟨.hbm, 145, rfl⟩
abbrev main_call3_v10 : Ref sig .tc := ⟨.hbm, 146, rfl⟩
abbrev main_call3_v11 : Ref sig .tc := ⟨.hbm, 147, rfl⟩
abbrev main_call3_v12 : Ref sig .tc := ⟨.hbm, 148, rfl⟩
abbrev main_call3_v13 : Ref sig .tc := ⟨.hbm, 149, rfl⟩
abbrev main_call3_v14 : Ref sig .tc := ⟨.hbm, 150, rfl⟩
abbrev main_call3_v15 : Ref sig .tc := ⟨.hbm, 151, rfl⟩
abbrev main_call3_v16 : Ref sig .tc := ⟨.hbm, 152, rfl⟩
abbrev main_call3_v17 : Ref sig .tc := ⟨.hbm, 153, rfl⟩
abbrev main_call3_v18 : Ref sig .tc := ⟨.hbm, 154, rfl⟩
abbrev main_call3_v19 : Ref sig .tc := ⟨.hbm, 155, rfl⟩
abbrev main_call3_v20 : Ref sig .tc := ⟨.hbm, 156, rfl⟩
abbrev main_call3_cst_5 : Ref sig .tc := ⟨.hbm, 157, rfl⟩
abbrev main_call3_v21 : Ref sig .tc := ⟨.hbm, 158, rfl⟩
abbrev main_call3_v22 : Ref sig .tc := ⟨.hbm, 159, rfl⟩
abbrev main_call3_cst_6 : Ref sig .tc := ⟨.hbm, 160, rfl⟩
abbrev main_call3_v23 : Ref sig .tc := ⟨.hbm, 161, rfl⟩
abbrev main_call3_v24 : Ref sig .tc := ⟨.hbm, 162, rfl⟩
abbrev main_call3_cst_7 : Ref sig .tc := ⟨.hbm, 163, rfl⟩
abbrev main_call3_v25 : Ref sig .tc := ⟨.hbm, 164, rfl⟩
abbrev main_call3_v26 : Ref sig .tc := ⟨.hbm, 165, rfl⟩
abbrev main_call3_v27 : Ref sig .tc := ⟨.hbm, 166, rfl⟩
abbrev main_call3_cst_8 : Ref sig .tc := ⟨.hbm, 167, rfl⟩
abbrev main_call3_v28 : Ref sig .tc := ⟨.hbm, 168, rfl⟩
abbrev main_call3_v29 : Ref sig .tc := ⟨.hbm, 169, rfl⟩
abbrev main_call3_cst_9 : Ref sig .tc := ⟨.hbm, 170, rfl⟩
abbrev main_call3_v30 : Ref sig .tc := ⟨.hbm, 171, rfl⟩
abbrev main_call3_v31 : Ref sig .tc := ⟨.hbm, 172, rfl⟩
abbrev main_call3_c : Ref sig .tc := ⟨.hbm, 173, rfl⟩
abbrev main_call3_call0_v0 : Ref sig .tc := ⟨.hbm, 174, rfl⟩
abbrev main_call3_call0_v1 : Ref sig .tc := ⟨.hbm, 175, rfl⟩
abbrev main_call3_v32 : Ref sig .tc := ⟨.hbm, 176, rfl⟩
abbrev main_call3_v33 : Ref sig .tc := ⟨.hbm, 177, rfl⟩
abbrev main_call3_v34 : Ref sig .tc := ⟨.hbm, 178, rfl⟩
abbrev main_call3_c_10 : Ref sig .tc := ⟨.hbm, 179, rfl⟩
abbrev main_call3_call1_v0 : Ref sig .tc := ⟨.hbm, 180, rfl⟩
abbrev main_call3_call1_v1 : Ref sig .tc := ⟨.hbm, 181, rfl⟩
abbrev main_call3_call1_v2 : Ref sig .tc := ⟨.hbm, 182, rfl⟩
abbrev main_call3_v35 : Ref sig .tc := ⟨.hbm, 183, rfl⟩
abbrev main_call3_cst_11 : Ref sig .tc := ⟨.hbm, 184, rfl⟩
abbrev main_call3_v36 : Ref sig .tc := ⟨.hbm, 185, rfl⟩
abbrev main_call3_v37 : Ref sig .tc := ⟨.hbm, 186, rfl⟩
abbrev main_call3_cst_12 : Ref sig .tc := ⟨.hbm, 187, rfl⟩
abbrev main_call3_v38 : Ref sig .tc := ⟨.hbm, 188, rfl⟩
abbrev main_call3_v39 : Ref sig .tc := ⟨.hbm, 189, rfl⟩
abbrev main_call3_v40 : Ref sig .tc := ⟨.hbm, 190, rfl⟩
abbrev main_call3_v41 : Ref sig .tc := ⟨.hbm, 191, rfl⟩
abbrev main_call3_c_13 : Ref sig .tc := ⟨.hbm, 192, rfl⟩
abbrev main_call3_call2_v0 : Ref sig .tc := ⟨.hbm, 193, rfl⟩
abbrev main_call3_call2_v1 : Ref sig .tc := ⟨.hbm, 194, rfl⟩
abbrev main_call3_call2_v2 : Ref sig .tc := ⟨.hbm, 195, rfl⟩
abbrev main_call3_v42 : Ref sig .tc := ⟨.hbm, 196, rfl⟩
abbrev main_call3_cst_14 : Ref sig .tc := ⟨.hbm, 197, rfl⟩
abbrev main_call3_cst_15 : Ref sig .tc := ⟨.hbm, 198, rfl⟩
abbrev main_call3_v43 : Ref sig .tc := ⟨.hbm, 199, rfl⟩
abbrev main_call3_v44 : Ref sig .tc := ⟨.hbm, 200, rfl⟩
abbrev main_call3_cst_16 : Ref sig .tc := ⟨.hbm, 201, rfl⟩
abbrev main_call3_v45 : Ref sig .tc := ⟨.hbm, 202, rfl⟩
abbrev main_call3_v46 : Ref sig .tc := ⟨.hbm, 203, rfl⟩
abbrev main_call3_cst_17 : Ref sig .tc := ⟨.hbm, 204, rfl⟩
abbrev main_call3_v47 : Ref sig .tc := ⟨.hbm, 205, rfl⟩
abbrev main_call3_v48 : Ref sig .tc := ⟨.hbm, 206, rfl⟩
abbrev main_call3_cst_18 : Ref sig .tc := ⟨.hbm, 207, rfl⟩
abbrev main_call3_v49 : Ref sig .tc := ⟨.hbm, 208, rfl⟩
abbrev main_call3_v50 : Ref sig .tc := ⟨.hbm, 209, rfl⟩
abbrev main_call3_cst_19 : Ref sig .tc := ⟨.hbm, 210, rfl⟩
abbrev main_call3_v51 : Ref sig .tc := ⟨.hbm, 211, rfl⟩
abbrev main_call3_v52 : Ref sig .tc := ⟨.hbm, 212, rfl⟩
abbrev main_call3_v53 : Ref sig .tc := ⟨.hbm, 213, rfl⟩
abbrev main_call3_v54 : Ref sig .tc := ⟨.hbm, 214, rfl⟩
abbrev main_call3_v55 : Ref sig .tc := ⟨.hbm, 215, rfl⟩
abbrev main_call3_v56 : Ref sig .tc := ⟨.hbm, 216, rfl⟩
abbrev main_call3_v57 : Ref sig .tc := ⟨.hbm, 217, rfl⟩
abbrev main_call3_v58 : Ref sig .tc := ⟨.hbm, 218, rfl⟩
abbrev main_call3_v59 : Ref sig .tc := ⟨.hbm, 219, rfl⟩
abbrev main_call3_v60 : Ref sig .tc := ⟨.hbm, 220, rfl⟩
abbrev main_call3_v61 : Ref sig .tc := ⟨.hbm, 221, rfl⟩
abbrev main_call3_v62 : Ref sig .tc := ⟨.hbm, 222, rfl⟩
abbrev main_call3_v63 : Ref sig .tc := ⟨.hbm, 223, rfl⟩
abbrev main_call3_cst_20 : Ref sig .tc := ⟨.hbm, 224, rfl⟩
abbrev main_call3_v64 : Ref sig .tc := ⟨.hbm, 225, rfl⟩
abbrev main_call3_v65 : Ref sig .tc := ⟨.hbm, 226, rfl⟩
abbrev main_call3_cst_21 : Ref sig .tc := ⟨.hbm, 227, rfl⟩
abbrev main_call3_v66 : Ref sig .tc := ⟨.hbm, 228, rfl⟩
abbrev main_call3_v67 : Ref sig .tc := ⟨.hbm, 229, rfl⟩
abbrev main_call3_cst_22 : Ref sig .tc := ⟨.hbm, 230, rfl⟩
abbrev main_call3_v68 : Ref sig .tc := ⟨.hbm, 231, rfl⟩
abbrev main_call3_v69 : Ref sig .tc := ⟨.hbm, 232, rfl⟩
abbrev main_call3_v70 : Ref sig .tc := ⟨.hbm, 233, rfl⟩
abbrev main_call3_cst_23 : Ref sig .tc := ⟨.hbm, 234, rfl⟩
abbrev main_call3_v71 : Ref sig .tc := ⟨.hbm, 235, rfl⟩
abbrev main_call3_v72 : Ref sig .tc := ⟨.hbm, 236, rfl⟩
abbrev main_call3_cst_24 : Ref sig .tc := ⟨.hbm, 237, rfl⟩
abbrev main_call3_v73 : Ref sig .tc := ⟨.hbm, 238, rfl⟩
abbrev main_call3_v74 : Ref sig .tc := ⟨.hbm, 239, rfl⟩
abbrev main_call3_c_25 : Ref sig .tc := ⟨.hbm, 240, rfl⟩
abbrev main_call3_call3_v0 : Ref sig .tc := ⟨.hbm, 241, rfl⟩
abbrev main_call3_call3_v1 : Ref sig .tc := ⟨.hbm, 242, rfl⟩
abbrev main_call3_v75 : Ref sig .tc := ⟨.hbm, 243, rfl⟩
abbrev main_call3_v76 : Ref sig .tc := ⟨.hbm, 244, rfl⟩
abbrev main_call3_v77 : Ref sig .tc := ⟨.hbm, 245, rfl⟩
abbrev main_call3_c_26 : Ref sig .tc := ⟨.hbm, 246, rfl⟩
abbrev main_call3_call4_v0 : Ref sig .tc := ⟨.hbm, 247, rfl⟩
abbrev main_call3_call4_v1 : Ref sig .tc := ⟨.hbm, 248, rfl⟩
abbrev main_call3_call4_v2 : Ref sig .tc := ⟨.hbm, 249, rfl⟩
abbrev main_call3_v78 : Ref sig .tc := ⟨.hbm, 250, rfl⟩
abbrev main_call3_cst_27 : Ref sig .tc := ⟨.hbm, 251, rfl⟩
abbrev main_call3_v79 : Ref sig .tc := ⟨.hbm, 252, rfl⟩
abbrev main_call3_v80 : Ref sig .tc := ⟨.hbm, 253, rfl⟩
abbrev main_call3_cst_28 : Ref sig .tc := ⟨.hbm, 254, rfl⟩
abbrev main_call3_v81 : Ref sig .tc := ⟨.hbm, 255, rfl⟩
abbrev main_call3_v82 : Ref sig .tc := ⟨.hbm, 256, rfl⟩
abbrev main_call3_v83 : Ref sig .tc := ⟨.hbm, 257, rfl⟩
abbrev main_call3_v84 : Ref sig .tc := ⟨.hbm, 258, rfl⟩
abbrev main_call3_c_29 : Ref sig .tc := ⟨.hbm, 259, rfl⟩
abbrev main_call3_call5_v0 : Ref sig .tc := ⟨.hbm, 260, rfl⟩
abbrev main_call3_call5_v1 : Ref sig .tc := ⟨.hbm, 261, rfl⟩
abbrev main_call3_call5_v2 : Ref sig .tc := ⟨.hbm, 262, rfl⟩
abbrev main_call3_v85 : Ref sig .tc := ⟨.hbm, 263, rfl⟩
abbrev main_call3_v86 : Ref sig .tc := ⟨.hbm, 264, rfl⟩
abbrev main_call3_v87 : Ref sig .tc := ⟨.hbm, 265, rfl⟩
abbrev main_v84 : Ref sig .tc := ⟨.hbm, 266, rfl⟩

abbrev nD : Nat := 1
abbrev τ : Topo := Topo.v7x

variable {F : FTy → Type} [FloatOps F]
-- ==== Proof.IBase.lean ====
/-
  Notions the three kernel calls share: the assertion type, the contents of the buffers when a call is entered,
  and two readings of a buffer whose whole extent was just stored or loaded.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions the kernel's proofs are written in. -/
abbrev MK (F : FTy → Type) [FloatOps F] := MT nD τ sig Unit (Elt F) ℕ (UR sig nD τ) ℕ

/-- The buffers of every core when a call is entered. -/
abbrev Entry (F : FTy → Type) [FloatOps F] := (c : Dev nD) → (b : Ref sig .tc) → Buf (Elt F) ((c : Thread nD τ).loc b)

/-- A load of a buffer's whole extent reads its contents. -/
theorem readAt_whole {sig : RefSig} {Val : EltTy → Type} {κ : Kind} {sp : Space} {S : Shape} {e : EltTy} (v : View sig κ sp S e)
    {off : Fin S.rank → Nat} (inb : ∀ a, off a + S.size a ≤ S.size a) (h : ∀ a, off a = 0) (f : v.ty.Contents Val) :
    View.readAt Val v (Rect.unit off (no_index S.size) inb).toLoadRect f = v.read Val f :=
  View.ld_unit_lit inb (v.read Val f) h

/-- A buffer whose last store was of its whole extent holds what was stored. -/
theorem read_stored {sig : RefSig} {Val : EltTy → Type} [∀ e, Nonempty (Val e)] {κ : Kind} {sp : Space} {S : Shape} {e : EltTy}
    (v : View sig κ sp S e) {off : Fin S.rank → Nat} (inb : ∀ a, off a + S.size a ≤ S.size a) (h : ∀ a, off a = 0)
    (f : v.ty.Contents Val) (w : S.Idx → Val e) (L : List (View.Piece Val S e)) :
    v.read Val (v.writes Val f ((⟨Rect.unit off (no_index S.size) inb, w⟩ : View.Piece Val S e) :: L)) = w := by
  have hcov : ∀ y : S.Idx, y ∈ (Rect.unit (s := S) off S.size inb).set := fun y => by
    rw [Rect.mem_set_unit]
    intro a
    have ha := h a
    have hy := (y a).isLt
    omega
  have h1 := View.read_writes_eq_canon v f ((⟨Rect.unit off S.size inb, w⟩ : View.Piece Val S e) :: L)
    fun y => ⟨⟨Rect.unit off S.size inb, w⟩, List.mem_cons_self, hcov y⟩
  exact h1.trans (View.canon_cons_unit_lit inb w L h)

end Cert.KernelIdeal.Own

end
-- ==== Proof.IBody0.lean ====
/-
  The first kernel call: for every patch the nearest library row. Each grid point brings one block of 1024 library rows.
  Two scratch rows carry, for every patch, the least value so far and the row it came from; the last point turns them
  into the distances, their maximum and its position. The body runs one of three ways: at the first point it starts the
  scratch rows, at the others it updates them, and at the last point it also stores the results.
-/
module

public import proofs.«01_k».proof.Proof.IBase

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body, run -/

/-- The branch taken at the first point. -/
abbrev atFirst (i : grid0.Coords) : Prop := (Scalar.cmpi .ne (Scalar.extui (Scalar.cmpi .eq (BitVec.ofNat 32 (i 0).val) 0#32)) 0#32) = 1#1
/-- The branch taken at every later point. -/
abbrev atLater (i : grid0.Coords) : Prop := (Scalar.cmpi .ne (Scalar.extui (Scalar.cmpi .sgt (BitVec.ofNat 32 (i 0).val) 0#32)) 0#32) = 1#1
/-- The branch taken at the last point. -/
abbrev atLast (i : grid0.Coords) : Prop := k0_cond3 i = 1#1

theorem atFirst_iff : ∀ t : Fin cfg0.N, atFirst (grid0.coords t) ↔ t.val = 0 :=
  (by decide +kernel : ∀ t : Fin grid0.N, atFirst (grid0.coords t) ↔ t.val = 0)
theorem atLater_iff : ∀ t : Fin cfg0.N, atLater (grid0.coords t) ↔ t.val ≠ 0 :=
  (by decide +kernel : ∀ t : Fin grid0.N, atLater (grid0.coords t) ↔ t.val ≠ 0)
theorem atLast_iff : ∀ t : Fin cfg0.N, atLast (grid0.coords t) ↔ t.val = 15 :=
  (by decide +kernel : ∀ t : Fin grid0.N, atLast (grid0.coords t) ↔ t.val = 15)

/-- A load of the whole extent, after a store of the whole extent, reads what was stored. -/
theorem readCov_whole {sig : RefSig} {Val : EltTy → Type} [∀ e, Nonempty (Val e)] {κ : Kind} {sp : Space} {S : Shape} {e : EltTy}
    (v : View sig κ sp S e) {off : Fin S.rank → Nat} (inb : ∀ a, off a + S.size a ≤ S.size a) (h : ∀ a, off a = 0) (w : S.Idx → Val e)
    (L : List (View.Piece Val S e)) :
    v.readCov ((⟨Rect.unit off (no_index S.size) inb, w⟩ : View.Piece Val S e) :: L) (Rect.unit off (no_index S.size) inb).toLoadRect = w := by
  exact View.readCov_cons_unit_lit' v inb inb w L h h

/-- The star index stored at the last point. -/
def star0 (x0 : Vec F S1536x784 .f32) (s0 : Vec F S1x784 .f32) (s1 : Vec F S1x784 .i32) : IVec S1x1 32 :=
  k0_pay10 (extractAt ![0, 0, 0] (k0_pay14 x0 s0 s1) inpos_S1x1x1_p0_0_0)

set_option maxHeartbeats 2000000 in
/-- The body at the first point: the scratch rows start at the first block. -/
theorem run0_first (c : Dev nD) (E : Set ℕ) (i : grid0.Coords) (arg1 : Memref sig .tc .vmem S1536x784 .f32) (harg1 : arg1.IsWhole) (arg2 : Memref sig .tc .vmem S1024x1536 .f32) (harg2 : arg2.IsWhole) (arg3 : Memref sig .tc .vmem S1x784 .f32) (harg3 : arg3.IsWhole) (arg4 : Memref sig .tc .vmem S1x1 .f32) (harg4 : arg4.IsWhole) (arg5 : Memref sig .tc .vmem S1x1 .i32) (harg5 : arg5.IsWhole) (arg6 : Memref sig .tc .vmem S1x1 .i32) (harg6 : arg6.IsWhole) (arg7 : Memref sig .tc .vmem S1024x1 .f32) (harg7 : arg7.IsWhole) (arg8 : Memref sig .tc .vmem S1x784 .f32) (harg8 : arg8.IsWhole) (arg9 : Memref sig .tc .vmem S1x784 .f32) (harg9 : arg9.IsWhole) (arg10 : Memref sig .tc .vmem S1x784 .i32) (harg10 : arg10.IsWhole)
    (hc0 : atFirst i) (hc1 : ¬ atLater i) (hc2 : ¬ atLast i)
    (x0 : Vec F S1536x784 .f32) (x1 : Vec F S1024x1536 .f32) (y2 : Vec F S1x784 .f32) (y3 : Vec F S1x1 .f32) (y4 y5 : Vec F S1x1 .i32) (y7 : Vec F S1x784 .f32) (K : PUnit → sProp (MK F)) :
    iprop(owns (c : Thread nD τ) arg1 fullShare x0 ∗ owns (c : Thread nD τ) arg2 fullShare x1 ∗ owns (c : Thread nD τ) arg3 fullShare y2 ∗ owns (c : Thread nD τ) arg4 fullShare y3 ∗ owns (c : Thread nD τ) arg5 fullShare y4 ∗ owns (c : Thread nD τ) arg6 fullShare y5 ∗ (∃ d, owns (c : Thread nD τ) arg7 fullShare d) ∗ owns (c : Thread nD τ) arg8 fullShare y7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare y2 ∗ owns (c : Thread nD τ) arg4 fullShare y3 ∗ owns (c : Thread nD τ) arg5 fullShare y4 ∗ owns (c : Thread nD τ) arg6 fullShare y5 ∗ owns (c : Thread nD τ) arg7 fullShare (k0_pay1 x1) ∗ owns (c : Thread nD τ) arg8 fullShare y7 ∗ owns (c : Thread nD τ) arg9 fullShare (k0_pay5 x1 x0) ∗ owns (c : Thread nD τ) arg10 fullShare (k0_pay6 i x1 x0)) -∗ K ⟨⟩))
      ⊢ wp frame (wpE (defs₀ (F := F)) Variants.none c none) E (cc0__phase1_body i arg1 harg1 arg2 harg2 arg3 harg3 arg4 harg4 arg5 harg5 arg6 harg6 arg7 harg7 arg8 harg8 arg9 harg9 arg10 harg10) K := by
  simp only [cc0__phase1_body_eq_skeleton]; unfold cc0__phase1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
  subst hf0 hf1 hf2 hf3 hf4 hf5 hf7
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [read_stored _ _ (by decide)]
    rw [readAt_whole _ _ (by decide)]
  isplitl [H7]
  · iexists f7; isplitr; · ipureintro; rfl
    iexact H7
  isplitl [H8]
  · iexists _; isplitr
    swap; · iexact H8
    ipureintro
    rw [read_stored _ _ (by decide)]
    rw [readAt_whole _ _ (by decide), readAt_whole _ _ (by decide)]
  iexists _; isplitr
  swap; · iexact H9
  ipureintro
  rw [read_stored _ _ (by decide)]
  rw [readAt_whole _ _ (by decide), readAt_whole _ _ (by decide)]

set_option maxHeartbeats 2000000 in
/-- The body at a point between: the scratch rows are updated. -/
theorem run0_later (c : Dev nD) (E : Set ℕ) (i : grid0.Coords) (arg1 : Memref sig .tc .vmem S1536x784 .f32) (harg1 : arg1.IsWhole) (arg2 : Memref sig .tc .vmem S1024x1536 .f32) (harg2 : arg2.IsWhole) (arg3 : Memref sig .tc .vmem S1x784 .f32) (harg3 : arg3.IsWhole) (arg4 : Memref sig .tc .vmem S1x1 .f32) (harg4 : arg4.IsWhole) (arg5 : Memref sig .tc .vmem S1x1 .i32) (harg5 : arg5.IsWhole) (arg6 : Memref sig .tc .vmem S1x1 .i32) (harg6 : arg6.IsWhole) (arg7 : Memref sig .tc .vmem S1024x1 .f32) (harg7 : arg7.IsWhole) (arg8 : Memref sig .tc .vmem S1x784 .f32) (harg8 : arg8.IsWhole) (arg9 : Memref sig .tc .vmem S1x784 .f32) (harg9 : arg9.IsWhole) (arg10 : Memref sig .tc .vmem S1x784 .i32) (harg10 : arg10.IsWhole)
    (hc0 : ¬ atFirst i) (hc1 : atLater i) (hc2 : ¬ atLast i)
    (x0 : Vec F S1536x784 .f32) (x1 : Vec F S1024x1536 .f32) (s0 : Vec F S1x784 .f32) (s1 : Vec F S1x784 .i32) (y2 : Vec F S1x784 .f32) (y3 : Vec F S1x1 .f32) (y4 y5 : Vec F S1x1 .i32) (y7 : Vec F S1x784 .f32) (K : PUnit → sProp (MK F)) :
    iprop(owns (c : Thread nD τ) arg1 fullShare x0 ∗ owns (c : Thread nD τ) arg2 fullShare x1 ∗ owns (c : Thread nD τ) arg3 fullShare y2 ∗ owns (c : Thread nD τ) arg4 fullShare y3 ∗ owns (c : Thread nD τ) arg5 fullShare y4 ∗ owns (c : Thread nD τ) arg6 fullShare y5 ∗ (∃ d, owns (c : Thread nD τ) arg7 fullShare d) ∗ owns (c : Thread nD τ) arg8 fullShare y7 ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare y2 ∗ owns (c : Thread nD τ) arg4 fullShare y3 ∗ owns (c : Thread nD τ) arg5 fullShare y4 ∗ owns (c : Thread nD τ) arg6 fullShare y5 ∗ owns (c : Thread nD τ) arg7 fullShare (k0_pay1 x1) ∗ owns (c : Thread nD τ) arg8 fullShare y7 ∗ owns (c : Thread nD τ) arg9 fullShare (k0_pay8 x1 x0 s0) ∗ owns (c : Thread nD τ) arg10 fullShare (k0_pay9 i x1 x0 s0 s1)) -∗ K ⟨⟩))
      ⊢ wp frame (wpE (defs₀ (F := F)) Variants.none c none) E (cc0__phase1_body i arg1 harg1 arg2 harg2 arg3 harg3 arg4 harg4 arg5 harg5 arg6 harg6 arg7 harg7 arg8 harg8 arg9 harg9 arg10 harg10) K := by
  simp only [cc0__phase1_body_eq_skeleton]; unfold cc0__phase1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf0 hf1 hf2 hf3 hf4 hf5 hf7 hf8 hf9
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [read_stored _ _ (by decide)]
    rw [readAt_whole _ _ (by decide)]
  isplitl [H7]
  · iexists f7; isplitr; · ipureintro; rfl
    iexact H7
  isplitl [H8]
  · iexists _; isplitr
    swap; · iexact H8
    ipureintro
    rw [read_stored _ _ (by decide)]
    rw [readAt_whole _ _ (by decide), readAt_whole _ _ (by decide), readAt_whole _ _ (by decide)]
  iexists _; isplitr
  swap; · iexact H9
  ipureintro
  rw [read_stored _ _ (by decide)]
  rw [readAt_whole _ _ (by decide), readAt_whole _ _ (by decide), readAt_whole _ _ (by decide), readAt_whole _ _ (by decide)]

set_option maxHeartbeats 2000000 in
/-- The body at the last point: the scratch rows are updated and the results stored from them. -/
theorem run0_last (c : Dev nD) (E : Set ℕ) (i : grid0.Coords) (arg1 : Memref sig .tc .vmem S1536x784 .f32) (harg1 : arg1.IsWhole) (arg2 : Memref sig .tc .vmem S1024x1536 .f32) (harg2 : arg2.IsWhole) (arg3 : Memref sig .tc .vmem S1x784 .f32) (harg3 : arg3.IsWhole) (arg4 : Memref sig .tc .vmem S1x1 .f32) (harg4 : arg4.IsWhole) (arg5 : Memref sig .tc .vmem S1x1 .i32) (harg5 : arg5.IsWhole) (arg6 : Memref sig .tc .vmem S1x1 .i32) (harg6 : arg6.IsWhole) (arg7 : Memref sig .tc .vmem S1024x1 .f32) (harg7 : arg7.IsWhole) (arg8 : Memref sig .tc .vmem S1x784 .f32) (harg8 : arg8.IsWhole) (arg9 : Memref sig .tc .vmem S1x784 .f32) (harg9 : arg9.IsWhole) (arg10 : Memref sig .tc .vmem S1x784 .i32) (harg10 : arg10.IsWhole)
    (hc0 : ¬ atFirst i) (hc1 : atLater i) (hc2 : atLast i)
    (x0 : Vec F S1536x784 .f32) (x1 : Vec F S1024x1536 .f32) (s0 : Vec F S1x784 .f32) (s1 : Vec F S1x784 .i32) (K : PUnit → sProp (MK F)) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare (k0_pay12 x0 (k0_pay8 x1 x0 s0)) ∗ owns (c : Thread nD τ) arg4 fullShare (k0_pay15 x0 (k0_pay8 x1 x0 s0)) ∗ owns (c : Thread nD τ) arg5 fullShare (star0 x0 (k0_pay8 x1 x0 s0) (k0_pay9 i x1 x0 s0 s1)) ∗ owns (c : Thread nD τ) arg6 fullShare (k0_pay16 x0 (k0_pay8 x1 x0 s0)) ∗ owns (c : Thread nD τ) arg7 fullShare (k0_pay1 x1) ∗ owns (c : Thread nD τ) arg8 fullShare (k0_pay11 x0) ∗ owns (c : Thread nD τ) arg9 fullShare (k0_pay8 x1 x0 s0) ∗ owns (c : Thread nD τ) arg10 fullShare (k0_pay9 i x1 x0 s0 s1)) -∗ K ⟨⟩))
      ⊢ wp frame (wpE (defs₀ (F := F)) Variants.none c none) E (cc0__phase1_body i arg1 harg1 arg2 harg2 arg3 harg3 arg4 harg4 arg5 harg5 arg6 harg6 arg7 harg7 arg8 harg8 arg9 harg9 arg10 harg10) K := by
  simp only [cc0__phase1_body_eq_skeleton]; unfold cc0__phase1_body_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%f8, %hf8, H8⟩, ⟨%f9, %hf9, H9⟩, Hk⟩
  subst hf0 hf1 hf8 hf9
  sl_exec (disch := first | sl_exact hc0 | sl_exact hc1 | sl_exact hc2)
  sl_step
  have h34 : run0_last.sl.v34 c arg1 arg2 arg9 f0 f1 f8 = k0_pay8 (arg2.view.read (Elt F) f1) (arg1.view.read (Elt F) f0) (arg9.view.read (Elt F) f8) := by
    unfold run0_last.sl.v34 run0_last.sl.H8_1
    rw [readCov_whole (S := S1x784) (off := ![0, 0]) _ inb_S1x784_S1x784_0_0 (by decide), readAt_whole _ _ (by decide), readAt_whole _ _ (by decide), readAt_whole _ _ (by decide)]
  have h55 : run0_last.sl.v55 c i arg1 arg2 arg9 arg10 f0 f1 f8 f9
      = k0_pay9 i (arg2.view.read (Elt F) f1) (arg1.view.read (Elt F) f0) (arg9.view.read (Elt F) f8) (arg10.view.read (Elt F) f9) := by
    unfold run0_last.sl.v55
    unfold run0_last.sl.H9_1
    rw [readCov_whole (S := S1x784) (off := ![0, 0]) _ inb_S1x784_S1x784_0_0 (by decide), readAt_whole _ _ (by decide), readAt_whole _ _ (by decide), readAt_whole _ _ (by decide), readAt_whole _ _ (by decide)]
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_stored _ _ (by decide)]
    rw [h34, readAt_whole _ _ (by decide)]
  isplitl [H3]
  · iexists _; isplitr
    swap; · iexact H3
    ipureintro
    rw [read_stored _ _ (by decide)]
    rw [h34, readAt_whole _ _ (by decide)]
  isplitl [H4]
  · iexists _; isplitr
    swap; · iexact H4
    ipureintro
    rw [read_stored _ _ (by decide)]
    unfold run0_last.sl.v61 star0
    rw [h34, h55, readAt_whole _ _ (by decide)]
  isplitl [H5]
  · iexists _; isplitr
    swap; · iexact H5
    ipureintro
    rw [read_stored _ _ (by decide)]
    unfold run0_last.sl.r
    rw [h34, readAt_whole _ _ (by decide)]
  isplitl [H6]
  · iexists _; isplitr
    swap; · iexact H6
    ipureintro
    rw [read_stored _ _ (by decide)]
    rw [readAt_whole _ _ (by decide)]
  isplitl [H7]
  · iexists _; isplitr
    swap; · iexact H7
    ipureintro
    rw [read_stored _ _ (by decide)]
    rw [readAt_whole _ _ (by decide)]
  isplitl [H8]
  · iexists _; isplitr
    swap; · iexact H8
    ipureintro
    unfold run0_last.sl.H8_1
    rw [read_stored _ _ (by decide)]; rw [readAt_whole _ _ (by decide), readAt_whole _ _ (by decide), readAt_whole _ _ (by decide)]
  iexists _; isplitr
  swap; · iexact H9
  ipureintro
  unfold run0_last.sl.H9_1
  rw [read_stored _ _ (by decide)]; rw [readAt_whole _ _ (by decide), readAt_whole _ _ (by decide), readAt_whole _ _ (by decide), readAt_whole _ _ (by decide)]

end Cert.KernelIdeal.Own

end
-- ==== Proof.IRegion0.lean ====
/-
  What the first kernel call holds from point to point: the two scratch rows are the fold of the blocks seen so far, and
  the results are stored from them at the last point.
-/
module

public import proofs.«01_k».proof.Proof.IBody0

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : Entry F)

/-- The block of window `w` at point `t`, read off the array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch rows after point `n`: the least value of every patch over the blocks up to it, and the row it came from. -/
def acc0 (c : Dev nD) : (n : ℕ) → n < cfg0.N → Vec F S1x784 .f32 × Vec F S1x784 .i32
  | 0, h => (k0_pay5 (blk0 V c 1 ⟨0, h⟩) (blk0 V c 0 ⟨0, h⟩), k0_pay6 (grid0.coords ⟨0, h⟩) (blk0 V c 1 ⟨0, h⟩) (blk0 V c 0 ⟨0, h⟩))
  | n + 1, h =>
    let p := acc0 c n (Nat.lt_of_succ_lt h)
    (k0_pay8 (blk0 V c 1 ⟨n + 1, h⟩) (blk0 V c 0 ⟨n + 1, h⟩) p.1,
      k0_pay9 (grid0.coords ⟨n + 1, h⟩) (blk0 V c 1 ⟨n + 1, h⟩) (blk0 V c 0 ⟨n + 1, h⟩) p.1 p.2)

theorem acc0_first (c : Dev nD) (t : Fin cfg0.N) (h : t.val = 0) :
    acc0 V c t.val t.isLt = (k0_pay5 (blk0 V c 1 t) (blk0 V c 0 t), k0_pay6 (grid0.coords t) (blk0 V c 1 t) (blk0 V c 0 t)) := by
  obtain ⟨n, hn⟩ := t
  obtain rfl : n = 0 := h
  rfl

theorem acc0_next (c : Dev nD) (t : Fin cfg0.N) (h : t.val ≠ 0) (h' : t.val - 1 < cfg0.N) :
    acc0 V c t.val t.isLt = (k0_pay8 (blk0 V c 1 t) (blk0 V c 0 t) (acc0 V c (t.val - 1) h').1,
      k0_pay9 (grid0.coords t) (blk0 V c 1 t) (blk0 V c 0 t) (acc0 V c (t.val - 1) h').1 (acc0 V c (t.val - 1) h').2) := by
  obtain ⟨n, hn⟩ := t
  cases n with
  | zero => exact absurd rfl h
  | succ n => rfl

/-- The scratch rows as memrefs. -/
abbrev scrA : Memref sig .tc .vmem S1x784 .f32 := Memref.whole cc0_scratch0
abbrev scrB : Memref sig .tc .vmem S1x784 .i32 := Memref.whole cc0_scratch1

/-- The other calls' staging buffers, each at anything: this call leaves them alone. -/
def others0 (c : Dev nD) : sProp (MK F) :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg8_0), ((c : Thread nD τ).loc cc2_stg8_0) ↦{fullShare} f) ∗ (∃ f : Buf (Elt F) ((c : Thread nD τ).loc cc2_stg9_0), ((c : Thread nD τ).loc cc2_stg9_0) ↦{fullShare} f))

theorem rest0_eq (c : Dev nD) :
    (Pipeline.ΦA spec0 c : sProp (MK F))
      = iprop(iprop((∃ d, owns (c : Thread nD τ) scrA fullShare d) ∗ (∃ d, owns (c : Thread nD τ) scrB fullShare d) ∗ others0 c) ∗ (∃ r, prngReg c r)) := by
  unfold Pipeline.ΦA others0; rw [scopedRest0_eq]; simp only [scrA, scrB, owns_whole]; try rfl

/-- Before point `n`: the scratch rows at what the points so far left, at anything before the first. -/
def Phi0 (c : Dev nD) : (n : ℕ) → n ≤ cfg0.N → sProp (MK F)
  | 0, _ => Pipeline.ΦA spec0 c
  | n + 1, h => iprop(iprop(owns (c : Thread nD τ) scrA fullShare (acc0 V c n h).1 ∗ owns (c : Thread nD τ) scrB fullShare (acc0 V c n h).2 ∗ others0 c)
      ∗ (∃ r, prngReg c r))

theorem Phi0_first (c : Dev nD) (n : ℕ) (h : n ≤ cfg0.N) (hz : n = 0) : Phi0 V c n h = Pipeline.ΦA spec0 c := by
  subst hz; rfl

theorem Phi0_succ (c : Dev nD) (n : ℕ) (h : n < cfg0.N) :
    Phi0 V c (n + 1) h = iprop(iprop(owns (c : Thread nD τ) scrA fullShare (acc0 V c n h).1 ∗ owns (c : Thread nD τ) scrB fullShare (acc0 V c n h).2 ∗ others0 c)
      ∗ (∃ r, prngReg c r)) := rfl

theorem Phi0_pos (c : Dev nD) (n : ℕ) (h : n ≤ cfg0.N) (hz : n ≠ 0) (h' : n - 1 < cfg0.N) :
    Phi0 V c n h = iprop(iprop(owns (c : Thread nD τ) scrA fullShare (acc0 V c (n - 1) h').1 ∗ owns (c : Thread nD τ) scrB fullShare (acc0 V c (n - 1) h').2 ∗ others0 c)
      ∗ (∃ r, prngReg c r)) := by
  cases n with
  | zero => exact absurd rfl hz
  | succ n => rfl

/-- What the first call holds. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => k0_pay12 (blk0 V c 0 t) (acc0 V c t.val t.isLt).1
    | ⟨3, _⟩ => k0_pay15 (blk0 V c 0 t) (acc0 V c t.val t.isLt).1
    | ⟨4, _⟩ => star0 (blk0 V c 0 t) (acc0 V c t.val t.isLt).1 (acc0 V c t.val t.isLt).2
    | ⟨5, _⟩ => k0_pay16 (blk0 V c 0 t) (acc0 V c t.val t.isLt).1
    | ⟨6, _⟩ => k0_pay1 (blk0 V c 1 t)
    | ⟨7, _⟩ => k0_pay11 (blk0 V c 0 t)
  Φ t := Phi0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = k0_pay12 (blk0 V c 0 t) (acc0 V c t.val t.isLt).1 := by dsimp only [dat0]
theorem after0_3 (c : Dev nD) (t : Fin cfg0.N) : (dat0 V c).after 3 t = k0_pay15 (blk0 V c 0 t) (acc0 V c t.val t.isLt).1 := by dsimp only [dat0]
theorem after0_4 (c : Dev nD) (t : Fin cfg0.N) : (dat0 V c).after 4 t = star0 (blk0 V c 0 t) (acc0 V c t.val t.isLt).1 (acc0 V c t.val t.isLt).2 := by dsimp only [dat0]
theorem after0_5 (c : Dev nD) (t : Fin cfg0.N) : (dat0 V c).after 5 t = k0_pay16 (blk0 V c 0 t) (acc0 V c t.val t.isLt).1 := by dsimp only [dat0]
theorem after0_6 (c : Dev nD) (t : Fin cfg0.N) : (dat0 V c).after 6 t = k0_pay1 (blk0 V c 1 t) := by dsimp only [dat0]
theorem after0_7 (c : Dev nD) (t : Fin cfg0.N) : (dat0 V c).after 7 t = k0_pay11 (blk0 V c 0 t) := by dsimp only [dat0]
theorem Phi0_castSucc (c : Dev nD) (t : Fin cfg0.N) :
    (dat0 V c).Φ t.castSucc = Phi0 V c t.val (Nat.le_of_lt t.isLt) := by
  dsimp only [dat0]; exact Pipeline.Dat.Φ_castSucc (Phi0 V c) t

/-- An input window's buffer holds its block at every point, given that the body leaves it there. -/
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A_eq0]; try rfl) t d).trans
    (by unfold Dat.fetched Dat.blockOf blk0; rw [A_eq0]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A_eq0]; try rfl) t d).trans
    (by unfold Dat.fetched Dat.blockOf blk0; rw [A_eq0]; try rfl)

/-! ## Which outputs a point leaves alone -/

theorem quiet0_2 : ∀ t : Fin cfg0.N, t.val ≠ 15 → cfg0.idle 2 (grid0.coords t) = true ∧ (cfg0.win 2).flush t = false := by decide +kernel
theorem live0_2 : ∀ t : Fin cfg0.N, t.val = 15 → cfg0.idle 2 (grid0.coords t) = false := by decide +kernel
theorem quiet0_3 : ∀ t : Fin cfg0.N, t.val ≠ 15 → cfg0.idle 3 (grid0.coords t) = true ∧ (cfg0.win 3).flush t = false := by decide +kernel
theorem live0_3 : ∀ t : Fin cfg0.N, t.val = 15 → cfg0.idle 3 (grid0.coords t) = false := by decide +kernel
theorem quiet0_4 : ∀ t : Fin cfg0.N, t.val ≠ 15 → cfg0.idle 4 (grid0.coords t) = true ∧ (cfg0.win 4).flush t = false := by decide +kernel
theorem live0_4 : ∀ t : Fin cfg0.N, t.val = 15 → cfg0.idle 4 (grid0.coords t) = false := by decide +kernel
theorem quiet0_5 : ∀ t : Fin cfg0.N, t.val ≠ 15 → cfg0.idle 5 (grid0.coords t) = true ∧ (cfg0.win 5).flush t = false := by decide +kernel
theorem live0_5 : ∀ t : Fin cfg0.N, t.val = 15 → cfg0.idle 5 (grid0.coords t) = false := by decide +kernel
theorem quiet0_7 : ∀ t : Fin cfg0.N, t.val ≠ 15 → cfg0.idle 7 (grid0.coords t) = true ∧ (cfg0.win 7).flush t = false := by decide +kernel
theorem live0_7 : ∀ t : Fin cfg0.N, t.val = 15 → cfg0.idle 7 (grid0.coords t) = false := by decide +kernel

/-- What the body leaves in a window it stores into, or reads. -/
theorem leaves0 (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

/-- What the body is called with at a point. -/
def bodyPre0 (c : Dev nD) (t : Fin cfg0.N) : sProp (MK F) :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What the body gives back at a point. -/
def bodyPost0 (c : Dev nD) (t : Fin cfg0.N) : sProp (MK F) :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 2000000 in
/-- The body at the first point. -/
theorem body0_first (c : Dev nD) (t : Fin cfg0.N) (h0 : t.val = 0) :
    bodyPre0 V c t ⊢ wp frame (wpE (defs₀ (F := F)) Variants.none c none) Set.univ (bodyAt0 t) (fun _ => bodyPost0 V c t) := by
  have h15 : t.val ≠ 15 := by omega
  unfold bodyPre0 bodyPost0 bodyAt0
  simp only [before0_0, before0_1]
  rw [show (dat0 V c).owesAt () t.succ = (dat0 V c).owesAt () t.castSucc from rfl,
    show (dat0 V c).Φ t.succ = Phi0 V c (t.val + 1) t.isLt from rfl, Phi0_succ, Phi0_castSucc, Phi0_first V c _ _ h0, rest0_eq]
  rw [leaves0 V c 0 t rfl, after0_0,
    leaves0 V c 1 t rfl, after0_1,
    Dat.leavesExact_idle (dat0 V c) 2 t (quiet0_2 t h15).1 (quiet0_2 t h15).2,
    Dat.leavesExact_idle (dat0 V c) 3 t (quiet0_3 t h15).1 (quiet0_3 t h15).2,
    Dat.leavesExact_idle (dat0 V c) 4 t (quiet0_4 t h15).1 (quiet0_4 t h15).2,
    Dat.leavesExact_idle (dat0 V c) 5 t (quiet0_5 t h15).1 (quiet0_5 t h15).2,
    leaves0 V c 6 t rfl, after0_6,
    Dat.leavesExact_idle (dat0 V c) 7 t (quiet0_7 t h15).1 (quiet0_7 t h15).2]
  rw [acc0_first V c t h0]
  iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run0_first c Set.univ (grid0.coords t) _ _ _ _ _ _ _ _ _ _ _ _ _ _ _ _ _ _ _ _ ((atFirst_iff t).mpr h0) (fun h => (atLater_iff t).mp h h0) (fun h => h15 ((atLast_iff t).mp h)) (blk0 V c 0 t) (blk0 V c 1 t) _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS0]; · iexact HS0
  isplitl [HS1]; · iexact HS1
  iintro ⟨H0, H1, H2, H3, H4, H5, H6, H7, HS0, HS1⟩
  isplitl [HS0 HS1 HR Hg]
  · isplitl [HS0 HS1 HR]
    · isplitl [HS0]; · iexact HS0
      isplitl [HS1]; · iexact HS1
      iexact HR
    iexact Hg
  isplitl [Ho]; · iexact Ho
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexact H6
  iexists _; iexact H7

set_option maxHeartbeats 2000000 in
/-- The body at a point between. -/
theorem body0_later (c : Dev nD) (t : Fin cfg0.N) (h0 : t.val ≠ 0) (h15 : t.val ≠ 15) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = Phi0 V c (t.val + 1) t.isLt from rfl, Phi0_succ, Phi0_castSucc, Phi0_pos V c _ _ h0 (by have := t.isLt; omega)]
  rw [leaves0 V c 0 t rfl, after0_0,
    leaves0 V c 1 t rfl, after0_1,
    Dat.leavesExact_idle (dat0 V c) 2 t (quiet0_2 t h15).1 (quiet0_2 t h15).2,
    Dat.leavesExact_idle (dat0 V c) 3 t (quiet0_3 t h15).1 (quiet0_3 t h15).2,
    Dat.leavesExact_idle (dat0 V c) 4 t (quiet0_4 t h15).1 (quiet0_4 t h15).2,
    Dat.leavesExact_idle (dat0 V c) 5 t (quiet0_5 t h15).1 (quiet0_5 t h15).2,
    leaves0 V c 6 t rfl, after0_6,
    Dat.leavesExact_idle (dat0 V c) 7 t (quiet0_7 t h15).1 (quiet0_7 t h15).2]
  rw [acc0_next V c t h0 (by have := t.isLt; omega)]
  iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run0_later c Set.univ (grid0.coords t) _ _ _ _ _ _ _ _ _ _ _ _ _ _ _ _ _ _ _ _ (fun h => h0 ((atFirst_iff t).mp h)) ((atLater_iff t).mpr h0) (fun h => h15 ((atLast_iff t).mp h)) (blk0 V c 0 t) (blk0 V c 1 t) _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS0]; · iexact HS0
  isplitl [HS1]; · iexact HS1
  iintro ⟨H0, H1, H2, H3, H4, H5, H6, H7, HS0, HS1⟩
  isplitl [HS0 HS1 HR Hg]
  · isplitl [HS0 HS1 HR]
    · isplitl [HS0]; · iexact HS0
      isplitl [HS1]; · iexact HS1
      iexact HR
    iexact Hg
  isplitl [Ho]; · iexact Ho
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexact H6
  iexists _; iexact H7

set_option maxHeartbeats 2000000 in
/-- The body at the last point. -/
theorem body0_last (c : Dev nD) (t : Fin cfg0.N) (h0 : t.val ≠ 0) (h15 : t.val = 15) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = Phi0 V c (t.val + 1) t.isLt from rfl, Phi0_succ, Phi0_castSucc, Phi0_pos V c _ _ h0 (by have := t.isLt; omega)]
  rw [leaves0 V c 0 t rfl, after0_0,
    leaves0 V c 1 t rfl, after0_1,
    leaves0 V c 2 t (live0_2 t h15), after0_2,
    leaves0 V c 3 t (live0_3 t h15), after0_3,
    leaves0 V c 4 t (live0_4 t h15), after0_4,
    leaves0 V c 5 t (live0_5 t h15), after0_5,
    leaves0 V c 6 t rfl, after0_6,
    leaves0 V c 7 t (live0_7 t h15), after0_7]
  rw [acc0_next V c t h0 (by have := t.isLt; omega)]
  iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run0_last c Set.univ (grid0.coords t) _ _ _ _ _ _ _ _ _ _ _ _ _ _ _ _ _ _ _ _ (fun h => h0 ((atFirst_iff t).mp h)) ((atLater_iff t).mpr h0) ((atLast_iff t).mpr h15) (blk0 V c 0 t) (blk0 V c 1 t) _ _ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HS0 HS1 HR Hg]
  · isplitl [HS0 HS1 HR]
    · isplitl [HS0]; · iexact HS0
      isplitl [HS1]; · iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body0 (c : Dev nD) (t : Fin cfg0.N) :
    bodyPre0 V c t ⊢ wp frame (wpE (defs₀ (F := F)) Variants.none c none) Set.univ (bodyAt0 t) (fun _ => bodyPost0 V c t) := by
  by_cases h0 : t.val = 0
  · exact body0_first V c t h0
  · by_cases h15 : t.val = 15
    · exact body0_last V c t h0 h15
    · exact body0_later V c t h0 h15

theorem row0 (t : Fin cfg0.N) :
    defs₀ (F := F) .tc cfg0.body (cfg0.bodyArgs t (cfg0.slots t)) = bodyAt0 t := by
  unfold defs₀; rw [Defs.onTc_tc]

/-- The body at every point meets what the pipeline asks of it. -/
theorem obligation0 (c : Dev nD) : BodyObligation (dat0 (F := F) V c) (defs₀ (F := F)) Variants.none () Set.univ := fun t => by
  rw [bigSep_W0, bigSep_W0, row0]
  exact triple_restated (body0 V c t) rfl .rfl fun _ => .rfl

/-- What the call is entered with is what holds before the first point. -/
theorem hin0 (c : Dev nD) : (Pipeline.ΦA spec0 c : sProp (MK F)) ⊢ (dat0 V c).Φ 0 := by
  rw [show (dat0 V c).Φ 0 = Phi0 V c 0 (Nat.zero_le _) from rfl, Phi0_first V c 0 _ rfl]
  try exact Idealize.SL.BI.Entails.refl _

/-- After the last point the scratch rows' contents are forgotten. -/
theorem hout0 (c : Dev nD) : (dat0 V c).Φ (Fin.last cfg0.N) ⊢ (Pipeline.ΦA spec0 c : sProp (MK F)) := by
  have hN : cfg0.N = 16 := by decide +kernel
  rw [show (dat0 V c).Φ (Fin.last cfg0.N) = Phi0 V c cfg0.N le_rfl from rfl,
    Phi0_pos V c _ _ (by omega) (by omega), rest0_eq]
  iintro ⟨⟨HS0, HS1, HR⟩, Hg⟩
  isplitl [HS0 HS1 HR]
  · isplitl [HS0]
    · iexists _; iexact HS0
    isplitl [HS1]
    · iexists _; iexact HS1
    iexact HR
  iexact Hg

end Cert.KernelIdeal.Own

end
-- ==== Proof.IRegion1.lean ====
/-
  The second kernel call: each block of the library times the two query rows. Every grid point reads a block of the
  library and the two rows and stores their product whole.
-/
module

public import proofs.«01_k».proof.Proof.IBase

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : Entry F)

/-- The block of window `w` at point `t`, read off the array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, given that the body leaves it there. -/
theorem before1_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_of' {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

set_option maxHeartbeats 1000000 in
/-- The body on whole buffers: the inputs stay, the output ends at the product. -/
theorem run1 (c : Dev nD) (E : Set ℕ) (i : grid1.Coords) (arg1 : Memref sig .tc .vmem S1024x1536 .f32) (harg1 : arg1.IsWhole) (arg2 : Memref sig .tc .vmem S1536x2 .f32) (harg2 : arg2.IsWhole) (arg3 : Memref sig .tc .vmem S1024x2 .f32) (harg3 : arg3.IsWhole)
    (x0 : Vec F S1024x1536 .f32) (x1 : Vec F S1536x2 .f32) (K : PUnit → sProp (MK F)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k1_pay1 x0 x1)) -∗ K ⟨⟩))
      ⊢ wp frame (wpE (defs₀ (F := F)) Variants.none c none) E (cc1__phase2_body i arg1 harg1 arg2 harg2 arg3 harg3) K := by
  simp only [cc1__phase2_body_eq_skeleton]; unfold cc1__phase2_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_stored _ _ (by decide), readAt_whole _ _ (by decide), readAt_whole _ _ (by decide)]

/-- What the second call holds: the arrays as found, each input block left in place, each output block the product. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay1 (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = k1_pay1 (blk1 V c 0 t) (blk1 V c 1 t) := by dsimp only [dat1]
theorem before1_0 (c : Dev nD) (t : Fin cfg1.N) (d) : (dat1 V c).before 0 t d = blk1 V c 0 t :=
  before1_of V (dat1 V c) (A_eq1 V c 0) (after1_0 V c) t d
theorem before1_1 (c : Dev nD) (t : Fin cfg1.N) (d) : (dat1 V c).before 1 t d = blk1 V c 1 t :=
  before1_of' V (dat1 V c) (A_eq1 V c 1) (after1_1 V c) t d

/-- What the body is called with at a point. -/
def bodyPre1 (c : Dev nD) (t : Fin cfg1.N) : sProp (MK F) :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body gives back at a point. -/
def bodyPost1 (c : Dev nD) (t : Fin cfg1.N) : sProp (MK F) :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (run1 c Set.univ (grid1.coords t) _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row1 (t : Fin cfg1.N) :
    defs₀ (F := F) .tc cfg1.body (cfg1.bodyArgs t (cfg1.slots t)) = bodyAt1 t := by
  unfold defs₀; rw [Defs.onTc_tc]

/-- The body at every point meets what the pipeline asks of it. -/
theorem obligation1 (c : Dev nD) : BodyObligation (dat1 (F := F) V c) (defs₀ (F := F)) Variants.none () Set.univ := fun t => by
  rw [bigSep_W1, bigSep_W1, row1]
  exact triple_restated (body1 V c t) rfl .rfl fun _ => .rfl

end Cert.KernelIdeal.Own

end
-- ==== Proof.IRegion2.lean ====
/-
  The third kernel call: the score from the two products and the best match, and the enlarged map. It runs once; besides
  its windows it reads one word from scalar memory, the position of the best patch.
-/
module

public import proofs.«01_k».proof.Proof.IBase

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : Entry F)

/-- The word the call reads from scalar memory, as the call finds it. -/
def tbl2 : pre2.Contents (Elt F) := fun j => V (0 : Dev nD) (pre2.ref j)

/-- That word as admissible contents: the call asks nothing of it. -/
abbrev adm2 : (pcfg2 (F := F)).Adm := ⟨tbl2 V, trivial⟩

/-- The call's pipeline at that word. -/
abbrev cfgT : Pipeline.Cfg sig Λ₀ := cfg2 (adm2 V)

/-- The one position of the scalar-memory word. -/
def first2 : S1.Idx := Shape.Idx.first (by decide)

/-- The score, from the two products `x0`, `x1`, the squared norms `x2`, `x3`, the best match `x4` and the position `k`. -/
def score2 (x0 x1 x2 : Vec F S1x16384 .f32) (x3 : Vec F S1x784 .f32) (x4 : Vec F S1x1 .f32) (k : BitVec 32) : FVec F S1x1 .f32 :=
  k2_pay1
    (k2_pay8 (k2_pay4 x2 x0) (k2_pay5 x2 k x3 x1) (iota .tc S1x16384 32 [1] iota_S1x16384_d1_w32) (extractAt ![0, 0, 0] (k2_pay6 x2 x0) inpos_S1x1x1_p0_0_0))
    (k2_pay9 (k2_pay4 x2 x0) (k2_pay5 x2 k x3 x1) (iota .tc S1x16384 32 [1] iota_S1x16384_d1_w32) (extractAt ![0, 0, 0] (k2_pay6 x2 x0) inpos_S1x1x1_p0_0_0))
    x4

/-- The block of window `w`, read off the array as the call finds it. -/
def blk2 (c : Dev nD) (w : Fin (cfgT V).W) (t : Fin (cfgT V).N) : (((cfgT V).win w).xblock ((cfgT V).grid.coords t)).Idx → Elt F ((cfgT V).win w).elt :=
  (((cfgT V).win w).blk t).view.read (Elt F) (V c (Pipeline.arrRef spec2 w))

/-- The scalar-memory word of core `c`, held whole. -/
abbrev word2 (c : Dev nD) (f : Buf (Elt F) ((Memref.whole main_v66).view.loc (c : Thread nD τ))) : sProp (MK F) :=
  (Memref.whole main_v66).view.loc (c : Thread nD τ) ↦{fullShare} f

/-- The word as the pipeline hands it over. -/
theorem tables2_eq (c : Dev nD) (a : pre2.Contents (Elt F)) : (Pipeline.prefHeld pre2 c (fun _ => fullShare) a : sProp (MK F)) = word2 c (a 0) := by
  unfold Pipeline.prefHeld
  rw [show (Finset.univ : Finset (Fin 1)) = {(0 : Fin 1)} from by decide, bigSep_singleton]
  rfl

set_option maxHeartbeats 2000000 in
/-- The body on whole buffers: the inputs stay, the outputs end at the score and the enlarged map. -/
theorem run2 (c : Dev nD) (E : Set ℕ) (i : grid2.Coords) (arg2 : Memref sig .tc .vmem S1x16384 .f32) (harg2 : arg2.IsWhole) (arg3 : Memref sig .tc .vmem S1x16384 .f32) (harg3 : arg3.IsWhole) (arg4 : Memref sig .tc .vmem S1x16384 .f32) (harg4 : arg4.IsWhole) (arg5 : Memref sig .tc .vmem S1x784 .f32) (harg5 : arg5.IsWhole) (arg6 : Memref sig .tc .vmem S1x1 .f32) (harg6 : arg6.IsWhole) (arg7 : Memref sig .tc .vmem S28x28 .f32) (harg7 : arg7.IsWhole) (arg8 : Memref sig .tc .vmem S224x28 .f32) (harg8 : arg8.IsWhole) (arg9 : Memref sig .tc .vmem S28x224 .f32) (harg9 : arg9.IsWhole) (arg10 : Memref sig .tc .vmem S1x1 .f32) (harg10 : arg10.IsWhole) (arg11 : Memref sig .tc .vmem S224x224 .f32) (harg11 : arg11.IsWhole)
    (x0 : Vec F S1x16384 .f32) (x1 : Vec F S1x16384 .f32) (x2 : Vec F S1x16384 .f32) (x3 : Vec F S1x784 .f32) (x4 : Vec F S1x1 .f32) (x5 : Vec F S28x28 .f32) (x6 : Vec F S224x28 .f32) (x7 : Vec F S28x224 .f32) (xt : Buf (Elt F) ((Memref.whole main_v66).view.loc (c : Thread nD τ))) (K : PUnit → sProp (MK F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ word2 c xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (score2 x0 x1 x2 x3 x4 (xt first2)) ∗ owns (c : Thread nD τ) arg11 fullShare (k2_pay2 x6 x5 x7) ∗ word2 c xt) -∗ K ⟨⟩))
      ⊢ wp frame (wpE (defs₀ (F := F)) Variants.none c none) E (cc2__phase3_body i (Memref.whole main_v66) (Memref.isWhole_whole _) arg2 harg2 arg3 harg3 arg4 harg4 arg5 harg5 arg6 harg6 arg7 harg7 arg8 harg8 arg9 harg9 arg10 harg10 arg11 harg11) K := by
  simp only [cc2__phase3_body_eq_skeleton]; unfold cc2__phase3_body_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, HT, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [read_stored _ _ (by decide)]
    rw [readAt_whole _ _ (by decide)]
    unfold run2.sl.r_3 run2.sl.r_4
    unfold run2.sl.r_1 run2.sl.r_2 run2.sl.v41
    rw [readAt_whole _ _ (by decide), readAt_whole _ _ (by decide), readAt_whole _ _ (by decide), readAt_whole _ _ (by decide)]
    have hk : run2.sl.r c xt = xt first2 := congrFun (readAt_whole (S := S1) (Memref.whole main_v66).view inb_S1_S1_0 (by decide) xt) first2
    unfold score2 run2.sl.v29
    rw [hk]
  isplitl [H9]
  · iexists _; isplitr
    swap; · iexact H9
    ipureintro
    rw [read_stored _ _ (by decide), readAt_whole _ _ (by decide), readAt_whole _ _ (by decide), readAt_whole _ _ (by decide)]
  iexact HT

/-- What the third call holds: the arrays as found, each input in place, the outputs at the score and the enlarged map;
    beside them the scalar-memory word. -/
def dat2 (c : Dev nD) : Dat τ (Elt F) Unit ℕ (UR sig nD τ) ℕ (cfgT V) c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => score2 (blk2 V c 0 t) (blk2 V c 1 t) (blk2 V c 2 t) (blk2 V c 3 t) (blk2 V c 4 t) (tbl2 V 0 first2)
    | ⟨9, _⟩ => k2_pay2 (blk2 V c 6 t) (blk2 V c 5 t) (blk2 V c 7 t)
  Φ _ := iprop(Pipeline.ΦA spec2 c ∗ Pipeline.prefHeld pre2 c (fun _ => fullShare) (tbl2 V))
  q _ := fullShare
  owed _ := 0

theorem A_eq2 (c : Dev nD) (w : Fin (cfgT V).W) : (dat2 V c).A w = V c (Pipeline.arrRef spec2 w) := by dsimp only [dat2]
theorem after2_0 (c : Dev nD) (t : Fin (cfgT V).N) : (dat2 V c).after 0 t = blk2 V c 0 t := by dsimp only [dat2]; rfl
theorem after2_1 (c : Dev nD) (t : Fin (cfgT V).N) : (dat2 V c).after 1 t = blk2 V c 1 t := by dsimp only [dat2]; rfl
theorem after2_2 (c : Dev nD) (t : Fin (cfgT V).N) : (dat2 V c).after 2 t = blk2 V c 2 t := by dsimp only [dat2]; rfl
theorem after2_3 (c : Dev nD) (t : Fin (cfgT V).N) : (dat2 V c).after 3 t = blk2 V c 3 t := by dsimp only [dat2]; rfl
theorem after2_4 (c : Dev nD) (t : Fin (cfgT V).N) : (dat2 V c).after 4 t = blk2 V c 4 t := by dsimp only [dat2]; rfl
theorem after2_5 (c : Dev nD) (t : Fin (cfgT V).N) : (dat2 V c).after 5 t = blk2 V c 5 t := by dsimp only [dat2]; rfl
theorem after2_6 (c : Dev nD) (t : Fin (cfgT V).N) : (dat2 V c).after 6 t = blk2 V c 6 t := by dsimp only [dat2]; rfl
theorem after2_7 (c : Dev nD) (t : Fin (cfgT V).N) : (dat2 V c).after 7 t = blk2 V c 7 t := by dsimp only [dat2]; rfl
theorem after2_8 (c : Dev nD) (t : Fin (cfgT V).N) : (dat2 V c).after 8 t
    = score2 (blk2 V c 0 t) (blk2 V c 1 t) (blk2 V c 2 t) (blk2 V c 3 t) (blk2 V c 4 t) (tbl2 V 0 first2) := by dsimp only [dat2]; rfl
theorem after2_9 (c : Dev nD) (t : Fin (cfgT V).N) : (dat2 V c).after 9 t = k2_pay2 (blk2 V c 6 t) (blk2 V c 5 t) (blk2 V c 7 t) := by dsimp only [dat2]; rfl
theorem before2_0 (c : Dev nD) (t : Fin (cfgT V).N) (d) : (dat2 V c).before 0 t d = blk2 V c 0 t :=
  ((dat2 V c).before_in_eq_fetched 0 rfl (fun _ => rfl) (fun _ _ _ => rfl) (fun t => by rw [after2_0]; unfold Dat.blockOf blk2; rw [A_eq2]; try rfl) t d).trans
    (by unfold Dat.fetched Dat.blockOf blk2; rw [A_eq2]; try rfl)
theorem before2_1 (c : Dev nD) (t : Fin (cfgT V).N) (d) : (dat2 V c).before 1 t d = blk2 V c 1 t :=
  ((dat2 V c).before_in_eq_fetched 1 rfl (fun _ => rfl) (fun _ _ _ => rfl) (fun t => by rw [after2_1]; unfold Dat.blockOf blk2; rw [A_eq2]; try rfl) t d).trans
    (by unfold Dat.fetched Dat.blockOf blk2; rw [A_eq2]; try rfl)
theorem before2_2 (c : Dev nD) (t : Fin (cfgT V).N) (d) : (dat2 V c).before 2 t d = blk2 V c 2 t :=
  ((dat2 V c).before_in_eq_fetched 2 rfl (fun _ => rfl) (fun _ _ _ => rfl) (fun t => by rw [after2_2]; unfold Dat.blockOf blk2; rw [A_eq2]; try rfl) t d).trans
    (by unfold Dat.fetched Dat.blockOf blk2; rw [A_eq2]; try rfl)
theorem before2_3 (c : Dev nD) (t : Fin (cfgT V).N) (d) : (dat2 V c).before 3 t d = blk2 V c 3 t :=
  ((dat2 V c).before_in_eq_fetched 3 rfl (fun _ => rfl) (fun _ _ _ => rfl) (fun t => by rw [after2_3]; unfold Dat.blockOf blk2; rw [A_eq2]; try rfl) t d).trans
    (by unfold Dat.fetched Dat.blockOf blk2; rw [A_eq2]; try rfl)
theorem before2_4 (c : Dev nD) (t : Fin (cfgT V).N) (d) : (dat2 V c).before 4 t d = blk2 V c 4 t :=
  ((dat2 V c).before_in_eq_fetched 4 rfl (fun _ => rfl) (fun _ _ _ => rfl) (fun t => by rw [after2_4]; unfold Dat.blockOf blk2; rw [A_eq2]; try rfl) t d).trans
    (by unfold Dat.fetched Dat.blockOf blk2; rw [A_eq2]; try rfl)
theorem before2_5 (c : Dev nD) (t : Fin (cfgT V).N) (d) : (dat2 V c).before 5 t d = blk2 V c 5 t :=
  ((dat2 V c).before_in_eq_fetched 5 rfl (fun _ => rfl) (fun _ _ _ => rfl) (fun t => by rw [after2_5]; unfold Dat.blockOf blk2; rw [A_eq2]; try rfl) t d).trans
    (by unfold Dat.fetched Dat.blockOf blk2; rw [A_eq2]; try rfl)
theorem before2_6 (c : Dev nD) (t : Fin (cfgT V).N) (d) : (dat2 V c).before 6 t d = blk2 V c 6 t :=
  ((dat2 V c).before_in_eq_fetched 6 rfl (fun _ => rfl) (fun _ _ _ => rfl) (fun t => by rw [after2_6]; unfold Dat.blockOf blk2; rw [A_eq2]; try rfl) t d).trans
    (by unfold Dat.fetched Dat.blockOf blk2; rw [A_eq2]; try rfl)
theorem before2_7 (c : Dev nD) (t : Fin (cfgT V).N) (d) : (dat2 V c).before 7 t d = blk2 V c 7 t :=
  ((dat2 V c).before_in_eq_fetched 7 rfl (fun _ => rfl) (fun _ _ _ => rfl) (fun t => by rw [after2_7]; unfold Dat.blockOf blk2; rw [A_eq2]; try rfl) t d).trans
    (by unfold Dat.fetched Dat.blockOf blk2; rw [A_eq2]; try rfl)

/-- The staging buffer of each window. -/
abbrev st2_0 (t : Fin (cfgT V).N) := spec2_0.stage ((cfgT V).slots t 0)
abbrev st2_1 (t : Fin (cfgT V).N) := spec2_1.stage ((cfgT V).slots t 1)
abbrev st2_2 (t : Fin (cfgT V).N) := spec2_2.stage ((cfgT V).slots t 2)
abbrev st2_3 (t : Fin (cfgT V).N) := spec2_3.stage ((cfgT V).slots t 3)
abbrev st2_4 (t : Fin (cfgT V).N) := spec2_4.stage ((cfgT V).slots t 4)
abbrev st2_5 (t : Fin (cfgT V).N) := spec2_5.stage ((cfgT V).slots t 5)
abbrev st2_6 (t : Fin (cfgT V).N) := spec2_6.stage ((cfgT V).slots t 6)
abbrev st2_7 (t : Fin (cfgT V).N) := spec2_7.stage ((cfgT V).slots t 7)
abbrev st2_8 (t : Fin (cfgT V).N) := spec2_8.stage ((cfgT V).slots t 8)
abbrev st2_9 (t : Fin (cfgT V).N) := spec2_9.stage ((cfgT V).slots t 9)

/-- The body on what the pipeline calls it with. -/
abbrev bodyAt2 (t : Fin (cfgT V).N) : Prog (TpuEff nD τ sig (Elt F) Λ₀ .tc) PUnit :=
  cc2__phase3_body (grid2.coords t) (Memref.whole main_v66) (Memref.isWhole_whole _) (st2_0 V t) (hstage2_0 (((cfgT V).slots t 0).cast nbuf2_0)) (st2_1 V t) (hstage2_1 (((cfgT V).slots t 1).cast nbuf2_1)) (st2_2 V t) (hstage2_2 (((cfgT V).slots t 2).cast nbuf2_2)) (st2_3 V t) (hstage2_3 (((cfgT V).slots t 3).cast nbuf2_3)) (st2_4 V t) (hstage2_4 (((cfgT V).slots t 4).cast nbuf2_4)) (st2_5 V t) (hstage2_5 (((cfgT V).slots t 5).cast nbuf2_5)) (st2_6 V t) (hstage2_6 (((cfgT V).slots t 6).cast nbuf2_6)) (st2_7 V t) (hstage2_7 (((cfgT V).slots t 7).cast nbuf2_7)) (st2_8 V t) (hstage2_8 (((cfgT V).slots t 8).cast nbuf2_8)) (st2_9 V t) (hstage2_9 (((cfgT V).slots t 9).cast nbuf2_9))

/-- What the body is called with. -/
def bodyPre2 (c : Dev nD) (t : Fin (cfgT V).N) : sProp (MK F) :=
  iprop((dat2 V c).Φ t.castSucc ∗ (dat2 V c).owesAt () t.castSucc
    ∗ (∃ d, owns (c : Thread nD τ) (st2_0 V t) fullShare ((dat2 V c).before 0 t d))
    ∗ (∃ d, owns (c : Thread nD τ) (st2_1 V t) fullShare ((dat2 V c).before 1 t d))
    ∗ (∃ d, owns (c : Thread nD τ) (st2_2 V t) fullShare ((dat2 V c).before 2 t d))
    ∗ (∃ d, owns (c : Thread nD τ) (st2_3 V t) fullShare ((dat2 V c).before 3 t d))
    ∗ (∃ d, owns (c : Thread nD τ) (st2_4 V t) fullShare ((dat2 V c).before 4 t d))
    ∗ (∃ d, owns (c : Thread nD τ) (st2_5 V t) fullShare ((dat2 V c).before 5 t d))
    ∗ (∃ d, owns (c : Thread nD τ) (st2_6 V t) fullShare ((dat2 V c).before 6 t d))
    ∗ (∃ d, owns (c : Thread nD τ) (st2_7 V t) fullShare ((dat2 V c).before 7 t d))
    ∗ (∃ d, owns (c : Thread nD τ) (st2_8 V t) fullShare ((dat2 V c).before 8 t d))
    ∗ (∃ d, owns (c : Thread nD τ) (st2_9 V t) fullShare ((dat2 V c).before 9 t d)))

/-- What the body gives back. -/
def bodyPost2 (c : Dev nD) (t : Fin (cfgT V).N) : sProp (MK F) :=
  iprop((dat2 V c).Φ t.succ ∗ (dat2 V c).owesAt () t.succ
    ∗ owns (c : Thread nD τ) (st2_0 V t) fullShare ((dat2 V c).after 0 t)
    ∗ owns (c : Thread nD τ) (st2_1 V t) fullShare ((dat2 V c).after 1 t)
    ∗ owns (c : Thread nD τ) (st2_2 V t) fullShare ((dat2 V c).after 2 t)
    ∗ owns (c : Thread nD τ) (st2_3 V t) fullShare ((dat2 V c).after 3 t)
    ∗ owns (c : Thread nD τ) (st2_4 V t) fullShare ((dat2 V c).after 4 t)
    ∗ owns (c : Thread nD τ) (st2_5 V t) fullShare ((dat2 V c).after 5 t)
    ∗ owns (c : Thread nD τ) (st2_6 V t) fullShare ((dat2 V c).after 6 t)
    ∗ owns (c : Thread nD τ) (st2_7 V t) fullShare ((dat2 V c).after 7 t)
    ∗ owns (c : Thread nD τ) (st2_8 V t) fullShare ((dat2 V c).after 8 t)
    ∗ owns (c : Thread nD τ) (st2_9 V t) fullShare ((dat2 V c).after 9 t))

set_option maxHeartbeats 1000000 in
theorem body2 (c : Dev nD) (t : Fin (cfgT V).N) :
    bodyPre2 V c t ⊢ wp frame (wpE (defs₀ (F := F)) Variants.none c none) Set.univ (bodyAt2 V t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  rw [show (dat2 V c).Φ t.castSucc = iprop(Pipeline.ΦA spec2 c ∗ Pipeline.prefHeld pre2 c (fun _ => fullShare) (tbl2 V)) from rfl, tables2_eq]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run2 c Set.univ (grid2.coords t) _ _ _ _ _ _ _ _ _ _ _ _ _ _ _ _ _ _ _ _ (blk2 V c 0 t) (blk2 V c 1 t) (blk2 V c 2 t) (blk2 V c 3 t) (blk2 V c 4 t) (blk2 V c 5 t) (blk2 V c 6 t) (blk2 V c 7 t) (tbl2 V 0) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HT]; · iexact HT
  iintro ⟨H0, H1, H2, H3, H4, H5, H6, H7, H8, H9, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem row2 (t : Fin (cfgT V).N) :
    defs₀ (F := F) .tc (cfgT V).body ((cfgT V).bodyArgs t ((cfgT V).slots t)) = bodyAt2 V t := by
  unfold defs₀; rw [Defs.onTc_tc]

/-- The body meets what the pipeline asks of it. -/
theorem obligation2 (c : Dev nD) : BodyObligation (dat2 (F := F) V c) (defs₀ (F := F)) Variants.none () Set.univ := fun t => by
  rw [bigSep_W2, bigSep_W2, row2]
  exact triple_restated (body2 V c t) rfl .rfl fun _ => .rfl

end Cert.KernelIdeal.Own

end
-- ==== Proof.IRun.lean ====
/-
  The kernel program run whole: host operations, then the three calls with host operations between and after them. The
  contents of every buffer are followed from boundary to boundary, and every fair execution ends at the last of them
  with every semaphore counter at zero.
-/
module

public import proofs.«01_k».proof.Proof.IRegion0
public import proofs.«01_k».proof.Proof.IRegion1
public import proofs.«01_k».proof.Proof.IRegion2
public import proofs.«01_k».proof.Proof.Gen.KernelIdeal.Regions
public import Idealize.ShloMosaic.Lib.Pipeline.RegionArraysS
public import Idealize.ShloMosaic.Lib.Pipeline.RegionArraysTS
public import Idealize.ShloMosaic.Lib.Pipeline.FrameTail

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The contents at the boundaries -/

/-- Contents by core and buffer, as a call reads them. -/
def entry (W : Dev nD → Valuation τ sig (Elt F)) : Entry F := fun c b => W c (Proc.devRef .tc b)

/-- The contents at launch. -/
def w0 (c : Dev nD) : Valuation τ sig (Elt F) := fun b => m (c, b)
/-- Before the first call. -/
def w1 (c : Dev nD) : Valuation τ sig (Elt F) := StableHlo.after hostOps0 (w0 m c)
/-- After the first call. -/
def w2 (c : Dev nD) : Valuation τ sig (Elt F) := Pipeline.afterRegion (dat0 (entry (w1 m)) c) (w1 m c)
/-- Before the second call. -/
def w3 (c : Dev nD) : Valuation τ sig (Elt F) := StableHlo.after hostOps1 (w2 m c)
/-- After the second call. -/
def w4 (c : Dev nD) : Valuation τ sig (Elt F) := Pipeline.afterRegion (dat1 (entry (w3 m)) c) (w3 m c)
/-- Through the host operations between the second and the third call. -/
def w5 (c : Dev nD) : Valuation τ sig (Elt F) := StableHlo.after hostOps2 (w4 m c)
def w6 (c : Dev nD) : Valuation τ sig (Elt F) := StableHlo.after hostOps2_1 (w5 m c)
def w7 (c : Dev nD) : Valuation τ sig (Elt F) := StableHlo.after hostOps2_2 (w6 m c)
def w8 (c : Dev nD) : Valuation τ sig (Elt F) := StableHlo.after hostOps2_3 (w7 m c)
def w9 (c : Dev nD) : Valuation τ sig (Elt F) := StableHlo.after hostOps2_4 (w8 m c)
def w10 (c : Dev nD) : Valuation τ sig (Elt F) := StableHlo.after hostOps2_5 (w9 m c)
def w11 (c : Dev nD) : Valuation τ sig (Elt F) := StableHlo.after hostOps2_6 (w10 m c)
/-- After the third call. -/
def w12 (c : Dev nD) : Valuation τ sig (Elt F) := Pipeline.afterRegion (dat2 (entry (w11 m)) c) (w11 m c)
/-- At the end. -/
def w13 (c : Dev nD) : Valuation τ sig (Elt F) := StableHlo.after hostOps3 (w12 m c)

/-! ## What each stretch leaves alone -/

theorem w1_of (c : Dev nD) (r : Ref sig .tc) (h : r ∉ hostOps0_W) : w1 m c r = w0 m c r :=
  StableHlo.after_of_writes_sub hostOps0 _ hostOps0_writes h
theorem w2_of (c : Dev nD) (r : Ref sig .tc) (h : ∀ w, Pipeline.arrRef spec0 w = r → (spec0 w).isOut = false) : w2 m c r = w1 m c r :=
  Pipeline.afterRegion_keeps (dat0 (entry (w1 m)) c) (w1 m c) winFacts0.arr_inj (fun w => A_eq0 (entry (w1 m)) c w) r h
theorem w2_arr (c : Dev nD) (w : Fin cfg0.W) :
    w2 m c (Pipeline.arrRef spec0 w) = (dat0 (entry (w1 m)) c).arrAt w cfg0.N :=
  Pipeline.afterRegion_arr (dat0 (entry (w1 m)) c) (w1 m c) winFacts0.arr_inj w
theorem w3_of (c : Dev nD) (r : Ref sig .tc) (h : r ∉ hostOps1_W) : w3 m c r = w2 m c r :=
  StableHlo.after_of_writes_sub hostOps1 _ hostOps1_writes h
theorem w4_of (c : Dev nD) (r : Ref sig .tc) (h : ∀ w, Pipeline.arrRef spec1 w = r → (spec1 w).isOut = false) : w4 m c r = w3 m c r :=
  Pipeline.afterRegion_keeps (dat1 (entry (w3 m)) c) (w3 m c) winFacts1.arr_inj (fun w => A_eq1 (entry (w3 m)) c w) r h
theorem w4_arr (c : Dev nD) (w : Fin cfg1.W) :
    w4 m c (Pipeline.arrRef spec1 w) = (dat1 (entry (w3 m)) c).arrAt w cfg1.N :=
  Pipeline.afterRegion_arr (dat1 (entry (w3 m)) c) (w3 m c) winFacts1.arr_inj w
theorem w5_of (c : Dev nD) (r : Ref sig .tc) (h : r ∉ hostOps2_W) : w5 m c r = w4 m c r :=
  StableHlo.after_of_writes_sub hostOps2 _ hostOps2_writes h
theorem w6_of (c : Dev nD) (r : Ref sig .tc) (h : r ∉ hostOps2_1_W) : w6 m c r = w5 m c r :=
  StableHlo.after_of_writes_sub hostOps2_1 _ hostOps2_1_writes h
theorem w7_of (c : Dev nD) (r : Ref sig .tc) (h : r ∉ hostOps2_2_W) : w7 m c r = w6 m c r :=
  StableHlo.after_of_writes_sub hostOps2_2 _ hostOps2_2_writes h
theorem w8_of (c : Dev nD) (r : Ref sig .tc) (h : r ∉ hostOps2_3_W) : w8 m c r = w7 m c r :=
  StableHlo.after_of_writes_sub hostOps2_3 _ hostOps2_3_writes h
theorem w9_of (c : Dev nD) (r : Ref sig .tc) (h : r ∉ hostOps2_4_W) : w9 m c r = w8 m c r :=
  StableHlo.after_of_writes_sub hostOps2_4 _ hostOps2_4_writes h
theorem w10_of (c : Dev nD) (r : Ref sig .tc) (h : r ∉ hostOps2_5_W) : w10 m c r = w9 m c r :=
  StableHlo.after_of_writes_sub hostOps2_5 _ hostOps2_5_writes h
theorem w11_of (c : Dev nD) (r : Ref sig .tc) (h : r ∉ hostOps2_6_W) : w11 m c r = w10 m c r :=
  StableHlo.after_of_writes_sub hostOps2_6 _ hostOps2_6_writes h
theorem w12_of (c : Dev nD) (r : Ref sig .tc) (h : ∀ w, Pipeline.arrRef spec2 w = r → (spec2 w).isOut = false) : w12 m c r = w11 m c r :=
  Pipeline.afterRegion_keeps (dat2 (entry (w11 m)) c) (w11 m c) winFacts2.arr_inj (fun w => A_eq2 (entry (w11 m)) c w) r h
theorem w12_arr (c : Dev nD) (w : Fin (cfgT (entry (w11 m))).W) :
    w12 m c (Pipeline.arrRef spec2 w) = (dat2 (entry (w11 m)) c).arrAt w (cfgT (entry (w11 m))).N :=
  Pipeline.afterRegion_arr (dat2 (entry (w11 m)) c) (w11 m c) winFacts2.arr_inj w
theorem w13_of (c : Dev nD) (r : Ref sig .tc) (h : r ∉ hostOps3_W) : w13 m c r = w12 m c r :=
  StableHlo.after_of_writes_sub hostOps3 _ hostOps3_writes h

/-- A buffer nothing writes ends as it was launched. -/
theorem w13_arg (c : Dev nD) (r : Ref sig .tc) (h : r ∈ [main_arg0, main_arg1]) : w13 m c r = m ((c : Thread nD τ).loc r) := by
  have hr : r = main_arg0 ∨ r = main_arg1 := by simpa using h
  rcases hr with rfl | rfl
  · exact (w13_of m c _ (by decide)).trans <| (w12_of m c _ (by decide)).trans <| (w11_of m c _ (by decide)).trans <| (w10_of m c _ (by decide)).trans <| (w9_of m c _ (by decide)).trans <| (w8_of m c _ (by decide)).trans <| (w7_of m c _ (by decide)).trans <| (w6_of m c _ (by decide)).trans <| (w5_of m c _ (by decide)).trans <| (w4_of m c _ (by decide)).trans <| (w3_of m c _ (by decide)).trans <| (w2_of m c _ (by decide)).trans <| (w1_of m c _ (by decide))
  · exact (w13_of m c _ (by decide)).trans <| (w12_of m c _ (by decide)).trans <| (w11_of m c _ (by decide)).trans <| (w10_of m c _ (by decide)).trans <| (w9_of m c _ (by decide)).trans <| (w8_of m c _ (by decide)).trans <| (w7_of m c _ (by decide)).trans <| (w6_of m c _ (by decide)).trans <| (w5_of m c _ (by decide)).trans <| (w4_of m c _ (by decide)).trans <| (w3_of m c _ (by decide)).trans <| (w2_of m c _ (by decide)).trans <| (w1_of m c _ (by decide))

/-! ## The segments -/

/-- No call needs anything of the tables it is given but the third, whose word is what the host left. -/
def adms : (p : Fin 3) → (pcfgs (F := F) p).Adm
  | ⟨0, _⟩ => cfg0.toPCfg_adm
  | ⟨1, _⟩ => cfg1.toPCfg_adm
  | ⟨2, _⟩ => adm2 (entry (w11 m))

/-- Each call's data, at the contents it is entered from. -/
def pdats : (p : Fin 3) → (c : Dev nD) → Dat τ (Elt F) Unit ℕ (UR sig nD τ) ℕ (Pipeline.pin (pcfgs (F := F)) (adms m) p) c
  | ⟨0, _⟩ => fun c => dat0 (entry (w1 m)) c
  | ⟨1, _⟩ => fun c => dat1 (entry (w3 m)) c
  | ⟨2, _⟩ => fun c => dat2 (entry (w11 m)) c

/-- No core owes another anything. -/
def lev : GSem nD τ sig → Finset Unit := fun g => if g.1.2 = .tc then {()} else ∅
abbrev lev0 : GSem nD τ sig → Unit → ℕ := fun _ _ => 0

theorem cut (p : Fin 3) : Pipeline.LevelCut (pcfgs (F := F)) (adms m) () lev lev0 p (fun _ => (0 : CellTallies nD τ sig Unit)) (fun _ => 0) where
  hι c w s := by unfold lev; rw [if_pos rfl]; exact Finset.mem_singleton_self _
  hιb c w s := le_rfl
  hD c g i h := absurd h (lt_irrefl _)

/-- What rides beside the buffers: nothing owed, and the generator register at some state. -/
abbrev ride (c : Dev nD) : sProp (MK F) :=
  iprop((∃ Wd, owes (c : Thread nD τ) (0 : CellTallies nD τ sig Unit) Wd) ∗ (∃ r, prngReg c r) ∗ emp)

/-- Host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none lev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride

set_option backward.isDefEq.respectTransparency.types false in
/-- The first call. -/
def reg0 : Pipeline.RegionSeg (pcfgs (F := F)) (adms m) (pdats m) () defs₀ Variants.none lev lev0 0 :=
  Pipeline.RegionSeg.ofHeldIn (pcfgs (F := F)) (adms m) (pdats m) () defs₀ Variants.none lev lev0 0 (fun _ => 0) (Pipeline.ucRefs τ sig)
    (fun c => iprop(∃ r, prngReg c r)) (fun c => iprop(∃ r, prngReg c r)) launch0 rfl
    (fun c => (obligation0 (entry (w1 m)) c).loose) (fun _ _ => rfl) (fun _ => rfl)
    (fun c => (pdats m 0 c).share_full fun _ => rfl)
    (fun c => hin0 (entry (w1 m)) c) (fun c => hout0 (entry (w1 m)) c)
    (fun _ => 0) (cut m 0) (fun _ => iprop(emp)) (w1 m) (fun c w => rfl)

set_option backward.isDefEq.respectTransparency.types false in
/-- The second call. -/
def reg1 : Pipeline.RegionSeg (pcfgs (F := F)) (adms m) (pdats m) () defs₀ Variants.none lev lev0 1 :=
  Pipeline.RegionSeg.ofHeldIn (pcfgs (F := F)) (adms m) (pdats m) () defs₀ Variants.none lev lev0 1 (fun _ => 0) (Pipeline.ucRefs τ sig)
    (fun c => iprop(∃ r, prngReg c r)) (fun c => iprop(∃ r, prngReg c r)) launch1 rfl
    (fun c => (obligation1 (entry (w3 m)) c).loose) (fun _ _ => rfl) (fun _ => rfl)
    (fun c => (pdats m 1 c).share_full fun _ => rfl)
    (fun c => .rfl) (fun c => .rfl)
    (fun _ => 0) (cut m 1) (fun _ => iprop(emp)) (w3 m) (fun c w => rfl)

set_option backward.isDefEq.respectTransparency.types false in
/-- The third call. -/
def reg2 : Pipeline.RegionSeg (pcfgs (F := F)) (adms m) (pdats m) () defs₀ Variants.none lev lev0 2 :=
  Pipeline.RegionSeg.ofHeldInT (pcfgs (F := F)) (adms m) (pdats m) () defs₀ Variants.none lev lev0 2 (fun _ => 0) (Pipeline.ucRefs τ sig)
    (fun c => iprop(∃ r, prngReg c r)) (fun c => iprop(∃ r, prngReg c r)) launch2
    (fun c => (obligation2 (entry (w11 m)) c).loose) (fun _ _ => rfl) (fun _ => rfl)
    (fun c => (pdats m 2 c).share_full fun _ => rfl)
    (fun c => .rfl) (fun c => .rfl)
    (fun _ => 0) (cut m 2) (fun _ => iprop(emp)) (w11 m) (fun c w => rfl)
    (fun c k => by obtain rfl : c = 0 := Subsingleton.elim _ _; rfl)

theorem arrs0 : Pipeline.arrRefs (τ := τ) (pcfgs (F := F) 0).spec ⊆ Pipeline.ucRefs τ sig := Pipeline.arrRefs_sub_ucRefs spec0 winFacts0.arr_unscoped
theorem arrs1 : Pipeline.arrRefs (τ := τ) (pcfgs (F := F) 1).spec ⊆ Pipeline.ucRefs τ sig := Pipeline.arrRefs_sub_ucRefs spec1 winFacts1.arr_unscoped
theorem arrs2 : Pipeline.arrRefs (τ := τ) (pcfgs (F := F) 2).spec ⊆ Pipeline.ucRefs τ sig := Pipeline.arrRefs_sub_ucRefs spec2 winFacts2.arr_unscoped
theorem tbls2 : Pipeline.tblRefs (τ := τ) (pcfgs (F := F) 2).pre ⊆ Pipeline.ucRefs τ sig := Pipeline.tblRefs_sub_ucRefs pre2 (by decide)
set_option backward.isDefEq.respectTransparency.types false in
theorem in0 (c : Dev nD) : iprop(StableHlo.held (c : Thread nD τ) (Pipeline.ucRefs τ sig) (w1 m c) ∗ ride c) ⊢ (reg0 m).pre c :=
  by
    unfold reg0
    exact Pipeline.RegionSeg.ofHeldIn_pre (pcs := pcfgs (F := F)) (a := adms m) (pdats := pdats m) (p := (0 : Fin 3)) (D := fun _ => 0) (ι := ()) (defs₀ := defs₀) (𝒱₀ := Variants.none) (L := lev) (lv := lev0) (S := Pipeline.ucRefs τ sig)
      (X := fun c => iprop(∃ r, prngReg c r)) (Y := fun c => iprop(∃ r, prngReg c r)) (R := fun _ => iprop(emp)) (W := w1 m) arrs0 c
set_option backward.isDefEq.respectTransparency.types false in
theorem out0 (c : Dev nD) : (reg0 m).post c ⊢ iprop(StableHlo.held (c : Thread nD τ) (Pipeline.ucRefs τ sig) (w2 m c) ∗ ride c) :=
  by
    unfold reg0
    exact Pipeline.RegionSeg.ofHeldIn_post (pcs := pcfgs (F := F)) (a := adms m) (pdats := pdats m) (p := (0 : Fin 3)) (D := fun _ => 0) (ι := ()) (defs₀ := defs₀) (𝒱₀ := Variants.none) (L := lev) (lv := lev0) (S := Pipeline.ucRefs τ sig)
      (X := fun c => iprop(∃ r, prngReg c r)) (Y := fun c => iprop(∃ r, prngReg c r)) (R := fun _ => iprop(emp)) (W := w1 m) arrs0 c
set_option backward.isDefEq.respectTransparency.types false in
theorem in1 (c : Dev nD) : iprop(StableHlo.held (c : Thread nD τ) (Pipeline.ucRefs τ sig) (w3 m c) ∗ ride c) ⊢ (reg1 m).pre c :=
  by
    unfold reg1
    exact Pipeline.RegionSeg.ofHeldIn_pre (pcs := pcfgs (F := F)) (a := adms m) (pdats := pdats m) (p := (1 : Fin 3)) (D := fun _ => 0) (ι := ()) (defs₀ := defs₀) (𝒱₀ := Variants.none) (L := lev) (lv := lev0) (S := Pipeline.ucRefs τ sig)
      (X := fun c => iprop(∃ r, prngReg c r)) (Y := fun c => iprop(∃ r, prngReg c r)) (R := fun _ => iprop(emp)) (W := w3 m) arrs1 c
set_option backward.isDefEq.respectTransparency.types false in
theorem out1 (c : Dev nD) : (reg1 m).post c ⊢ iprop(StableHlo.held (c : Thread nD τ) (Pipeline.ucRefs τ sig) (w4 m c) ∗ ride c) :=
  by
    unfold reg1
    exact Pipeline.RegionSeg.ofHeldIn_post (pcs := pcfgs (F := F)) (a := adms m) (pdats := pdats m) (p := (1 : Fin 3)) (D := fun _ => 0) (ι := ()) (defs₀ := defs₀) (𝒱₀ := Variants.none) (L := lev) (lv := lev0) (S := Pipeline.ucRefs τ sig)
      (X := fun c => iprop(∃ r, prngReg c r)) (Y := fun c => iprop(∃ r, prngReg c r)) (R := fun _ => iprop(emp)) (W := w3 m) arrs1 c
set_option backward.isDefEq.respectTransparency.types false in
theorem in2 (c : Dev nD) : iprop(StableHlo.held (c : Thread nD τ) (Pipeline.ucRefs τ sig) (w11 m c) ∗ ride c) ⊢ (reg2 m).pre c :=
  by
    unfold reg2
    exact Pipeline.RegionSeg.ofHeldInT_pre (pcs := pcfgs (F := F)) (a := adms m) (pdats := pdats m) (p := (2 : Fin 3)) (D := fun _ => 0) (ι := ()) (defs₀ := defs₀) (𝒱₀ := Variants.none) (L := lev) (lv := lev0) (S := Pipeline.ucRefs τ sig)
      (X := fun c => iprop(∃ r, prngReg c r)) (Y := fun c => iprop(∃ r, prngReg c r)) (R := fun _ => iprop(emp)) (W := w11 m) arrs2 tbls2 c
set_option backward.isDefEq.respectTransparency.types false in
theorem out2 (c : Dev nD) : (reg2 m).post c ⊢ iprop(StableHlo.held (c : Thread nD τ) (Pipeline.ucRefs τ sig) (w12 m c) ∗ ride c) :=
  by
    unfold reg2
    exact Pipeline.RegionSeg.ofHeldInT_post (pcs := pcfgs (F := F)) (a := adms m) (pdats := pdats m) (p := (2 : Fin 3)) (D := fun _ => 0) (ι := ()) (defs₀ := defs₀) (𝒱₀ := Variants.none) (L := lev) (lv := lev0) (S := Pipeline.ucRefs τ sig)
      (X := fun c => iprop(∃ r, prngReg c r)) (Y := fun c => iprop(∃ r, prngReg c r)) (R := fun _ => iprop(emp)) (W := w11 m) arrs2 tbls2 c
theorem ends (c : Dev nD) : iprop(StableHlo.held (c : Thread nD τ) (Pipeline.ucRefs τ sig) (w13 m c) ∗ ride c)
    ⊢ iprop(StableHlo.held (c : Thread nD τ) (Pipeline.ucRefs τ sig) (w13 m c) ∗ ∃ Wd, owes (c : Thread nD τ) (0 : CellTallies nD τ sig Unit) Wd) := by
  iintro ⟨Hh, HO, -, -⟩
  isplitl [Hh]; · iexact Hh
  iexact HO

/-- The program's segments in order. -/
abbrev runSegs : List (Pipeline.Seg (pcfgs (F := F)) (adms m) (pdats m) () defs₀ Variants.none lev lev0) :=
  [ .host (hseg hostOps0 hostOps0_sub hostOps0_fresh (w0 m)),
    .region (reg0 m),
    .host (hseg hostOps1 hostOps1_sub hostOps1_fresh (w2 m)),
    .region (reg1 m),
    .host (hseg hostOps2 hostOps2_sub hostOps2_fresh (w4 m)),
    .host (hseg hostOps2_1 hostOps2_1_sub hostOps2_1_fresh (w5 m)),
    .host (hseg hostOps2_2 hostOps2_2_sub hostOps2_2_fresh (w6 m)),
    .host (hseg hostOps2_3 hostOps2_3_sub hostOps2_3_fresh (w7 m)),
    .host (hseg hostOps2_4 hostOps2_4_sub hostOps2_4_fresh (w8 m)),
    .host (hseg hostOps2_5 hostOps2_5_sub hostOps2_5_fresh (w9 m)),
    .host (hseg hostOps2_6 hostOps2_6_sub hostOps2_6_fresh (w10 m)),
    .region (reg2 m),
    .host (hseg hostOps3 hostOps3_sub hostOps3_fresh (w12 m)) ]

theorem main_run (c : Dev nD) : main (F := F) c = Pipeline.Seg.run (runSegs m) := (main_chain c).trans (by chain_rfl)

theorem no_unscoped : ∀ sm : SemLoc sig, sm.isScoped .tc = true := by decide

theorem mem_held (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Each segment is entered from what the one before leaves. -/
theorem chained : Pipeline.Seg.Chains (fun c => iprop(StableHlo.held (c : Thread nD τ) (Pipeline.ucRefs τ sig) (w0 m c) ∗ ride c)) (runSegs m)
    (fun c => iprop(StableHlo.held (c : Thread nD τ) (Pipeline.ucRefs τ sig) (w13 m c) ∗ ∃ Wd, owes (c : Thread nD τ) (0 : CellTallies nD τ sig Unit) Wd)) :=
  ⟨fun _ => .rfl, in0 m, out0 m, in1 m, out1 m,
      fun _ => .rfl, fun _ => .rfl, fun _ => .rfl, fun _ => .rfl, fun _ => .rfl, fun _ => .rfl,
      in2 m, out2 m, ends m⟩

/-- What the launch deals covers what the first segment is entered from. -/
theorem dealt (ρ : Dev nD → PrngReg) : iprop((bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ emp)) ∗ levAts lev lev0)
      ⊢ (|={Set.univ}=> bigSep Finset.univ (fun c : Dev nD => iprop(StableHlo.held (c : Thread nD τ) (Pipeline.ucRefs τ sig) (w0 m c) ∗ ride c)) : sProp (MK F)) := by
  refine Pipeline.initEach lev lev0 fun c => ?_
  rw [show unscopedBufs c (fun b => m ((c : Thread nD τ).loc b)) = StableHlo.held (c : Thread nD τ) (Pipeline.ucRefs τ sig) (w0 m c)
    from Pipeline.unscopedBufs_held c (w0 m c)]
  iintro ⟨⟨Hh, -, HO, -, Hp, -⟩, -⟩
  imodintro
  isplitl [Hh]; · iexact Hh
  isplitl [HO]; · iexists ∅; iexact HO
  isplitl [Hp]; · iexists _; iexact Hp
  iempintro

/-- What is held at the end is read in the final memory. -/
theorem readEnd (c : Dev nD) (s' : Phys nD τ sig (Elt F)) :
    iprop(StableHlo.held (c : Thread nD τ) (Pipeline.ucRefs τ sig) (w13 m c) ∗ SI s')
      ⊢ (|={Set.univ}=> iprop(⌜∀ b ∈ Pipeline.ucRefs τ sig, s'.mem.mem (((c : Thread nD τ)).1, b) = w13 m c b⌝ ∗ SI s') : sProp (MK F)) := by
  iintro ⟨Hh, HSI⟩
  unfold StableHlo.held
  imodintro
  iapply (pointsTo_read_all (Pipeline.ucRefs τ sig) (fun b => (((c : Thread nD τ)).1, b)) (w13 m c) s')
  isplitl [Hh] <;> iassumption

variable (ρ : Dev nD → PrngReg)

set_option backward.isDefEq.respectTransparency.types false in
/-- Every fair execution of the program ends with every buffer at the last boundary's contents and every counter at zero. -/
theorem run_whole : θ_run defs (onTc (τ := τ) (main (F := F))) ⟨m, fun _ => 0, ρ⟩ (fun r =>
      (∀ c : Dev nD, ∀ b ∈ Pipeline.ucRefs τ sig, r.2.mem (c, b) = w13 m c b) ∧ r.2.sem = fun _ => 0) :=
  Pipeline.θ_run_regions_kit_sems (pcfgs (F := F)) (adms m) (pdats m) () (cellOf_inj (adms m)) emb₁ defs₀ Variants.none lev lev0 m ρ main (runSegs m)
    (fun c Q => by rw [main_run m c])
    (by simp only [runSegs, Pipeline.Seg.pipes_host, Pipeline.Seg.pipes_region, Pipeline.Seg.pipes_nil]; decide)
    (O₀ := 0) (hL := fun g hg => if_neg hg) (G := fun _ => iprop(emp))
    (u₀ := initOf (Pipeline.cells (Pipeline.pin (pcfgs (F := F)) (adms m)) (cellOf_inj (adms m))) (Pipeline.launchToks (Pipeline.pin (pcfgs (F := F)) (adms m)) (cellOf_inj (adms m))))
    (hu₀ := by
      iintro Hu; imodintro
      isplitl [Hu]
      · iapply (show (ownU (initOf (Pipeline.cells (Pipeline.pin (pcfgs (F := F)) (adms m)) (cellOf_inj (adms m))) (Pipeline.launchToks (Pipeline.pin (pcfgs (F := F)) (adms m)) (cellOf_inj (adms m)))) : sProp (MK F))
            ⊢ BI.own (emb₁ (initOf (Pipeline.cells (Pipeline.pin (pcfgs (F := F)) (adms m)) (cellOf_inj (adms m))) (Pipeline.launchToks (Pipeline.pin (pcfgs (F := F)) (adms m)) (cellOf_inj (adms m))))) from .rfl)
        iexact Hu
      iapply (show (BI.emp : sProp (MK F)) ⊢ bigSep Finset.univ (fun _ : Dev nD => (BI.emp : sProp (MK F))) from by rw [BI.bigSep_emp_const])
      iempintro)
    (T₀ := fun c => iprop(StableHlo.held (c : Thread nD τ) (Pipeline.ucRefs τ sig) (w0 m c) ∗ ride c))
    (Tₙ := fun c => iprop(StableHlo.held (c : Thread nD τ) (Pipeline.ucRefs τ sig) (w13 m c)))
    (hch := chained m)
    (hinit := dealt m ρ)
    (QY := fun c s => ∀ b ∈ Pipeline.ucRefs τ sig, s.mem (((c : Thread nD τ)).1, b) = w13 m c b)
    (hfin := readEnd m)
    (hQ := fun s h hz => ⟨fun c b hb => h c b hb, funext fun g => hz g (.inr (no_unscoped g.2))⟩)

end Cert.KernelIdeal.Own

end
-- ==== Proof.RList.lean ====
module

public import proofs.«01_k».proof.Proof.Gen.ReferenceIdeal
public import Idealize.ShloMosaic.Lib.StableHlo.Run
public import Idealize.ShloMosaic.Lib.StableHlo.RunClose
public import Idealize.ShloMosaic.Lib.Pipeline.Frame

@[expose] public section

set_option maxRecDepth 16384

noncomputable section

namespace Cert.ReferenceIdeal.Own

open Cert.ReferenceIdeal Cert.ReferenceIdeal.Gen Idealize.ShloMosaic Idealize.ShloMosaic.TcCoe Idealize.SL.Sem Idealize.ShloMosaic.StableHlo

variable {F : FTy → Type} [FloatOps F]

/-- A list of host operations of this program. -/
abbrev Ops (F : FTy → Type) [FloatOps F] := List (HloOp τ sig (Elt F))

/-- The squared lengths, the products, the distances and their least value per patch. -/
abbrev rows : Ops F :=
  [ binary main_arg0 main_arg0 main_v0 (mulf : (⟨S784x1536, .f32⟩ : BufTy).Contents (Elt F) → (⟨S784x1536, .f32⟩ : BufTy).Contents (Elt F) → (⟨S784x1536, .f32⟩ : BufTy).Contents (Elt F)),
    nullary main_cst (constant S_ .f32 0x00000000#32),
    binary main_v0 main_cst main_v1 ((fun x v => Host.reduceAdd x v reducesTo_S784x1536_S784_d1 h_S_) : (⟨S784x1536, .f32⟩ : BufTy).Contents (Elt F) → (⟨S_, .f32⟩ : BufTy).Contents (Elt F) → (⟨S784, .f32⟩ : BufTy).Contents (Elt F)),
    unary main_v1 main_v2 (broadcastInDim S784x1 ![0] bcast_S784_S784x1_0 : (⟨S784, .f32⟩ : BufTy).Contents (Elt F) → (⟨S784x1, .f32⟩ : BufTy).Contents (Elt F)),
    binary main_arg1 main_arg1 main_v3 (mulf : (⟨S16384x1536, .f32⟩ : BufTy).Contents (Elt F) → (⟨S16384x1536, .f32⟩ : BufTy).Contents (Elt F) → (⟨S16384x1536, .f32⟩ : BufTy).Contents (Elt F)),
    nullary main_cst_0 (constant S_ .f32 0x00000000#32),
    binary main_v3 main_cst_0 main_v4 ((fun x v => Host.reduceAdd x v reducesTo_S16384x1536_S16384_d1 h_S_) : (⟨S16384x1536, .f32⟩ : BufTy).Contents (Elt F) → (⟨S_, .f32⟩ : BufTy).Contents (Elt F) → (⟨S16384, .f32⟩ : BufTy).Contents (Elt F)),
    unary main_v4 main_v5 (broadcastInDim S1x16384 ![1] bcast_S16384_S1x16384_1 : (⟨S16384, .f32⟩ : BufTy).Contents (Elt F) → (⟨S1x16384, .f32⟩ : BufTy).Contents (Elt F)),
    unary main_v2 main_v6 (broadcastInDim S784x16384 ![0, 1] bcast_S784x1_S784x16384_0_1 : (⟨S784x1, .f32⟩ : BufTy).Contents (Elt F) → (⟨S784x16384, .f32⟩ : BufTy).Contents (Elt F)),
    unary main_v5 main_v7 (broadcastInDim S784x16384 ![0, 1] bcast_S1x16384_S784x16384_0_1 : (⟨S1x16384, .f32⟩ : BufTy).Contents (Elt F) → (⟨S784x16384, .f32⟩ : BufTy).Contents (Elt F)),
    binary main_v6 main_v7 main_v8 (addf : (⟨S784x16384, .f32⟩ : BufTy).Contents (Elt F) → (⟨S784x16384, .f32⟩ : BufTy).Contents (Elt F) → (⟨S784x16384, .f32⟩ : BufTy).Contents (Elt F)),
    unary main_arg1 main_v9 ((transpose S1536x16384 [1, 0] · transposes_S16384x1536_S1536x16384_1_0) : (⟨S16384x1536, .f32⟩ : BufTy).Contents (Elt F) → (⟨S1536x16384, .f32⟩ : BufTy).Contents (Elt F)),
    binary main_arg0 main_v9 main_v10 ((fun l r => Host.dotGeneral dot_S784x1536_S1536x16384_S784x16384_1_0_0_1_n_n none l r) : (⟨S784x1536, .f32⟩ : BufTy).Contents (Elt F) → (⟨S1536x16384, .f32⟩ : BufTy).Contents (Elt F) → (⟨S784x16384, .f32⟩ : BufTy).Contents (Elt F)),
    nullary main_cst_1 (constant S_ .f32 0x40000000#32),
    unary main_cst_1 main_v11 (broadcastInDim S784x16384 ![] bcast_S_S784x16384 : (⟨S_, .f32⟩ : BufTy).Contents (Elt F) → (⟨S784x16384, .f32⟩ : BufTy).Contents (Elt F)),
    binary main_v11 main_v10 main_v12 (mulf : (⟨S784x16384, .f32⟩ : BufTy).Contents (Elt F) → (⟨S784x16384, .f32⟩ : BufTy).Contents (Elt F) → (⟨S784x16384, .f32⟩ : BufTy).Contents (Elt F)),
    binary main_v8 main_v12 main_v13 (subf : (⟨S784x16384, .f32⟩ : BufTy).Contents (Elt F) → (⟨S784x16384, .f32⟩ : BufTy).Contents (Elt F) → (⟨S784x16384, .f32⟩ : BufTy).Contents (Elt F)),
    nullary main_cst_2 (constant S_ .f32 0x00000000#32),
    unary main_cst_2 main_v14 (broadcastInDim S784x16384 ![] bcast_S_S784x16384 : (⟨S_, .f32⟩ : BufTy).Contents (Elt F) → (⟨S784x16384, .f32⟩ : BufTy).Contents (Elt F)),
    binary main_v13 main_v14 main_v15 (maximumf : (⟨S784x16384, .f32⟩ : BufTy).Contents (Elt F) → (⟨S784x16384, .f32⟩ : BufTy).Contents (Elt F) → (⟨S784x16384, .f32⟩ : BufTy).Contents (Elt F)),
    unary main_v15 main_v16 (Host.sqrt : (⟨S784x16384, .f32⟩ : BufTy).Contents (Elt F) → (⟨S784x16384, .f32⟩ : BufTy).Contents (Elt F)),
    nullary main_cst_3 (constant S_ .f32 0x7F800000#32),
    binary main_v16 main_cst_3 main_v17 ((fun x v => Host.reduce FloatOps.minimumf x v reducesTo_S784x16384_S784_d1 h_S_) : (⟨S784x16384, .f32⟩ : BufTy).Contents (Elt F) → (⟨S_, .f32⟩ : BufTy).Contents (Elt F) → (⟨S784, .f32⟩ : BufTy).Contents (Elt F)) ]

/-- The nearest row of every patch, the farthest patch and its distance. -/
abbrev picks : Ops F :=
  [ TRef.nullary (TRef.of (T := ⟨S784x16384, .i32⟩) main_call0_v0) (iotaInDim S784x16384 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S784x16384, .f32⟩) main_v16) (TRef.of (T := ⟨S784x16384, .i32⟩) main_call0_v0) (TRef.of (T := ⟨S_, .f32⟩) main_call0_cst) (TRef.of (T := ⟨S_, .i32⟩) main_call0_c) (TRef.of (T := ⟨S784, .f32⟩) main_call0_v1_0) (fun x y u v => (fun j => (Host.argReduce reducer_argmin_f32_i32 x y u v reducesTo_S784x16384_S784_d1 h_S_ j).1)),
    TRef.quaternary (TRef.of (T := ⟨S784x16384, .f32⟩) main_v16) (TRef.of (T := ⟨S784x16384, .i32⟩) main_call0_v0) (TRef.of (T := ⟨S_, .f32⟩) main_call0_cst) (TRef.of (T := ⟨S_, .i32⟩) main_call0_c) (TRef.of (T := ⟨S784, .i32⟩) main_v18) (fun x y u v => (fun j => (Host.argReduce reducer_argmin_f32_i32 x y u v reducesTo_S784x16384_S784_d1 h_S_ j).2)),
    TRef.nullary (TRef.of (T := ⟨S784, .i32⟩) main_call1_v0) (iotaInDim S784 32 0),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S784, .f32⟩) main_v17) (TRef.of (T := ⟨S784, .i32⟩) main_call1_v0) (TRef.of (T := ⟨S_, .f32⟩) main_call1_cst) (TRef.of (T := ⟨S_, .i32⟩) main_call1_c) (TRef.of (T := ⟨S_, .f32⟩) main_call1_v1_0) (fun x y u v => (fun j => (Host.argReduce reducer_argmax_f32_i32 x y u v reducesTo_S784_S_d0 h_S_ j).1)),
    TRef.quaternary (TRef.of (T := ⟨S784, .f32⟩) main_v17) (TRef.of (T := ⟨S784, .i32⟩) main_call1_v0) (TRef.of (T := ⟨S_, .f32⟩) main_call1_cst) (TRef.of (T := ⟨S_, .i32⟩) main_call1_c) (TRef.of (T := ⟨S_, .i32⟩) main_v19) (fun x y u v => (fun j => (Host.argReduce reducer_argmax_f32_i32 x y u v reducesTo_S784_S_d0 h_S_ j).2)),
    nullary main_cst_4 (constant S_ .f32 0xFF800000#32),
    binary main_v17 main_cst_4 main_v20 ((fun x v => Host.reduce FloatOps.maximumf x v reducesTo_S784_S_d0 h_S_) : (⟨S784, .f32⟩ : BufTy).Contents (Elt F) → (⟨S_, .f32⟩ : BufTy).Contents (Elt F) → (⟨S_, .f32⟩ : BufTy).Contents (Elt F)) ]

/-- The farthest patch itself. -/
abbrev patch : Ops F :=
  [ nullary main_c (constantI S_ 32 0#32),
    binary main_v19 main_c main_v21 (cmpi .slt : (⟨S_, .i32⟩ : BufTy).Contents (Elt F) → (⟨S_, .i32⟩ : BufTy).Contents (Elt F) → (⟨S_, .i1⟩ : BufTy).Contents (Elt F)),
    nullary main_c_5 (constantI S_ 32 784#32),
    binary main_v19 main_c_5 main_v22 (addi : (⟨S_, .i32⟩ : BufTy).Contents (Elt F) → (⟨S_, .i32⟩ : BufTy).Contents (Elt F) → (⟨S_, .i32⟩ : BufTy).Contents (Elt F)),
    ternary main_v21 main_v22 main_v19 main_v23 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_6 (constantI S_ 32 0#32),
    nullary main_c_7 (constantI S_ 32 0#32),
    binary main_c_6 main_c_7 main_v24 (cmpi .slt : (⟨S_, .i32⟩ : BufTy).Contents (Elt F) → (⟨S_, .i32⟩ : BufTy).Contents (Elt F) → (⟨S_, .i1⟩ : BufTy).Contents (Elt F)),
    nullary main_c_8 (constantI S_ 32 0#32),
    nullary main_c_9 (constantI S_ 32 1536#32),
    binary main_c_8 main_c_9 main_v25 (addi : (⟨S_, .i32⟩ : BufTy).Contents (Elt F) → (⟨S_, .i32⟩ : BufTy).Contents (Elt F) → (⟨S_, .i32⟩ : BufTy).Contents (Elt F)),
    nullary main_c_10 (constantI S_ 32 0#32),
    ternary main_v24 main_v25 main_c_10 main_v26 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg0 ![main_v23, main_v26] ⟨S_, .i32⟩ main_v27 ((fun x i => Host.dynamicSlice S1x1536 x (fun k => (i k (Shape.Idx.first h_S_)).toInt) sliceFits_S784x1536_S1x1536) : (⟨S784x1536, .f32⟩ : BufTy).Contents (Elt F) → (Fin 2 → (⟨S_, .i32⟩ : BufTy).Contents (Elt F)) → (⟨S1x1536, .f32⟩ : BufTy).Contents (Elt F)),
    reshape main_v27 main_v28 (rfl : (.f32 : EltTy) = .f32) shapeCasts_S1x1536_S1536,
    unary main_v28 main_v29 (broadcastInDim S1x1536 ![1] bcast_S1536_S1x1536_1 : (⟨S1536, .f32⟩ : BufTy).Contents (Elt F) → (⟨S1x1536, .f32⟩ : BufTy).Contents (Elt F)) ]

/-- The number of its nearest row. -/
abbrev nearest : Ops F :=
  [ nullary main_c_11 (constantI S_ 32 0#32),
    binary main_v19 main_c_11 main_v30 (cmpi .slt : (⟨S_, .i32⟩ : BufTy).Contents (Elt F) → (⟨S_, .i32⟩ : BufTy).Contents (Elt F) → (⟨S_, .i1⟩ : BufTy).Contents (Elt F)),
    nullary main_c_12 (constantI S_ 32 784#32),
    binary main_v19 main_c_12 main_v31 (addi : (⟨S_, .i32⟩ : BufTy).Contents (Elt F) → (⟨S_, .i32⟩ : BufTy).Contents (Elt F) → (⟨S_, .i32⟩ : BufTy).Contents (Elt F)),
    ternary main_v30 main_v31 main_v19 main_v32 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v18 ![main_v32] ⟨S_, .i32⟩ main_v33 ((fun x i => Host.dynamicSlice S1 x (fun k => (i k (Shape.Idx.first h_S_)).toInt) sliceFits_S784_S1) : (⟨S784, .i32⟩ : BufTy).Contents (Elt F) → (Fin 1 → (⟨S_, .i32⟩ : BufTy).Contents (Elt F)) → (⟨S1, .i32⟩ : BufTy).Contents (Elt F)),
    reshape main_v33 main_v34 (rfl : (.i32 : EltTy) = .i32) shapeCasts_S1_S_,
    nullary main_c_13 (constantI S_ 32 0#32),
    binary main_v34 main_c_13 main_v35 (cmpi .slt : (⟨S_, .i32⟩ : BufTy).Contents (Elt F) → (⟨S_, .i32⟩ : BufTy).Contents (Elt F) → (⟨S_, .i1⟩ : BufTy).Contents (Elt F)),
    nullary main_c_14 (constantI S_ 32 16384#32),
    binary main_v34 main_c_14 main_v36 (addi : (⟨S_, .i32⟩ : BufTy).Contents (Elt F) → (⟨S_, .i32⟩ : BufTy).Contents (Elt F) → (⟨S_, .i32⟩ : BufTy).Contents (Elt F)),
    ternary main_v35 main_v36 main_v34 main_v37 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_15 (constantI S_ 32 0#32),
    nullary main_c_16 (constantI S_ 32 0#32),
    binary main_c_15 main_c_16 main_v38 (cmpi .slt : (⟨S_, .i32⟩ : BufTy).Contents (Elt F) → (⟨S_, .i32⟩ : BufTy).Contents (Elt F) → (⟨S_, .i1⟩ : BufTy).Contents (Elt F)),
    nullary main_c_17 (constantI S_ 32 0#32),
    nullary main_c_18 (constantI S_ 32 1536#32) ]

/-- That row. -/
abbrev center : Ops F :=
  [ binary main_c_17 main_c_18 main_v39 (addi : (⟨S_, .i32⟩ : BufTy).Contents (Elt F) → (⟨S_, .i32⟩ : BufTy).Contents (Elt F) → (⟨S_, .i32⟩ : BufTy).Contents (Elt F)),
    nullary main_c_19 (constantI S_ 32 0#32),
    ternary main_v38 main_v39 main_c_19 main_v40 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg1 ![main_v37, main_v40] ⟨S_, .i32⟩ main_v41 ((fun x i => Host.dynamicSlice S1x1536 x (fun k => (i k (Shape.Idx.first h_S_)).toInt) sliceFits_S16384x1536_S1x1536) : (⟨S16384x1536, .f32⟩ : BufTy).Contents (Elt F) → (Fin 2 → (⟨S_, .i32⟩ : BufTy).Contents (Elt F)) → (⟨S1x1536, .f32⟩ : BufTy).Contents (Elt F)),
    reshape main_v41 main_v42 (rfl : (.f32 : EltTy) = .f32) shapeCasts_S1x1536_S1536,
    unary main_v42 main_v43 (broadcastInDim S1x1536 ![1] bcast_S1536_S1x1536_1 : (⟨S1536, .f32⟩ : BufTy).Contents (Elt F) → (⟨S1x1536, .f32⟩ : BufTy).Contents (Elt F)) ]

/-- Its distances to the whole library, and their negatives. -/
abbrev around : Ops F :=
  [ binary main_v43 main_v43 main_v44 (mulf : (⟨S1x1536, .f32⟩ : BufTy).Contents (Elt F) → (⟨S1x1536, .f32⟩ : BufTy).Contents (Elt F) → (⟨S1x1536, .f32⟩ : BufTy).Contents (Elt F)),
    nullary main_cst_20 (constant S_ .f32 0x00000000#32),
    binary main_v44 main_cst_20 main_v45 ((fun x v => Host.reduceAdd x v reducesTo_S1x1536_S1_d1 h_S_) : (⟨S1x1536, .f32⟩ : BufTy).Contents (Elt F) → (⟨S_, .f32⟩ : BufTy).Contents (Elt F) → (⟨S1, .f32⟩ : BufTy).Contents (Elt F)),
    unary main_v45 main_v46 (broadcastInDim S1x1 ![0] bcast_S1_S1x1_0 : (⟨S1, .f32⟩ : BufTy).Contents (Elt F) → (⟨S1x1, .f32⟩ : BufTy).Contents (Elt F)),
    binary main_arg1 main_arg1 main_v47 (mulf : (⟨S16384x1536, .f32⟩ : BufTy).Contents (Elt F) → (⟨S16384x1536, .f32⟩ : BufTy).Contents (Elt F) → (⟨S16384x1536, .f32⟩ : BufTy).Contents (Elt F)),
    nullary main_cst_21 (constant S_ .f32 0x00000000#32),
    binary main_v47 main_cst_21 main_v48 ((fun x v => Host.reduceAdd x v reducesTo_S16384x1536_S16384_d1 h_S_) : (⟨S16384x1536, .f32⟩ : BufTy).Contents (Elt F) → (⟨S_, .f32⟩ : BufTy).Contents (Elt F) → (⟨S16384, .f32⟩ : BufTy).Contents (Elt F)),
    unary main_v48 main_v49 (broadcastInDim S1x16384 ![1] bcast_S16384_S1x16384_1 : (⟨S16384, .f32⟩ : BufTy).Contents (Elt F) → (⟨S1x16384, .f32⟩ : BufTy).Contents (Elt F)),
    unary main_v46 main_v50 (broadcastInDim S1x16384 ![0, 1] bcast_S1x1_S1x16384_0_1 : (⟨S1x1, .f32⟩ : BufTy).Contents (Elt F) → (⟨S1x16384, .f32⟩ : BufTy).Contents (Elt F)),
    binary main_v50 main_v49 main_v51 (addf : (⟨S1x16384, .f32⟩ : BufTy).Contents (Elt F) → (⟨S1x16384, .f32⟩ : BufTy).Contents (Elt F) → (⟨S1x16384, .f32⟩ : BufTy).Contents (Elt F)),
    unary main_arg1 main_v52 ((transpose S1536x16384 [1, 0] · transposes_S16384x1536_S1536x16384_1_0) : (⟨S16384x1536, .f32⟩ : BufTy).Contents (Elt F) → (⟨S1536x16384, .f32⟩ : BufTy).Contents (Elt F)),
    binary main_v43 main_v52 main_v53 ((fun l r => Host.dotGeneral dot_S1x1536_S1536x16384_S1x16384_1_0_0_1_n_n none l r) : (⟨S1x1536, .f32⟩ : BufTy).Contents (Elt F) → (⟨S1536x16384, .f32⟩ : BufTy).Contents (Elt F) → (⟨S1x16384, .f32⟩ : BufTy).Contents (Elt F)),
    nullary main_cst_22 (constant S_ .f32 0x40000000#32),
    unary main_cst_22 main_v54 (broadcastInDim S1x16384 ![] bcast_S_S1x16384 : (⟨S_, .f32⟩ : BufTy).Contents (Elt F) → (⟨S1x16384, .f32⟩ : BufTy).Contents (Elt F)),
    binary main_v54 main_v53 main_v55 (mulf : (⟨S1x16384, .f32⟩ : BufTy).Contents (Elt F) → (⟨S1x16384, .f32⟩ : BufTy).Contents (Elt F) → (⟨S1x16384, .f32⟩ : BufTy).Contents (Elt F)),
    binary main_v51 main_v55 main_v56 (subf : (⟨S1x16384, .f32⟩ : BufTy).Contents (Elt F) → (⟨S1x16384, .f32⟩ : BufTy).Contents (Elt F) → (⟨S1x16384, .f32⟩ : BufTy).Contents (Elt F)),
    nullary main_cst_23 (constant S_ .f32 0x00000000#32),
    unary main_cst_23 main_v57 (broadcastInDim S1x16384 ![] bcast_S_S1x16384 : (⟨S_, .f32⟩ : BufTy).Contents (Elt F) → (⟨S1x16384, .f32⟩ : BufTy).Contents (Elt F)),
    binary main_v56 main_v57 main_v58 (maximumf : (⟨S1x16384, .f32⟩ : BufTy).Contents (Elt F) → (⟨S1x16384, .f32⟩ : BufTy).Contents (Elt F) → (⟨S1x16384, .f32⟩ : BufTy).Contents (Elt F)),
    unary main_v58 main_v59 (Host.sqrt : (⟨S1x16384, .f32⟩ : BufTy).Contents (Elt F) → (⟨S1x16384, .f32⟩ : BufTy).Contents (Elt F)),
    unary main_v59 main_v60 (Host.negf : (⟨S1x16384, .f32⟩ : BufTy).Contents (Elt F) → (⟨S1x16384, .f32⟩ : BufTy).Contents (Elt F)) ]

/-- The two rows that follow it in that order, and the patch less each of them. -/
abbrev next : Ops F :=
  [ unary main_v60 main_values ((fun x => (Host.topK S1x3 1 (FloatOps.cmpfTotal .gt) x sliceFits_S1x16384_S1x3).1) : (⟨S1x16384, .f32⟩ : BufTy).Contents (Elt F) → (⟨S1x3, .f32⟩ : BufTy).Contents (Elt F)),
    unary main_v60 main_indices ((fun x => (Host.topK S1x3 1 (FloatOps.cmpfTotal .gt) x sliceFits_S1x16384_S1x3).2) : (⟨S1x16384, .f32⟩ : BufTy).Contents (Elt F) → (⟨S1x3, .i32⟩ : BufTy).Contents (Elt F)),
    unary main_indices main_v61 ((extractStridedSlice S1x2 ![0, 1] · slices_S1x3_S1x2_0_1) : (⟨S1x3, .i32⟩ : BufTy).Contents (Elt F) → (⟨S1x2, .i32⟩ : BufTy).Contents (Elt F)),
    reshape main_v61 main_v62 (rfl : (.i32 : EltTy) = .i32) shapeCasts_S1x2_S2,
    nullary main_c_24 (constantI S_ 32 0#32),
    unary main_c_24 main_v63 (broadcastInDim S2 ![] bcast_S_S2 : (⟨S_, .i32⟩ : BufTy).Contents (Elt F) → (⟨S2, .i32⟩ : BufTy).Contents (Elt F)),
    binary main_v62 main_v63 main_v64 (cmpi .slt : (⟨S2, .i32⟩ : BufTy).Contents (Elt F) → (⟨S2, .i32⟩ : BufTy).Contents (Elt F) → (⟨S2, .i1⟩ : BufTy).Contents (Elt F)),
    nullary main_c_25 (constantI S_ 32 16384#32),
    unary main_c_25 main_v65 (broadcastInDim S2 ![] bcast_S_S2 : (⟨S_, .i32⟩ : BufTy).Contents (Elt F) → (⟨S2, .i32⟩ : BufTy).Contents (Elt F)),
    binary main_v62 main_v65 main_v66 (addi : (⟨S2, .i32⟩ : BufTy).Contents (Elt F) → (⟨S2, .i32⟩ : BufTy).Contents (Elt F) → (⟨S2, .i32⟩ : BufTy).Contents (Elt F)),
    ternary main_v64 main_v66 main_v62 main_v67 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v67 main_v68 (broadcastInDim S2x1 ![0] bcast_S2_S2x1_0 : (⟨S2, .i32⟩ : BufTy).Contents (Elt F) → (⟨S2x1, .i32⟩ : BufTy).Contents (Elt F)),
    binary main_arg1 main_v68 main_v69 ((fun x i => Host.gather gather_S16384x1536_S2x1_S2x1536_1_0_n_n_0_1_11536 x i) : (⟨S16384x1536, .f32⟩ : BufTy).Contents (Elt F) → (⟨S2x1, .i32⟩ : BufTy).Contents (Elt F) → (⟨S2x1536, .f32⟩ : BufTy).Contents (Elt F)),
    unary main_v29 main_v70 (broadcastInDim S2x1536 ![0, 1] bcast_S1x1536_S2x1536_0_1 : (⟨S1x1536, .f32⟩ : BufTy).Contents (Elt F) → (⟨S2x1536, .f32⟩ : BufTy).Contents (Elt F)),
    binary main_v70 main_v69 main_v71 (subf : (⟨S2x1536, .f32⟩ : BufTy).Contents (Elt F) → (⟨S2x1536, .f32⟩ : BufTy).Contents (Elt F) → (⟨S2x1536, .f32⟩ : BufTy).Contents (Elt F)) ]

/-- The score; and the least distances as an image. -/
abbrev score : Ops F :=
  [ TRef.binary (TRef.of (T := ⟨S2x1536, .f32⟩) main_v71) (TRef.of (T := ⟨S2x1536, .f32⟩) main_v71) (TRef.of (T := ⟨S2x1536, .f32⟩) main_call2_v0) mulf,
    TRef.nullary (TRef.of (T := ⟨S_, .f32⟩) main_call2_cst) (constant S_ .f32 0x00000000#32),
    TRef.binary (TRef.of (T := ⟨S2x1536, .f32⟩) main_call2_v0) (TRef.of (T := ⟨S_, .f32⟩) main_call2_cst) (TRef.of (T := ⟨S2, .f32⟩) main_call2_v1) (fun x v => Host.reduceAdd x v reducesTo_S2x1536_S2_d1 h_S_),
    TRef.unary (TRef.of (T := ⟨S2, .f32⟩) main_call2_v1) (TRef.of (T := ⟨S2, .f32⟩) main_v72) Host.sqrt,
    nullary main_cst_26 (constant S_ .f32 0x44C00000#32),
    unary main_cst_26 main_v73 (Host.sqrt : (⟨S_, .f32⟩ : BufTy).Contents (Elt F) → (⟨S_, .f32⟩ : BufTy).Contents (Elt F)),
    binary main_v20 main_v73 main_v74 (Host.divf : (⟨S_, .f32⟩ : BufTy).Contents (Elt F) → (⟨S_, .f32⟩ : BufTy).Contents (Elt F) → (⟨S_, .f32⟩ : BufTy).Contents (Elt F)),
    unary main_v74 main_v75 (Host.exp : (⟨S_, .f32⟩ : BufTy).Contents (Elt F) → (⟨S_, .f32⟩ : BufTy).Contents (Elt F)),
    unary main_v73 main_v76 (broadcastInDim S2 ![] bcast_S_S2 : (⟨S_, .f32⟩ : BufTy).Contents (Elt F) → (⟨S2, .f32⟩ : BufTy).Contents (Elt F)),
    binary main_v72 main_v76 main_v77 (Host.divf : (⟨S2, .f32⟩ : BufTy).Contents (Elt F) → (⟨S2, .f32⟩ : BufTy).Contents (Elt F) → (⟨S2, .f32⟩ : BufTy).Contents (Elt F)),
    unary main_v77 main_v78 (Host.exp : (⟨S2, .f32⟩ : BufTy).Contents (Elt F) → (⟨S2, .f32⟩ : BufTy).Contents (Elt F)),
    nullary main_cst_27 (constant S_ .f32 0x00000000#32),
    binary main_v78 main_cst_27 main_v79 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    binary main_v75 main_v79 main_v80 (Host.divf : (⟨S_, .f32⟩ : BufTy).Contents (Elt F) → (⟨S_, .f32⟩ : BufTy).Contents (Elt F) → (⟨S_, .f32⟩ : BufTy).Contents (Elt F)),
    nullary main_cst_28 (constant S_ .f32 0x3F800000#32),
    binary main_cst_28 main_v80 main_v81 (subf : (⟨S_, .f32⟩ : BufTy).Contents (Elt F) → (⟨S_, .f32⟩ : BufTy).Contents (Elt F) → (⟨S_, .f32⟩ : BufTy).Contents (Elt F)),
    binary main_v81 main_v20 main_v82 (mulf : (⟨S_, .f32⟩ : BufTy).Contents (Elt F) → (⟨S_, .f32⟩ : BufTy).Contents (Elt F) → (⟨S_, .f32⟩ : BufTy).Contents (Elt F)),
    reshape main_v17 main_v83 (rfl : (.f32 : EltTy) = .f32) shapeCasts_S784_S1x1x28x28 ]

/-- The weights along the first image axis. -/
abbrev left : Ops F :=
  [ TRef.nullary (TRef.of (T := ⟨S_, .f32⟩) main_call3_cst) (constant S_ .f32 0x3E000000#32),
    TRef.nullary (TRef.of (T := ⟨S_, .f32⟩) main_call3_cst_0) (constant S_ .f32 0x3F800000#32),
    TRef.binary (TRef.of (T := ⟨S_, .f32⟩) main_call3_cst) (TRef.of (T := ⟨S_, .f32⟩) main_call3_cst_0) (TRef.of (T := ⟨S_, .f32⟩) main_call3_v0) maximumf,
    TRef.nullary (TRef.of (T := ⟨S224, .f32⟩) main_call3_v1) (sitofp .f32 (iotaInDim S224 32 0)),
    TRef.nullary (TRef.of (T := ⟨S_, .f32⟩) main_call3_cst_1) (constant S_ .f32 0x3F000000#32),
    TRef.unary (TRef.of (T := ⟨S_, .f32⟩) main_call3_cst_1) (TRef.of (T := ⟨S224, .f32⟩) main_call3_v2) (broadcastInDim S224 ![] bcast_S_S224),
    TRef.binary (TRef.of (T := ⟨S224, .f32⟩) main_call3_v1) (TRef.of (T := ⟨S224, .f32⟩) main_call3_v2) (TRef.of (T := ⟨S224, .f32⟩) main_call3_v3) addf,
    TRef.nullary (TRef.of (T := ⟨S_, .f32⟩) main_call3_cst_2) (constant S_ .f32 0x3E000000#32),
    TRef.unary (TRef.of (T := ⟨S_, .f32⟩) main_call3_cst_2) (TRef.of (T := ⟨S224, .f32⟩) main_call3_v4) (broadcastInDim S224 ![] bcast_S_S224),
    TRef.binary (TRef.of (T := ⟨S224, .f32⟩) main_call3_v3) (TRef.of (T := ⟨S224, .f32⟩) main_call3_v4) (TRef.of (T := ⟨S224, .f32⟩) main_call3_v5) mulf,
    TRef.nullary (TRef.of (T := ⟨S_, .f32⟩) main_call3_cst_3) (constant S_ .f32 0x00000000#32),
    TRef.unary (TRef.of (T := ⟨S_, .f32⟩) main_call3_cst_3) (TRef.of (T := ⟨S224, .f32⟩) main_call3_v6) (broadcastInDim S224 ![] bcast_S_S224),
    TRef.binary (TRef.of (T := ⟨S224, .f32⟩) main_call3_v5) (TRef.of (T := ⟨S224, .f32⟩) main_call3_v6) (TRef.of (T := ⟨S224, .f32⟩) main_call3_v7) subf,
    TRef.nullary (TRef.of (T := ⟨S_, .f32⟩) main_call3_cst_4) (constant S_ .f32 0x3F000000#32),
    TRef.unary (TRef.of (T := ⟨S_, .f32⟩) main_call3_cst_4) (TRef.of (T := ⟨S224, .f32⟩) main_call3_v8) (broadcastInDim S224 ![] bcast_S_S224),
    TRef.binary (TRef.of (T := ⟨S224, .f32⟩) main_call3_v7) (TRef.of (T := ⟨S224, .f32⟩) main_call3_v8) (TRef.of (T := ⟨S224, .f32⟩) main_call3_v9) subf,
    TRef.nullary (TRef.of (T := ⟨S28, .f32⟩) main_call3_v10) (sitofp .f32 (iotaInDim S28 32 0)),
    TRef.unary (TRef.of (T := ⟨S224, .f32⟩) main_call3_v9) (TRef.of (T := ⟨S1x224, .f32⟩) main_call3_v11) (broadcastInDim S1x224 ![1] bcast_S224_S1x224_1),
    TRef.unary (TRef.of (T := ⟨S28, .f32⟩) main_call3_v10) (TRef.of (T := ⟨S28x1, .f32⟩) main_call3_v12) (broadcastInDim S28x1 ![0] bcast_S28_S28x1_0),
    TRef.unary (TRef.of (T := ⟨S1x224, .f32⟩) main_call3_v11) (TRef.of (T := ⟨S28x224, .f32⟩) main_call3_v13) (broadcastInDim S28x224 ![0, 1] bcast_S1x224_S28x224_0_1),
    TRef.unary (TRef.of (T := ⟨S28x1, .f32⟩) main_call3_v12) (TRef.of (T := ⟨S28x224, .f32⟩) main_call3_v14) (broadcastInDim S28x224 ![0, 1] bcast_S28x1_S28x224_0_1),
    TRef.binary (TRef.of (T := ⟨S28x224, .f32⟩) main_call3_v13) (TRef.of (T := ⟨S28x224, .f32⟩) main_call3_v14) (TRef.of (T := ⟨S28x224, .f32⟩) main_call3_v15) subf,
    TRef.unary (TRef.of (T := ⟨S28x224, .f32⟩) main_call3_v15) (TRef.of (T := ⟨S28x224, .f32⟩) main_call3_v16) Host.absf,
    TRef.unary (TRef.of (T := ⟨S_, .f32⟩) main_call3_v0) (TRef.of (T := ⟨S_, .f32⟩) main_call3_v17) id,
    TRef.unary (TRef.of (T := ⟨S_, .f32⟩) main_call3_v17) (TRef.of (T := ⟨S28x224, .f32⟩) main_call3_v18) (broadcastInDim S28x224 ![] bcast_S_S28x224),
    TRef.binary (TRef.of (T := ⟨S28x224, .f32⟩) main_call3_v16) (TRef.of (T := ⟨S28x224, .f32⟩) main_call3_v18) (TRef.of (T := ⟨S28x224, .f32⟩) main_call3_v19) Host.divf,
    TRef.unary (TRef.of (T := ⟨S28x224, .f32⟩) main_call3_v19) (TRef.of (T := ⟨S28x224, .f32⟩) main_call3_v20) Host.absf,
    TRef.nullary (TRef.of (T := ⟨S_, .f32⟩) main_call3_cst_5) (constant S_ .f32 0x3F800000#32),
    TRef.unary (TRef.of (T := ⟨S_, .f32⟩) main_call3_cst_5) (TRef.of (T := ⟨S28x224, .f32⟩) main_call3_v21) (broadcastInDim S28x224 ![] bcast_S_S28x224),
    TRef.binary (TRef.of (T := ⟨S28x224, .f32⟩) main_call3_v21) (TRef.of (T := ⟨S28x224, .f32⟩) main_call3_v20) (TRef.of (T := ⟨S28x224, .f32⟩) main_call3_v22) subf,
    TRef.nullary (TRef.of (T := ⟨S_, .f32⟩) main_call3_cst_6) (constant S_ .f32 0x00000000#32),
    TRef.unary (TRef.of (T := ⟨S_, .f32⟩) main_call3_cst_6) (TRef.of (T := ⟨S28x224, .f32⟩) main_call3_v23) (broadcastInDim S28x224 ![] bcast_S_S28x224),
    TRef.binary (TRef.of (T := ⟨S28x224, .f32⟩) main_call3_v23) (TRef.of (T := ⟨S28x224, .f32⟩) main_call3_v22) (TRef.of (T := ⟨S28x224, .f32⟩) main_call3_v24) maximumf,
    TRef.nullary (TRef.of (T := ⟨S_, .f32⟩) main_call3_cst_7) (constant S_ .f32 0x00000000#32),
    TRef.binary (TRef.of (T := ⟨S28x224, .f32⟩) main_call3_v24) (TRef.of (T := ⟨S_, .f32⟩) main_call3_cst_7) (TRef.of (T := ⟨S224, .f32⟩) main_call3_v25) (fun x v => Host.reduceAdd x v reducesTo_S28x224_S224_d0 h_S_),
    TRef.unary (TRef.of (T := ⟨S224, .f32⟩) main_call3_v25) (TRef.of (T := ⟨S1x224, .f32⟩) main_call3_v26) (broadcastInDim S1x224 ![1] bcast_S224_S1x224_1),
    TRef.unary (TRef.of (T := ⟨S1x224, .f32⟩) main_call3_v26) (TRef.of (T := ⟨S1x224, .f32⟩) main_call3_v27) Host.absf,
    TRef.nullary (TRef.of (T := ⟨S_, .f32⟩) main_call3_cst_8) (constant S_ .f32 0x38FA0000#32),
    TRef.unary (TRef.of (T := ⟨S_, .f32⟩) main_call3_cst_8) (TRef.of (T := ⟨S1x224, .f32⟩) main_call3_v28) (broadcastInDim S1x224 ![] bcast_S_S1x224),
    TRef.binary (TRef.of (T := ⟨S1x224, .f32⟩) main_call3_v27) (TRef.of (T := ⟨S1x224, .f32⟩) main_call3_v28) (TRef.of (T := ⟨S1x224, .i1⟩) main_call3_v29) (cmpf .ogt),
    TRef.nullary (TRef.of (T := ⟨S_, .f32⟩) main_call3_cst_9) (constant S_ .f32 0x00000000#32),
    TRef.unary (TRef.of (T := ⟨S_, .f32⟩) main_call3_cst_9) (TRef.of (T := ⟨S1x224, .f32⟩) main_call3_v30) (broadcastInDim S1x224 ![] bcast_S_S1x224),
    TRef.binary (TRef.of (T := ⟨S1x224, .f32⟩) main_call3_v26) (TRef.of (T := ⟨S1x224, .f32⟩) main_call3_v30) (TRef.of (T := ⟨S1x224, .i1⟩) main_call3_v31) (cmpf .une),
    TRef.nullary (TRef.of (T := ⟨S_, .i32⟩) main_call3_c) (constantI S_ 32 1#32),
    TRef.unary (TRef.of (T := ⟨S_, .i32⟩) main_call3_c) (TRef.of (T := ⟨S_, .f32⟩) main_call3_call0_v0) (sitofp .f32),
    TRef.unary (TRef.of (T := ⟨S_, .f32⟩) main_call3_call0_v0) (TRef.of (T := ⟨S1x224, .f32⟩) main_call3_call0_v1) (broadcastInDim S1x224 ![] bcast_S_S1x224),
    TRef.ternary (TRef.of (T := ⟨S1x224, .i1⟩) main_call3_v31) (TRef.of (T := ⟨S1x224, .f32⟩) main_call3_v26) (TRef.of (T := ⟨S1x224, .f32⟩) main_call3_call0_v1) (TRef.of (T := ⟨S1x224, .f32⟩) main_call3_v32) select,
    TRef.unary (TRef.of (T := ⟨S1x224, .f32⟩) main_call3_v32) (TRef.of (T := ⟨S28x224, .f32⟩) main_call3_v33) (broadcastInDim S28x224 ![0, 1] bcast_S1x224_S28x224_0_1),
    TRef.binary (TRef.of (T := ⟨S28x224, .f32⟩) main_call3_v24) (TRef.of (T := ⟨S28x224, .f32⟩) main_call3_v33) (TRef.of (T := ⟨S28x224, .f32⟩) main_call3_v34) Host.divf,
    TRef.nullary (TRef.of (T := ⟨S_, .i32⟩) main_call3_c_10) (constantI S_ 32 0#32),
    TRef.unary (TRef.of (T := ⟨S_, .i32⟩) main_call3_c_10) (TRef.of (T := ⟨S_, .f32⟩) main_call3_call1_v0) (sitofp .f32),
    TRef.unary (TRef.of (T := ⟨S1x224, .i1⟩) main_call3_v29) (TRef.of (T := ⟨S28x224, .i1⟩) main_call3_call1_v1) (broadcastInDim S28x224 ![0, 1] bcast_S1x224_S28x224_0_1),
    TRef.unary (TRef.of (T := ⟨S_, .f32⟩) main_call3_call1_v0) (TRef.of (T := ⟨S28x224, .f32⟩) main_call3_call1_v2) (broadcastInDim S28x224 ![] bcast_S_S28x224),
    TRef.ternary (TRef.of (T := ⟨S28x224, .i1⟩) main_call3_call1_v1) (TRef.of (T := ⟨S28x224, .f32⟩) main_call3_v34) (TRef.of (T := ⟨S28x224, .f32⟩) main_call3_call1_v2) (TRef.of (T := ⟨S28x224, .f32⟩) main_call3_v35) select,
    TRef.nullary (TRef.of (T := ⟨S_, .f32⟩) main_call3_cst_11) (constant S_ .f32 0xBF000000#32),
    TRef.unary (TRef.of (T := ⟨S_, .f32⟩) main_call3_cst_11) (TRef.of (T := ⟨S224, .f32⟩) main_call3_v36) (broadcastInDim S224 ![] bcast_S_S224),
    TRef.binary (TRef.of (T := ⟨S224, .f32⟩) main_call3_v9) (TRef.of (T := ⟨S224, .f32⟩) main_call3_v36) (TRef.of (T := ⟨S224, .i1⟩) main_call3_v37) (cmpf .oge),
    TRef.nullary (TRef.of (T := ⟨S_, .f32⟩) main_call3_cst_12) (constant S_ .f32 0x41DC0000#32),
    TRef.unary (TRef.of (T := ⟨S_, .f32⟩) main_call3_cst_12) (TRef.of (T := ⟨S224, .f32⟩) main_call3_v38) (broadcastInDim S224 ![] bcast_S_S224),
    TRef.binary (TRef.of (T := ⟨S224, .f32⟩) main_call3_v9) (TRef.of (T := ⟨S224, .f32⟩) main_call3_v38) (TRef.of (T := ⟨S224, .i1⟩) main_call3_v39) (cmpf .ole),
    TRef.binary (TRef.of (T := ⟨S224, .i1⟩) main_call3_v37) (TRef.of (T := ⟨S224, .i1⟩) main_call3_v39) (TRef.of (T := ⟨S224, .i1⟩) main_call3_v40) andi,
    TRef.unary (TRef.of (T := ⟨S224, .i1⟩) main_call3_v40) (TRef.of (T := ⟨S1x224, .i1⟩) main_call3_v41) (broadcastInDim S1x224 ![1] bcast_S224_S1x224_1),
    TRef.nullary (TRef.of (T := ⟨S_, .i32⟩) main_call3_c_13) (constantI S_ 32 0#32),
    TRef.unary (TRef.of (T := ⟨S_, .i32⟩) main_call3_c_13) (TRef.of (T := ⟨S_, .f32⟩) main_call3_call2_v0) (sitofp .f32),
    TRef.unary (TRef.of (T := ⟨S1x224, .i1⟩) main_call3_v41) (TRef.of (T := ⟨S28x224, .i1⟩) main_call3_call2_v1) (broadcastInDim S28x224 ![0, 1] bcast_S1x224_S28x224_0_1),
    TRef.unary (TRef.of (T := ⟨S_, .f32⟩) main_call3_call2_v0) (TRef.of (T := ⟨S28x224, .f32⟩) main_call3_call2_v2) (broadcastInDim S28x224 ![] bcast_S_S28x224),
    TRef.ternary (TRef.of (T := ⟨S28x224, .i1⟩) main_call3_call2_v1) (TRef.of (T := ⟨S28x224, .f32⟩) main_call3_v35) (TRef.of (T := ⟨S28x224, .f32⟩) main_call3_call2_v2) (TRef.of (T := ⟨S28x224, .f32⟩) main_call3_v42) select ]

/-- The weights along the second image axis. -/
abbrev right : Ops F :=
  [ TRef.nullary (TRef.of (T := ⟨S_, .f32⟩) main_call3_cst_14) (constant S_ .f32 0x3E000000#32),
    TRef.nullary (TRef.of (T := ⟨S_, .f32⟩) main_call3_cst_15) (constant S_ .f32 0x3F800000#32),
    TRef.binary (TRef.of (T := ⟨S_, .f32⟩) main_call3_cst_14) (TRef.of (T := ⟨S_, .f32⟩) main_call3_cst_15) (TRef.of (T := ⟨S_, .f32⟩) main_call3_v43) maximumf,
    TRef.nullary (TRef.of (T := ⟨S224, .f32⟩) main_call3_v44) (sitofp .f32 (iotaInDim S224 32 0)),
    TRef.nullary (TRef.of (T := ⟨S_, .f32⟩) main_call3_cst_16) (constant S_ .f32 0x3F000000#32),
    TRef.unary (TRef.of (T := ⟨S_, .f32⟩) main_call3_cst_16) (TRef.of (T := ⟨S224, .f32⟩) main_call3_v45) (broadcastInDim S224 ![] bcast_S_S224),
    TRef.binary (TRef.of (T := ⟨S224, .f32⟩) main_call3_v44) (TRef.of (T := ⟨S224, .f32⟩) main_call3_v45) (TRef.of (T := ⟨S224, .f32⟩) main_call3_v46) addf,
    TRef.nullary (TRef.of (T := ⟨S_, .f32⟩) main_call3_cst_17) (constant S_ .f32 0x3E000000#32),
    TRef.unary (TRef.of (T := ⟨S_, .f32⟩) main_call3_cst_17) (TRef.of (T := ⟨S224, .f32⟩) main_call3_v47) (broadcastInDim S224 ![] bcast_S_S224),
    TRef.binary (TRef.of (T := ⟨S224, .f32⟩) main_call3_v46) (TRef.of (T := ⟨S224, .f32⟩) main_call3_v47) (TRef.of (T := ⟨S224, .f32⟩) main_call3_v48) mulf,
    TRef.nullary (TRef.of (T := ⟨S_, .f32⟩) main_call3_cst_18) (constant S_ .f32 0x00000000#32),
    TRef.unary (TRef.of (T := ⟨S_, .f32⟩) main_call3_cst_18) (TRef.of (T := ⟨S224, .f32⟩) main_call3_v49) (broadcastInDim S224 ![] bcast_S_S224),
    TRef.binary (TRef.of (T := ⟨S224, .f32⟩) main_call3_v48) (TRef.of (T := ⟨S224, .f32⟩) main_call3_v49) (TRef.of (T := ⟨S224, .f32⟩) main_call3_v50) subf,
    TRef.nullary (TRef.of (T := ⟨S_, .f32⟩) main_call3_cst_19) (constant S_ .f32 0x3F000000#32),
    TRef.unary (TRef.of (T := ⟨S_, .f32⟩) main_call3_cst_19) (TRef.of (T := ⟨S224, .f32⟩) main_call3_v51) (broadcastInDim S224 ![] bcast_S_S224),
    TRef.binary (TRef.of (T := ⟨S224, .f32⟩) main_call3_v50) (TRef.of (T := ⟨S224, .f32⟩) main_call3_v51) (TRef.of (T := ⟨S224, .f32⟩) main_call3_v52) subf,
    TRef.nullary (TRef.of (T := ⟨S28, .f32⟩) main_call3_v53) (sitofp .f32 (iotaInDim S28 32 0)),
    TRef.unary (TRef.of (T := ⟨S224, .f32⟩) main_call3_v52) (TRef.of (T := ⟨S1x224, .f32⟩) main_call3_v54) (broadcastInDim S1x224 ![1] bcast_S224_S1x224_1),
    TRef.unary (TRef.of (T := ⟨S28, .f32⟩) main_call3_v53) (TRef.of (T := ⟨S28x1, .f32⟩) main_call3_v55) (broadcastInDim S28x1 ![0] bcast_S28_S28x1_0),
    TRef.unary (TRef.of (T := ⟨S1x224, .f32⟩) main_call3_v54) (TRef.of (T := ⟨S28x224, .f32⟩) main_call3_v56) (broadcastInDim S28x224 ![0, 1] bcast_S1x224_S28x224_0_1),
    TRef.unary (TRef.of (T := ⟨S28x1, .f32⟩) main_call3_v55) (TRef.of (T := ⟨S28x224, .f32⟩) main_call3_v57) (broadcastInDim S28x224 ![0, 1] bcast_S28x1_S28x224_0_1),
    TRef.binary (TRef.of (T := ⟨S28x224, .f32⟩) main_call3_v56) (TRef.of (T := ⟨S28x224, .f32⟩) main_call3_v57) (TRef.of (T := ⟨S28x224, .f32⟩) main_call3_v58) subf,
    TRef.unary (TRef.of (T := ⟨S28x224, .f32⟩) main_call3_v58) (TRef.of (T := ⟨S28x224, .f32⟩) main_call3_v59) Host.absf,
    TRef.unary (TRef.of (T := ⟨S_, .f32⟩) main_call3_v43) (TRef.of (T := ⟨S_, .f32⟩) main_call3_v60) id,
    TRef.unary (TRef.of (T := ⟨S_, .f32⟩) main_call3_v60) (TRef.of (T := ⟨S28x224, .f32⟩) main_call3_v61) (broadcastInDim S28x224 ![] bcast_S_S28x224),
    TRef.binary (TRef.of (T := ⟨S28x224, .f32⟩) main_call3_v59) (TRef.of (T := ⟨S28x224, .f32⟩) main_call3_v61) (TRef.of (T := ⟨S28x224, .f32⟩) main_call3_v62) Host.divf,
    TRef.unary (TRef.of (T := ⟨S28x224, .f32⟩) main_call3_v62) (TRef.of (T := ⟨S28x224, .f32⟩) main_call3_v63) Host.absf,
    TRef.nullary (TRef.of (T := ⟨S_, .f32⟩) main_call3_cst_20) (constant S_ .f32 0x3F800000#32),
    TRef.unary (TRef.of (T := ⟨S_, .f32⟩) main_call3_cst_20) (TRef.of (T := ⟨S28x224, .f32⟩) main_call3_v64) (broadcastInDim S28x224 ![] bcast_S_S28x224),
    TRef.binary (TRef.of (T := ⟨S28x224, .f32⟩) main_call3_v64) (TRef.of (T := ⟨S28x224, .f32⟩) main_call3_v63) (TRef.of (T := ⟨S28x224, .f32⟩) main_call3_v65) subf,
    TRef.nullary (TRef.of (T := ⟨S_, .f32⟩) main_call3_cst_21) (constant S_ .f32 0x00000000#32),
    TRef.unary (TRef.of (T := ⟨S_, .f32⟩) main_call3_cst_21) (TRef.of (T := ⟨S28x224, .f32⟩) main_call3_v66) (broadcastInDim S28x224 ![] bcast_S_S28x224),
    TRef.binary (TRef.of (T := ⟨S28x224, .f32⟩) main_call3_v66) (TRef.of (T := ⟨S28x224, .f32⟩) main_call3_v65) (TRef.of (T := ⟨S28x224, .f32⟩) main_call3_v67) maximumf,
    TRef.nullary (TRef.of (T := ⟨S_, .f32⟩) main_call3_cst_22) (constant S_ .f32 0x00000000#32),
    TRef.binary (TRef.of (T := ⟨S28x224, .f32⟩) main_call3_v67) (TRef.of (T := ⟨S_, .f32⟩) main_call3_cst_22) (TRef.of (T := ⟨S224, .f32⟩) main_call3_v68) (fun x v => Host.reduceAdd x v reducesTo_S28x224_S224_d0 h_S_),
    TRef.unary (TRef.of (T := ⟨S224, .f32⟩) main_call3_v68) (TRef.of (T := ⟨S1x224, .f32⟩) main_call3_v69) (broadcastInDim S1x224 ![1] bcast_S224_S1x224_1),
    TRef.unary (TRef.of (T := ⟨S1x224, .f32⟩) main_call3_v69) (TRef.of (T := ⟨S1x224, .f32⟩) main_call3_v70) Host.absf,
    TRef.nullary (TRef.of (T := ⟨S_, .f32⟩) main_call3_cst_23) (constant S_ .f32 0x38FA0000#32),
    TRef.unary (TRef.of (T := ⟨S_, .f32⟩) main_call3_cst_23) (TRef.of (T := ⟨S1x224, .f32⟩) main_call3_v71) (broadcastInDim S1x224 ![] bcast_S_S1x224),
    TRef.binary (TRef.of (T := ⟨S1x224, .f32⟩) main_call3_v70) (TRef.of (T := ⟨S1x224, .f32⟩) main_call3_v71) (TRef.of (T := ⟨S1x224, .i1⟩) main_call3_v72) (cmpf .ogt),
    TRef.nullary (TRef.of (T := ⟨S_, .f32⟩) main_call3_cst_24) (constant S_ .f32 0x00000000#32),
    TRef.unary (TRef.of (T := ⟨S_, .f32⟩) main_call3_cst_24) (TRef.of (T := ⟨S1x224, .f32⟩) main_call3_v73) (broadcastInDim S1x224 ![] bcast_S_S1x224),
    TRef.binary (TRef.of (T := ⟨S1x224, .f32⟩) main_call3_v69) (TRef.of (T := ⟨S1x224, .f32⟩) main_call3_v73) (TRef.of (T := ⟨S1x224, .i1⟩) main_call3_v74) (cmpf .une),
    TRef.nullary (TRef.of (T := ⟨S_, .i32⟩) main_call3_c_25) (constantI S_ 32 1#32),
    TRef.unary (TRef.of (T := ⟨S_, .i32⟩) main_call3_c_25) (TRef.of (T := ⟨S_, .f32⟩) main_call3_call3_v0) (sitofp .f32),
    TRef.unary (TRef.of (T := ⟨S_, .f32⟩) main_call3_call3_v0) (TRef.of (T := ⟨S1x224, .f32⟩) main_call3_call3_v1) (broadcastInDim S1x224 ![] bcast_S_S1x224),
    TRef.ternary (TRef.of (T := ⟨S1x224, .i1⟩) main_call3_v74) (TRef.of (T := ⟨S1x224, .f32⟩) main_call3_v69) (TRef.of (T := ⟨S1x224, .f32⟩) main_call3_call3_v1) (TRef.of (T := ⟨S1x224, .f32⟩) main_call3_v75) select,
    TRef.unary (TRef.of (T := ⟨S1x224, .f32⟩) main_call3_v75) (TRef.of (T := ⟨S28x224, .f32⟩) main_call3_v76) (broadcastInDim S28x224 ![0, 1] bcast_S1x224_S28x224_0_1),
    TRef.binary (TRef.of (T := ⟨S28x224, .f32⟩) main_call3_v67) (TRef.of (T := ⟨S28x224, .f32⟩) main_call3_v76) (TRef.of (T := ⟨S28x224, .f32⟩) main_call3_v77) Host.divf,
    TRef.nullary (TRef.of (T := ⟨S_, .i32⟩) main_call3_c_26) (constantI S_ 32 0#32),
    TRef.unary (TRef.of (T := ⟨S_, .i32⟩) main_call3_c_26) (TRef.of (T := ⟨S_, .f32⟩) main_call3_call4_v0) (sitofp .f32),
    TRef.unary (TRef.of (T := ⟨S1x224, .i1⟩) main_call3_v72) (TRef.of (T := ⟨S28x224, .i1⟩) main_call3_call4_v1) (broadcastInDim S28x224 ![0, 1] bcast_S1x224_S28x224_0_1),
    TRef.unary (TRef.of (T := ⟨S_, .f32⟩) main_call3_call4_v0) (TRef.of (T := ⟨S28x224, .f32⟩) main_call3_call4_v2) (broadcastInDim S28x224 ![] bcast_S_S28x224),
    TRef.ternary (TRef.of (T := ⟨S28x224, .i1⟩) main_call3_call4_v1) (TRef.of (T := ⟨S28x224, .f32⟩) main_call3_v77) (TRef.of (T := ⟨S28x224, .f32⟩) main_call3_call4_v2) (TRef.of (T := ⟨S28x224, .f32⟩) main_call3_v78) select,
    TRef.nullary (TRef.of (T := ⟨S_, .f32⟩) main_call3_cst_27) (constant S_ .f32 0xBF000000#32),
    TRef.unary (TRef.of (T := ⟨S_, .f32⟩) main_call3_cst_27) (TRef.of (T := ⟨S224, .f32⟩) main_call3_v79) (broadcastInDim S224 ![] bcast_S_S224),
    TRef.binary (TRef.of (T := ⟨S224, .f32⟩) main_call3_v52) (TRef.of (T := ⟨S224, .f32⟩) main_call3_v79) (TRef.of (T := ⟨S224, .i1⟩) main_call3_v80) (cmpf .oge),
    TRef.nullary (TRef.of (T := ⟨S_, .f32⟩) main_call3_cst_28) (constant S_ .f32 0x41DC0000#32),
    TRef.unary (TRef.of (T := ⟨S_, .f32⟩) main_call3_cst_28) (TRef.of (T := ⟨S224, .f32⟩) main_call3_v81) (broadcastInDim S224 ![] bcast_S_S224),
    TRef.binary (TRef.of (T := ⟨S224, .f32⟩) main_call3_v52) (TRef.of (T := ⟨S224, .f32⟩) main_call3_v81) (TRef.of (T := ⟨S224, .i1⟩) main_call3_v82) (cmpf .ole),
    TRef.binary (TRef.of (T := ⟨S224, .i1⟩) main_call3_v80) (TRef.of (T := ⟨S224, .i1⟩) main_call3_v82) (TRef.of (T := ⟨S224, .i1⟩) main_call3_v83) andi,
    TRef.unary (TRef.of (T := ⟨S224, .i1⟩) main_call3_v83) (TRef.of (T := ⟨S1x224, .i1⟩) main_call3_v84) (broadcastInDim S1x224 ![1] bcast_S224_S1x224_1),
    TRef.nullary (TRef.of (T := ⟨S_, .i32⟩) main_call3_c_29) (constantI S_ 32 0#32),
    TRef.unary (TRef.of (T := ⟨S_, .i32⟩) main_call3_c_29) (TRef.of (T := ⟨S_, .f32⟩) main_call3_call5_v0) (sitofp .f32),
    TRef.unary (TRef.of (T := ⟨S1x224, .i1⟩) main_call3_v84) (TRef.of (T := ⟨S28x224, .i1⟩) main_call3_call5_v1) (broadcastInDim S28x224 ![0, 1] bcast_S1x224_S28x224_0_1),
    TRef.unary (TRef.of (T := ⟨S_, .f32⟩) main_call3_call5_v0) (TRef.of (T := ⟨S28x224, .f32⟩) main_call3_call5_v2) (broadcastInDim S28x224 ![] bcast_S_S28x224),
    TRef.ternary (TRef.of (T := ⟨S28x224, .i1⟩) main_call3_call5_v1) (TRef.of (T := ⟨S28x224, .f32⟩) main_call3_v78) (TRef.of (T := ⟨S28x224, .f32⟩) main_call3_call5_v2) (TRef.of (T := ⟨S28x224, .f32⟩) main_call3_v85) select ]

/-- The resized image. -/
abbrev resize : Ops F :=
  [ TRef.binary (TRef.of (T := ⟨S28x224, .f32⟩) main_call3_v42) (TRef.of (T := ⟨S1x1x28x28, .f32⟩) main_v83) (TRef.of (T := ⟨S224x1x1x28, .f32⟩) main_call3_v86) (fun l r => Host.dotGeneral dot_S28x224_S1x1x28x28_S224x1x1x28_0_2_1_013_n_n (some .fp32) l r),
    TRef.binary (TRef.of (T := ⟨S224x1x1x28, .f32⟩) main_call3_v86) (TRef.of (T := ⟨S28x224, .f32⟩) main_call3_v85) (TRef.of (T := ⟨S224x1x1x224, .f32⟩) main_call3_v87) (fun l r => Host.dotGeneral dot_S224x1x1x28_S28x224_S224x1x1x224_3_0_012_1_n_n (some .fp32) l r),
    TRef.unary (TRef.of (T := ⟨S224x1x1x224, .f32⟩) main_call3_v87) (TRef.of (T := ⟨S1x1x224x224, .f32⟩) main_v84) (transpose S1x1x224x224 [1, 2, 0, 3] · transposes_S224x1x1x224_S1x1x224x224_1_2_0_3) ]

set_option maxRecDepth 8192 in
set_option maxHeartbeats 4000000 in
theorem half0 (c : Dev nD) : main_part0 (F := F) c = seq (rows ++ (picks ++ (patch ++ nearest))) := rfl

set_option maxRecDepth 8192 in
set_option maxHeartbeats 4000000 in
theorem half1 (c : Dev nD) : main_part1 (F := F) c = seq (center ++ (around ++ (next ++ (score ++ (left ++ (right ++ resize)))))) := rfl

end Cert.ReferenceIdeal.Own

end
-- ==== Proof.RRun.lean ====
module

public import proofs.«01_k».proof.Proof.RList
public import Idealize.ShloMosaic.Lib.StableHlo.Run
public import Idealize.ShloMosaic.Lib.StableHlo.RunClose
public import Idealize.ShloMosaic.Lib.Pipeline.Frame
public import Idealize.ShloMosaic.Lib.Quiescent
public import Idealize.ShloMosaic.Lib.StableHlo.RunHlo

@[expose] public section

set_option maxRecDepth 16384

noncomputable section

namespace Cert.ReferenceIdeal.Own

open Cert.ReferenceIdeal Cert.ReferenceIdeal.Gen Idealize.ShloMosaic Idealize.ShloMosaic.TcCoe Idealize.SL.Sem Idealize.ShloMosaic.StableHlo

variable {F : FTy → Type} [FloatOps F]

/-- Every operation of the list touches only ordinary buffers and allocates nothing. -/
def Plain (l : Ops F) : Prop := ∀ op ∈ l, op.bufs ⊆ tcRefs τ sig ∧ op.fresh = ∅

theorem plain_append {l k : Ops F} (h : Plain l) (h' : Plain k) : Plain (l ++ k) :=
  fun op ho => (List.mem_append.1 ho).elim (h op) (h' op)

theorem plain_of {l : Ops F} (hb : l.Forall fun op => op.bufs ⊆ tcRefs τ sig)
    (hf : l.map HloOp.fresh = l.map fun _ => (∅ : Finset (DevRef τ sig))) : Plain l :=
  fun op ho => ⟨List.forall_iff_forall_mem.1 hb op ho, List.forall_iff_forall_mem.1 (forall_fresh_of_map hf) op ho⟩

theorem plain_rows : Plain (F := F) rows :=
  plain_of (by simp only [rows, List.Forall, nullary_bufs_sub, unary_bufs_sub, binary_bufs_sub, ternary_bufs_sub, quaternary_bufs_sub,
    reshape_bufs_sub, unaryIndexed_bufs_sub, and_self]) rfl

theorem plain_picks : Plain (F := F) picks :=
  plain_of (by simp only [picks, List.Forall, nullary_bufs_sub, unary_bufs_sub, binary_bufs_sub, ternary_bufs_sub, quaternary_bufs_sub,
    reshape_bufs_sub, unaryIndexed_bufs_sub, and_self]) rfl

theorem plain_patch : Plain (F := F) patch :=
  plain_of (by simp only [patch, List.Forall, nullary_bufs_sub, unary_bufs_sub, binary_bufs_sub, ternary_bufs_sub, quaternary_bufs_sub,
    reshape_bufs_sub, unaryIndexed_bufs_sub, and_self]) rfl

theorem plain_nearest : Plain (F := F) nearest :=
  plain_of (by simp only [nearest, List.Forall, nullary_bufs_sub, unary_bufs_sub, binary_bufs_sub, ternary_bufs_sub, quaternary_bufs_sub,
    reshape_bufs_sub, unaryIndexed_bufs_sub, and_self]) rfl

theorem plain_center : Plain (F := F) center :=
  plain_of (by simp only [center, List.Forall, nullary_bufs_sub, unary_bufs_sub, binary_bufs_sub, ternary_bufs_sub, quaternary_bufs_sub,
    reshape_bufs_sub, unaryIndexed_bufs_sub, and_self]) rfl

theorem plain_around : Plain (F := F) around :=
  plain_of (by simp only [around, List.Forall, nullary_bufs_sub, unary_bufs_sub, binary_bufs_sub, ternary_bufs_sub, quaternary_bufs_sub,
    reshape_bufs_sub, unaryIndexed_bufs_sub, and_self]) rfl

theorem plain_next : Plain (F := F) next :=
  plain_of (by simp only [next, List.Forall, nullary_bufs_sub, unary_bufs_sub, binary_bufs_sub, ternary_bufs_sub, quaternary_bufs_sub,
    reshape_bufs_sub, unaryIndexed_bufs_sub, and_self]) rfl

theorem plain_score : Plain (F := F) score :=
  plain_of (by simp only [score, List.Forall, nullary_bufs_sub, unary_bufs_sub, binary_bufs_sub, ternary_bufs_sub, quaternary_bufs_sub,
    reshape_bufs_sub, unaryIndexed_bufs_sub, and_self]) rfl

theorem plain_left : Plain (F := F) left :=
  plain_of (by simp only [left, List.Forall, nullary_bufs_sub, unary_bufs_sub, binary_bufs_sub, ternary_bufs_sub, quaternary_bufs_sub,
    reshape_bufs_sub, unaryIndexed_bufs_sub, and_self]) rfl

theorem plain_right : Plain (F := F) right :=
  plain_of (by simp only [right, List.Forall, nullary_bufs_sub, unary_bufs_sub, binary_bufs_sub, ternary_bufs_sub, quaternary_bufs_sub,
    reshape_bufs_sub, unaryIndexed_bufs_sub, and_self]) rfl

theorem plain_resize : Plain (F := F) resize :=
  plain_of (by simp only [resize, List.Forall, nullary_bufs_sub, unary_bufs_sub, binary_bufs_sub, ternary_bufs_sub, quaternary_bufs_sub,
    reshape_bufs_sub, unaryIndexed_bufs_sub, and_self]) rfl

/-- Every operation of the program, in order. -/
def ops : Ops F :=
  (rows ++ (picks ++ (patch ++ nearest))) ++ (center ++ (around ++ (next ++ (score ++ (left ++ (right ++ resize))))))

theorem plain_ops : Plain (F := F) ops :=
  plain_append (plain_append plain_rows (plain_append plain_picks (plain_append plain_patch plain_nearest)))
    (plain_append plain_center (plain_append plain_around (plain_append plain_next (plain_append plain_score
      (plain_append plain_left (plain_append plain_right plain_resize))))))

theorem main_seq (c : Dev nD) : main (F := F) c = seq ops := by
  rw [ops, seq_append, ← half0 c, ← half1 c]
  rfl

theorem no_scoped_refs : (Finset.univ.filter fun b : Ref sig .tc => b.isScoped) = ∅ := by decide
theorem no_scoped_sems : (Finset.univ.filter fun sm : SemLoc sig => sm.isScoped .tc) = ∅ := by decide

/-- Every fair execution ends with every buffer at the operations' results in order, and every counter at zero. -/
theorem run_ops (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = after ops (launchContents m d) (Proc.devRef .tc b))
        ∧ r.2.sem = fun _ => 0 := by
  have h := run_seq no_scoped_refs no_scoped_sems (defs (F := F)) main (fun _ => ops) main_seq
    (fun _ => List.forall_iff_forall_mem.2 fun op ho => (plain_ops op ho).1) m ρ fun _ op ho => (plain_ops op ho).2
  exact θ_run_mono h fun r hr => ⟨hr, sem_eq_zero_of_no_sems (by decide) r.2⟩

/-- What `rows` writes. -/
def rowsW : List (Ref sig .tc) :=
  [ main_v0, main_cst, main_v1, main_v2, main_v3, main_cst_0, main_v4, main_v5, main_v6, main_v7, main_v8, main_v9, main_v10, main_cst_1,
    main_v11, main_v12, main_v13, main_cst_2, main_v14, main_v15, main_v16, main_cst_3, main_v17 ]
theorem rows_keep (V : Valuation τ sig (Elt F)) (r : Ref sig .tc) (h : r ∉ rowsW) :
    after rows V (Proc.devRef .tc r) = V (Proc.devRef .tc r) :=
  after_of_writes_sub (W := rowsW) _ V (forall_writes_sub_of_map rfl) h

/-- What `picks` writes. -/
def picksW : List (Ref sig .tc) :=
  [ main_call0_v0, main_call0_cst, main_call0_c, main_call0_v1_0, main_v18, main_call1_v0, main_call1_cst, main_call1_c, main_call1_v1_0,
    main_v19, main_cst_4, main_v20 ]
theorem picks_keep (V : Valuation τ sig (Elt F)) (r : Ref sig .tc) (h : r ∉ picksW) :
    after picks V (Proc.devRef .tc r) = V (Proc.devRef .tc r) :=
  after_of_writes_sub (W := picksW) _ V (forall_writes_sub_of_map rfl) h

/-- What `patch` writes. -/
def patchW : List (Ref sig .tc) :=
  [ main_c, main_v21, main_c_5, main_v22, main_v23, main_c_6, main_c_7, main_v24, main_c_8, main_c_9, main_v25, main_c_10, main_v26, main_v27,
    main_v28, main_v29 ]
theorem patch_keep (V : Valuation τ sig (Elt F)) (r : Ref sig .tc) (h : r ∉ patchW) :
    after patch V (Proc.devRef .tc r) = V (Proc.devRef .tc r) :=
  after_of_writes_sub (W := patchW) _ V (forall_writes_sub_of_map rfl) h

/-- What `nearest` writes. -/
def nearestW : List (Ref sig .tc) :=
  [ main_c_11, main_v30, main_c_12, main_v31, main_v32, main_v33, main_v34, main_c_13, main_v35, main_c_14, main_v36, main_v37, main_c_15,
    main_c_16, main_v38, main_c_17, main_c_18 ]
theorem nearest_keep (V : Valuation τ sig (Elt F)) (r : Ref sig .tc) (h : r ∉ nearestW) :
    after nearest V (Proc.devRef .tc r) = V (Proc.devRef .tc r) :=
  after_of_writes_sub (W := nearestW) _ V (forall_writes_sub_of_map rfl) h

/-- What `center` writes. -/
def centerW : List (Ref sig .tc) :=
  [ main_v39, main_c_19, main_v40, main_v41, main_v42, main_v43 ]
theorem center_keep (V : Valuation τ sig (Elt F)) (r : Ref sig .tc) (h : r ∉ centerW) :
    after center V (Proc.devRef .tc r) = V (Proc.devRef .tc r) :=
  after_of_writes_sub (W := centerW) _ V (forall_writes_sub_of_map rfl) h

/-- What `around` writes. -/
def aroundW : List (Ref sig .tc) :=
  [ main_v44, main_cst_20, main_v45, main_v46, main_v47, main_cst_21, main_v48, main_v49, main_v50, main_v51, main_v52, main_v53, main_cst_22,
    main_v54, main_v55, main_v56, main_cst_23, main_v57, main_v58, main_v59, main_v60 ]
theorem around_keep (V : Valuation τ sig (Elt F)) (r : Ref sig .tc) (h : r ∉ aroundW) :
    after around V (Proc.devRef .tc r) = V (Proc.devRef .tc r) :=
  after_of_writes_sub (W := aroundW) _ V (forall_writes_sub_of_map rfl) h

/-- What `next` writes. -/
def nextW : List (Ref sig .tc) :=
  [ main_values, main_indices, main_v61, main_v62, main_c_24, main_v63, main_v64, main_c_25, main_v65, main_v66, main_v67, main_v68, main_v69,
    main_v70, main_v71 ]
theorem next_keep (V : Valuation τ sig (Elt F)) (r : Ref sig .tc) (h : r ∉ nextW) :
    after next V (Proc.devRef .tc r) = V (Proc.devRef .tc r) :=
  after_of_writes_sub (W := nextW) _ V (forall_writes_sub_of_map rfl) h

/-- What `score` writes. -/
def scoreW : List (Ref sig .tc) :=
  [ main_call2_v0, main_call2_cst, main_call2_v1, main_v72, main_cst_26, main_v73, main_v74, main_v75, main_v76, main_v77, main_v78,
    main_cst_27, main_v79, main_v80, main_cst_28, main_v81, main_v82, main_v83 ]
theorem score_keep (V : Valuation τ sig (Elt F)) (r : Ref sig .tc) (h : r ∉ scoreW) :
    after score V (Proc.devRef .tc r) = V (Proc.devRef .tc r) :=
  after_of_writes_sub (W := scoreW) _ V (forall_writes_sub_of_map rfl) h

/-- What `left` writes. -/
def leftW : List (Ref sig .tc) :=
  [ main_call3_cst, main_call3_cst_0, main_call3_v0, main_call3_v1, main_call3_cst_1, main_call3_v2, main_call3_v3, main_call3_cst_2,
    main_call3_v4, main_call3_v5, main_call3_cst_3, main_call3_v6, main_call3_v7, main_call3_cst_4, main_call3_v8, main_call3_v9,
    main_call3_v10, main_call3_v11, main_call3_v12, main_call3_v13, main_call3_v14, main_call3_v15, main_call3_v16, main_call3_v17,
    main_call3_v18, main_call3_v19, main_call3_v20, main_call3_cst_5, main_call3_v21, main_call3_v22, main_call3_cst_6, main_call3_v23,
    main_call3_v24, main_call3_cst_7, main_call3_v25, main_call3_v26, main_call3_v27, main_call3_cst_8, main_call3_v28, main_call3_v29,
    main_call3_cst_9, main_call3_v30, main_call3_v31, main_call3_c, main_call3_call0_v0, main_call3_call0_v1, main_call3_v32,
    main_call3_v33, main_call3_v34, main_call3_c_10, main_call3_call1_v0, main_call3_call1_v1, main_call3_call1_v2, main_call3_v35,
    main_call3_cst_11, main_call3_v36, main_call3_v37, main_call3_cst_12, main_call3_v38, main_call3_v39, main_call3_v40, main_call3_v41,
    main_call3_c_13, main_call3_call2_v0, main_call3_call2_v1, main_call3_call2_v2, main_call3_v42 ]
theorem left_keep (V : Valuation τ sig (Elt F)) (r : Ref sig .tc) (h : r ∉ leftW) :
    after left V (Proc.devRef .tc r) = V (Proc.devRef .tc r) :=
  after_of_writes_sub (W := leftW) _ V (forall_writes_sub_of_map rfl) h

/-- What `right` writes. -/
def rightW : List (Ref sig .tc) :=
  [ main_call3_cst_14, main_call3_cst_15, main_call3_v43, main_call3_v44, main_call3_cst_16, main_call3_v45, main_call3_v46, main_call3_cst_17,
    main_call3_v47, main_call3_v48, main_call3_cst_18, main_call3_v49, main_call3_v50, main_call3_cst_19, main_call3_v51, main_call3_v52,
    main_call3_v53, main_call3_v54, main_call3_v55, main_call3_v56, main_call3_v57, main_call3_v58, main_call3_v59, main_call3_v60,
    main_call3_v61, main_call3_v62, main_call3_v63, main_call3_cst_20, main_call3_v64, main_call3_v65, main_call3_cst_21, main_call3_v66,
    main_call3_v67, main_call3_cst_22, main_call3_v68, main_call3_v69, main_call3_v70, main_call3_cst_23, main_call3_v71, main_call3_v72,
    main_call3_cst_24, main_call3_v73, main_call3_v74, main_call3_c_25, main_call3_call3_v0, main_call3_call3_v1, main_call3_v75,
    main_call3_v76, main_call3_v77, main_call3_c_26, main_call3_call4_v0, main_call3_call4_v1, main_call3_call4_v2, main_call3_v78,
    main_call3_cst_27, main_call3_v79, main_call3_v80, main_call3_cst_28, main_call3_v81, main_call3_v82, main_call3_v83, main_call3_v84,
    main_call3_c_29, main_call3_call5_v0, main_call3_call5_v1, main_call3_call5_v2, main_call3_v85 ]
theorem right_keep (V : Valuation τ sig (Elt F)) (r : Ref sig .tc) (h : r ∉ rightW) :
    after right V (Proc.devRef .tc r) = V (Proc.devRef .tc r) :=
  after_of_writes_sub (W := rightW) _ V (forall_writes_sub_of_map rfl) h

/-- What `resize` writes. -/
def resizeW : List (Ref sig .tc) :=
  [ main_call3_v86, main_call3_v87, main_v84 ]
theorem resize_keep (V : Valuation τ sig (Elt F)) (r : Ref sig .tc) (h : r ∉ resizeW) :
    after resize V (Proc.devRef .tc r) = V (Proc.devRef .tc r) :=
  after_of_writes_sub (W := resizeW) _ V (forall_writes_sub_of_map rfl) h

variable (m : (ℓ : Loc nD τ sig) → Buf (Elt F) ℓ) (c : Dev nD)

/-- The buffers before each stretch, and after the last. -/
def u0 : Valuation τ sig (Elt F) := launchContents m c
@[inherit_doc u0] def u1 : Valuation τ sig (Elt F) := after rows (u0 m c)
@[inherit_doc u0] def u2 : Valuation τ sig (Elt F) := after picks (u1 m c)
@[inherit_doc u0] def u3 : Valuation τ sig (Elt F) := after patch (u2 m c)
@[inherit_doc u0] def u4 : Valuation τ sig (Elt F) := after nearest (u3 m c)
@[inherit_doc u0] def u5 : Valuation τ sig (Elt F) := after center (u4 m c)
@[inherit_doc u0] def u6 : Valuation τ sig (Elt F) := after around (u5 m c)
@[inherit_doc u0] def u7 : Valuation τ sig (Elt F) := after next (u6 m c)
@[inherit_doc u0] def u8 : Valuation τ sig (Elt F) := after score (u7 m c)
@[inherit_doc u0] def u9 : Valuation τ sig (Elt F) := after left (u8 m c)
@[inherit_doc u0] def u10 : Valuation τ sig (Elt F) := after right (u9 m c)
@[inherit_doc u0] def u11 : Valuation τ sig (Elt F) := after resize (u10 m c)

theorem after_ops : after ops (launchContents m c) = u11 m c := by
  simp only [ops, after_append]
  rfl

theorem u1_of (r : Ref sig .tc) (h : r ∉ rowsW) : u1 m c (Proc.devRef .tc r) = u0 m c (Proc.devRef .tc r) := rows_keep (u0 m c) r h
theorem u2_of (r : Ref sig .tc) (h : r ∉ picksW) : u2 m c (Proc.devRef .tc r) = u1 m c (Proc.devRef .tc r) := picks_keep (u1 m c) r h
theorem u3_of (r : Ref sig .tc) (h : r ∉ patchW) : u3 m c (Proc.devRef .tc r) = u2 m c (Proc.devRef .tc r) := patch_keep (u2 m c) r h
theorem u4_of (r : Ref sig .tc) (h : r ∉ nearestW) : u4 m c (Proc.devRef .tc r) = u3 m c (Proc.devRef .tc r) := nearest_keep (u3 m c) r h
theorem u5_of (r : Ref sig .tc) (h : r ∉ centerW) : u5 m c (Proc.devRef .tc r) = u4 m c (Proc.devRef .tc r) := center_keep (u4 m c) r h
theorem u6_of (r : Ref sig .tc) (h : r ∉ aroundW) : u6 m c (Proc.devRef .tc r) = u5 m c (Proc.devRef .tc r) := around_keep (u5 m c) r h
theorem u7_of (r : Ref sig .tc) (h : r ∉ nextW) : u7 m c (Proc.devRef .tc r) = u6 m c (Proc.devRef .tc r) := next_keep (u6 m c) r h
theorem u8_of (r : Ref sig .tc) (h : r ∉ scoreW) : u8 m c (Proc.devRef .tc r) = u7 m c (Proc.devRef .tc r) := score_keep (u7 m c) r h
theorem u9_of (r : Ref sig .tc) (h : r ∉ leftW) : u9 m c (Proc.devRef .tc r) = u8 m c (Proc.devRef .tc r) := left_keep (u8 m c) r h
theorem u10_of (r : Ref sig .tc) (h : r ∉ rightW) : u10 m c (Proc.devRef .tc r) = u9 m c (Proc.devRef .tc r) := right_keep (u9 m c) r h
theorem u11_of (r : Ref sig .tc) (h : r ∉ resizeW) : u11 m c (Proc.devRef .tc r) = u10 m c (Proc.devRef .tc r) := resize_keep (u10 m c) r h

/-- No operation writes an argument. -/
theorem u11_arg (r : Ref sig .tc) (h : r ∈ [main_arg0, main_arg1]) : u11 m c (Proc.devRef .tc r) = m ((c.tc : Thread nD τ).loc r) := by
  have h := List.mem_cons.1 h
  rcases h with rfl | h
  · rw [u11_of m c _ (by decide), u10_of m c _ (by decide), u9_of m c _ (by decide), u8_of m c _ (by decide), u7_of m c _ (by decide), u6_of m c _ (by decide), u5_of m c _ (by decide), u4_of m c _ (by decide), u3_of m c _ (by decide), u2_of m c _ (by decide), u1_of m c _ (by decide)]
    rfl
  · rcases List.mem_singleton.1 h with rfl
    rw [u11_of m c _ (by decide), u10_of m c _ (by decide), u9_of m c _ (by decide), u8_of m c _ (by decide), u7_of m c _ (by decide), u6_of m c _ (by decide), u5_of m c _ (by decide), u4_of m c _ (by decide), u3_of m c _ (by decide), u2_of m c _ (by decide), u1_of m c _ (by decide)]
    rfl

end Cert.ReferenceIdeal.Own

end
-- ==== Proof.V3.lean ====
module

public import proofs.«01_k».proof.Proof.IRun
public import proofs.«01_k».proof.Proof.RRun
public import Idealize.ShloMosaic.Lib.StableHlo.RunRead

@[expose] public section

set_option maxRecDepth 16384

noncomputable section

namespace Cert.Values

open Idealize.ShloMosaic Idealize.ShloMosaic.TcCoe Idealize.SL.Sem

variable {F : FTy → Type} [FloatOps F]

/-- The kernel's host operations that make the interpolation weights. -/
abbrev kweights (W : Valuation Cert.KernelIdeal.τ Cert.KernelIdeal.sig (Elt F)) : Vec F Cert.KernelIdeal.S28x224 .f32 :=
  StableHlo.after Cert.KernelIdeal.Gen.hostOps2_5 (StableHlo.after Cert.KernelIdeal.Gen.hostOps2_4 (StableHlo.after Cert.KernelIdeal.Gen.hostOps2_3
    (StableHlo.after Cert.KernelIdeal.Gen.hostOps2_2 (StableHlo.after Cert.KernelIdeal.Gen.hostOps2_1 (StableHlo.after Cert.KernelIdeal.Gen.hostOps2 W)))))
    (Proc.devRef .tc Cert.KernelIdeal.main_v56)

theorem left_eq (W : Valuation Cert.KernelIdeal.τ Cert.KernelIdeal.sig (Elt F)) (W' : Valuation Cert.ReferenceIdeal.τ Cert.ReferenceIdeal.sig (Elt F)) :
    (StableHlo.after Cert.ReferenceIdeal.Own.left W' (Proc.devRef .tc Cert.ReferenceIdeal.main_call3_v42) : Vec F Cert.KernelIdeal.S28x224 .f32) = kweights W := by
  unfold kweights
  after_reads_simp
  rfl

theorem right_eq (W : Valuation Cert.KernelIdeal.τ Cert.KernelIdeal.sig (Elt F)) (W' : Valuation Cert.ReferenceIdeal.τ Cert.ReferenceIdeal.sig (Elt F)) :
    (StableHlo.after Cert.ReferenceIdeal.Own.right W' (Proc.devRef .tc Cert.ReferenceIdeal.main_call3_v85) : Vec F Cert.KernelIdeal.S28x224 .f32) = kweights W := by
  unfold kweights
  after_reads_simp
  rfl

end Cert.Values

end
-- ==== Proof.V1.lean ====
module

public import Idealize.ShloMosaic.Lib.Pointwise

@[expose] public section

noncomputable section

namespace Cert.Values

open Idealize.ShloMosaic

/-- `k` is the first place where `P` holds. -/
def First {n : ℕ} (P : Fin n → Prop) (k : Fin n) : Prop := P k ∧ ∀ j, j < k → ¬ P j

/-- `k` is the first place where `f` is least. -/
def Least {n : ℕ} (f : Fin n → EReal) (k : Fin n) : Prop := (∀ j, f k ≤ f j) ∧ ∀ j, j < k → f k < f j

theorem exists_first {n : ℕ} (P : Fin n → Prop) (h : ∃ k, P k) : ∃ k, First P k := by
  classical
  have h' : ∃ m : ℕ, ∃ hm : m < n, P ⟨m, hm⟩ := by
    obtain ⟨k, hk⟩ := h
    exact ⟨k.val, k.isLt, hk⟩
  obtain ⟨hm, hp⟩ := Nat.find_spec h'
  refine ⟨⟨Nat.find h', hm⟩, hp, fun j hj hpj => ?_⟩
  exact Nat.find_min h' (show j.val < Nat.find h' from hj) ⟨j.isLt, hpj⟩

theorem exists_least {n : ℕ} (f : Fin n → EReal) (hn : 0 < n) : ∃ k, Least f k := by
  have : Nonempty (Fin n) := ⟨⟨0, hn⟩⟩
  obtain ⟨a, ha⟩ := Finite.exists_min f
  obtain ⟨k, hk, hk'⟩ := exists_first (fun k => f k ≤ f a) ⟨a, le_rfl⟩
  exact ⟨k, fun j => hk.trans (ha j), fun j hj => lt_of_le_of_lt hk (not_le.1 (hk' j hj))⟩

theorem Least.unique {n : ℕ} {f : Fin n → EReal} {k l : Fin n} (hk : Least f k) (hl : Least f l) : k = l := by
  rcases lt_trichotomy k l with h | h | h
  · exact absurd (hl.2 k h) (not_lt.2 (hk.1 l))
  · exact h
  · exact absurd (hk.2 l h) (not_lt.2 (hl.1 k))

theorem First.unique {n : ℕ} {P : Fin n → Prop} {k l : Fin n} (hk : First P k) (hl : First P l) : k = l := by
  rcases lt_trichotomy k l with h | h | h
  · exact absurd hk.1 (hl.2 k h)
  · exact h
  · exact absurd hl.1 (hk.2 l h)

theorem Least.fold {n : ℕ} {f : Fin n → EReal} {k : Fin n} (h : Least f k) : Finset.univ.fold min ⊤ f = f k := by
  refine le_antisymm ?_ ?_
  · exact (Finset.fold_min_le _).2 (Or.inr ⟨k, Finset.mem_univ _, le_rfl⟩)
  · exact (Finset.le_fold_min _).2 ⟨le_top, fun j _ => h.1 j⟩

theorem Least.first {n : ℕ} {f : Fin n → EReal} {k : Fin n} (h : Least f k) : First (fun j => f j = Finset.univ.fold min ⊤ f) k := by
  rw [h.fold]
  exact ⟨rfl, fun j hj => (h.2 j hj).ne'⟩

/-- The first place of the greatest value. -/
theorem first_max {n : ℕ} (f : Fin n → EReal) (hn : 0 < n) : ∃ k, First (fun j => f j = Finset.univ.fold max ⊥ f) k ∧ ∀ j, f j ≤ f k := by
  have : Nonempty (Fin n) := ⟨⟨0, hn⟩⟩
  obtain ⟨a, ha⟩ := Finite.exists_max f
  have e : Finset.univ.fold max ⊥ f = f a := by
    refine le_antisymm ?_ ?_
    · exact (Finset.fold_max_le _).2 ⟨bot_le, fun j _ => ha j⟩
    · exact (Finset.le_fold_max _).2 (Or.inr ⟨a, Finset.mem_univ _, le_rfl⟩)
  obtain ⟨k, hk⟩ := exists_first (fun k => f k = Finset.univ.fold max ⊥ f) ⟨a, e.symm⟩
  exact ⟨k, hk, fun j => by rw [hk.1, e]; exact ha j⟩

theorem toInt_small (k : ℕ) (h : k < 2 ^ 31) : (BitVec.ofNat 32 k).toInt = k := by
  rw [BitVec.toInt_eq_toNat_of_lt (by rw [BitVec.toNat_ofNat]; omega), BitVec.toNat_ofNat, Nat.mod_eq_of_lt (by omega)]

theorem minsi_fold_le {ι : Type} [DecidableEq ι] (b : BitVec 32) (f : ι → BitVec 32) (S : Finset ι) :
    ((S.fold IntOp.minsi b f).toInt ≤ b.toInt ∧ ∀ j ∈ S, (S.fold IntOp.minsi b f).toInt ≤ (f j).toInt)
      ∧ (S.fold IntOp.minsi b f = b ∨ ∃ j ∈ S, S.fold IntOp.minsi b f = f j) := by
  have hm : ∀ x y : BitVec 32, (IntOp.minsi x y = x ∧ x.toInt ≤ y.toInt) ∨ (IntOp.minsi x y = y ∧ y.toInt ≤ x.toInt) := fun x y => by
    unfold IntOp.minsi
    by_cases h : x.slt y = true
    · left; rw [if_pos h]; exact ⟨rfl, by rw [BitVec.slt_iff_toInt_lt] at h; omega⟩
    · right; rw [if_neg h]; exact ⟨rfl, by rw [BitVec.slt_iff_toInt_lt] at h; omega⟩
  induction S using Finset.induction_on with
  | empty => exact ⟨⟨le_rfl, fun j hj => absurd hj (Finset.notMem_empty j)⟩, Or.inl rfl⟩
  | insert a S ha ih =>
    rw [Finset.fold_insert ha]
    obtain ⟨⟨h1, h2⟩, h3⟩ := ih
    rcases hm (f a) (S.fold IntOp.minsi b f) with ⟨e, h⟩ | ⟨e, h⟩ <;> rw [e]
    · refine ⟨⟨h.trans h1, fun j hj => ?_⟩, Or.inr ⟨a, Finset.mem_insert_self _ _, rfl⟩⟩
      rcases Finset.mem_insert.1 hj with rfl | hj
      · exact le_rfl
      · exact h.trans (h2 j hj)
    · refine ⟨⟨h1, fun j hj => ?_⟩, h3.imp id fun ⟨j, hj, e⟩ => ⟨j, Finset.mem_insert_of_mem hj, e⟩⟩
      rcases Finset.mem_insert.1 hj with rfl | hj
      · exact h
      · exact h2 j hj

/-- The least of the places where `P` holds, read off a masked row of place numbers. -/
theorem fold_first {n : ℕ} (hn : n < 2 ^ 31) (P : Fin n → Prop) [DecidablePred P] (N : BitVec 32) (hN : N = BitVec.ofNat 32 n) (k : Fin n) (h : First P k) :
    (Finset.univ : Finset (Fin 1 × Fin n)).fold IntOp.minsi 2147483647#32 (fun x => if P x.2 then BitVec.ofNat 32 x.2.val else N) = BitVec.ofNat 32 k.val := by
  subst hN
  obtain ⟨⟨h1, h2⟩, h3⟩ := minsi_fold_le 2147483647#32 (fun x : Fin 1 × Fin n => if P x.2 then BitVec.ofNat 32 x.2.val else BitVec.ofNat 32 n) Finset.univ
  have hk := h2 (0, k) (Finset.mem_univ _)
  simp only [if_pos h.1] at hk
  rw [toInt_small k.val (by omega)] at hk
  rcases h3 with e | ⟨j, -, e⟩
  · rw [e] at hk
    exact absurd hk (by have := k.isLt; rw [show (2147483647#32 : BitVec 32).toInt = 2147483647 from rfl]; omega)
  · rw [e] at hk ⊢
    by_cases hp : P j.2
    · rw [if_pos hp, toInt_small j.2.val (by omega)] at hk
      rw [if_pos hp]
      have : ¬ j.2 < k := fun hj => h.2 _ hj hp
      have : j.2 = k := Fin.le_antisymm (by rw [Fin.le_def]; omega) (not_lt.1 this)
      rw [this]
    · rw [if_neg hp, toInt_small n hn] at hk
      exact absurd hk (by have := k.isLt; omega)

theorem eq_word {n : ℕ} (hn : n < 2 ^ 31) (j k : Fin n) : (IntOp.cmpi .eq (BitVec.ofNat 32 j.val) (BitVec.ofNat 32 k.val) = 1) ↔ j = k := by
  have : (BitVec.ofNat 32 j.val = BitVec.ofNat 32 k.val) ↔ j = k := by
    constructor
    · intro e
      have := congrArg BitVec.toNat e
      rw [BitVec.toNat_ofNat, BitVec.toNat_ofNat, Nat.mod_eq_of_lt (by omega), Nat.mod_eq_of_lt (by omega)] at this
      exact Fin.ext this
    · rintro rfl; rfl
  rw [← this]
  show BitVec.ofBool (BitVec.ofNat 32 j.val == BitVec.ofNat 32 k.val) = 1#1 ↔ _
  by_cases h : BitVec.ofNat 32 j.val = BitVec.ofNat 32 k.val
  · simp [h]
  · rw [beq_eq_false_iff_ne.2 h]; simp [h]

theorem pick_word {n : ℕ} (hn : n < 2 ^ 31) {α : Type} (j k : Fin n) (a b : α) :
    Scalar.select (IntOp.cmpi .eq (BitVec.ofNat 32 j.val) (BitVec.ofNat 32 k.val)) a b = if j = k then a else b := by
  unfold Scalar.select
  by_cases h : j = k
  · rw [if_pos h, if_pos ((eq_word hn j k).2 h)]
  · rw [if_neg h, if_neg fun e => h ((eq_word hn j k).1 e)]

theorem pick_sum {n : ℕ} (hn : n < 2 ^ 31) (k : Fin n) (v : Fin n → EReal) :
    (∑ x : Fin 1 × Fin n, Scalar.select (IntOp.cmpi .eq (BitVec.ofNat 32 x.2.val) (BitVec.ofNat 32 k.val)) (v x.2) 0) = v k := by
  rw [Finset.sum_eq_single (0, k)]
  · rw [pick_word hn, if_pos rfl]
  · intro x _ hx
    rw [pick_word hn, if_neg]
    rintro rfl
    exact hx (Prod.ext (Subsingleton.elim _ _) rfl)
  · exact fun h => absurd (Finset.mem_univ _) h

theorem pick_sumI {n : ℕ} (hn : n < 2 ^ 31) (k : Fin n) (v : Fin n → BitVec 32) :
    (Finset.univ : Finset (Fin 1 × Fin n)).fold IntOp.addi 0#32
      (fun x => Scalar.select (IntOp.cmpi .eq (BitVec.ofNat 32 x.2.val) (BitVec.ofNat 32 k.val)) (v x.2) 0#32) = v k := by
  have h : ∀ S : Finset (Fin 1 × Fin n), S.fold IntOp.addi 0#32
      (fun x => Scalar.select (IntOp.cmpi .eq (BitVec.ofNat 32 x.2.val) (BitVec.ofNat 32 k.val)) (v x.2) 0#32)
        = if (0, k) ∈ S then v k else 0#32 := fun S => by
    induction S using Finset.induction_on with
    | empty => simp
    | insert a S ha ih =>
      rw [Finset.fold_insert ha, ih, pick_word hn]
      by_cases e : a.2 = k
      · have ea : a = (0, k) := Prod.ext (Subsingleton.elim _ _) e
        rw [if_pos e, if_neg (ea ▸ ha), ea, if_pos (Finset.mem_insert_self _ _)]
        simp [IntOp.addi]
      · have ea : (0, k) ≠ a := fun h => e (h ▸ rfl)
        rw [if_neg e]
        simp only [Finset.mem_insert, ea, false_or]
        split <;> simp [IntOp.addi]
  rw [h, if_pos (Finset.mem_univ _)]

theorem fold_pair {n : ℕ} {β : Type} (op : β → β → β) [Std.Commutative op] [Std.Associative op] (b : β) (f : Fin n → β) :
    (Finset.univ : Finset (Fin 1 × Fin n)).fold op b (fun x => f x.2) = Finset.univ.fold op b f := by
  have : (Finset.univ : Finset (Fin 1 × Fin n)) = Finset.univ.map ⟨fun j : Fin n => ((0 : Fin 1), j), fun a b h => (Prod.ext_iff.1 h).2⟩ := by
    ext x
    simp only [Finset.mem_univ, Finset.mem_map, true_and, true_iff]
    exact ⟨x.2, Prod.ext (Subsingleton.elim _ _) rfl⟩
  rw [this, Finset.fold_map]
  rfl

end Cert.Values

end
-- ==== Proof.V0.lean ====
module

public import proofs.«01_k».proof.Proof.Gen.KernelIdeal.Skeleton
public import Idealize.ShloMosaic.Lib.Pointwise
public import proofs.«01_k».proof.Proof.V1

@[expose] public section

set_option maxRecDepth 16384

noncomputable section

namespace Cert.Values

open Cert.KernelIdeal hiding ix2
open Cert.KernelIdeal.Gen Idealize.ShloMosaic Idealize.ShloMosaic.TcCoe Idealize.SL.Sem

/-- The constant two of the program. -/
def two : EReal := Ideal.ofBits .f32 0x40000000#32

/-- The squared length of a block's row less twice its product with a patch. -/
def col (lb : FVec Ideal S1024x1536 .f32) (pt : FVec Ideal S1536x784 .f32) (r : Fin 1024) (p : Fin 784) : EReal :=
  (∑ d : Fin 1536, lb (ix2 r d) * lb (ix2 r d)) - two * ∑ d : Fin 1536, lb (ix2 r d) * pt (ix2 d p)

variable (lb : FVec Ideal S1024x1536 .f32) (pt : FVec Ideal S1536x784 .f32)

theorem pay1_at (r : Fin 1024) : k0_pay1 (F := Ideal) lb (ix2 r 0) = ∑ d : Fin 1536, lb (ix2 r d) * lb (ix2 r d) := by
  pointwise [k0_pay1]

theorem pay2_at (r : Fin 1024) (p : Fin 784) : k0_pay2 (F := Ideal) lb pt (ix2 r p) = col lb pt r p := by
  pointwise [k0_pay2, col, k0_pay1, two]

theorem top_bits : Ideal.ofBits .f32 0x7F800000#32 = (⊤ : EReal) := by
  show Ideal.ieee 8 23 (0x7F800000#32) = ⊤
  unfold Ideal.ieee
  dsimp only
  rw [if_pos (by decide), if_pos (by decide), if_neg (by decide)]

theorem bot_bits : Ideal.ofBits .f32 0xFF800000#32 = (⊥ : EReal) := by
  show Ideal.ieee 8 23 (0xFF800000#32) = ⊥
  unfold Ideal.ieee
  dsimp only
  rw [if_pos (by decide), if_pos (by decide), if_pos (by decide)]

theorem pay3_at (p : Fin 784) : k0_pay3 (F := Ideal) lb pt (ix2 0 p) = Finset.univ.fold min ⊤ fun r => col lb pt r p := by
  pointwise [k0_pay3]
  simp only [pay2_at, top_bits]

theorem mem_filt {α : Type} {p : α → Prop} {inst : DecidablePred p} {s : Finset α} {a : α} :
    a ∈ @Finset.filter α p inst s ↔ a ∈ s ∧ p a := Finset.mem_filter

/-- The library's first-least row number of a column. -/
theorem reduceIndex_first (x : FVec Ideal S1024x784 .f32) (p : Fin 784) (r : Fin 1024) (h : Least (fun r => x (ix2 r p)) r) :
    Ideal.reduceIndex ArgKind.argMin 0 reduces_S1024x784_S784 x (ix1 p) = BitVec.ofNat 32 r.val := by
  unfold Ideal.reduceIndex
  dsimp only
  have hmem : ∀ i : S1024x784.Idx, i ∈ Finset.univ.filter (fun i => reduces_S1024x784_S784.drop i = ix1 p) ↔ ∃ q : Fin 1024, i = ix2 q p := fun i => by
    rw [Finset.mem_filter, eq_ix2 i]
    constructor
    · rintro ⟨-, e⟩
      have := congrFun e 0
      exact ⟨i 0, by rw [show i 1 = p from this]⟩
    · rintro ⟨q, e⟩
      refine ⟨Finset.mem_univ _, ?_⟩
      rw [e]
      funext a
      match a with
      | ⟨0, _⟩ => rfl
  have key : ∀ T : Finset ℕ, r.val ∈ T → (∀ m ∈ T, r.val ≤ m) → Option.getD T.min 0 = r.val := fun T h1 h2 => by
    rw [le_antisymm (Finset.min_le h1) (Finset.le_min fun m hm => WithTop.coe_le_coe.2 (h2 m hm))]
    rfl
  rw [key]
  · rw [Finset.mem_image]
    refine ⟨ix2 r p, ?_, rfl⟩
    refine mem_filt.2 ⟨(hmem _).2 ⟨r, rfl⟩, fun i' hi' => ?_⟩
    obtain ⟨q, rfl⟩ := (hmem _).1 hi'
    rw [if_neg (by decide)]
    exact not_lt.2 (h.1 q)
  · intro m hm
    rw [Finset.mem_image] at hm
    obtain ⟨i, hi, rfl⟩ := hm
    replace hi := mem_filt.1 hi
    obtain ⟨q, rfl⟩ := (hmem _).1 hi.1
    have := hi.2 _ ((hmem _).2 ⟨r, rfl⟩)
    rw [if_neg (by decide)] at this
    exact not_lt.1 fun hq => this (h.2 q hq)

theorem pay4_at (i : grid0.Coords) (p : Fin 784) (r : Fin 1024) (h : Least (fun r => col lb pt r p) r) :
    k0_pay4 (F := Ideal) i lb pt (ix2 0 p) = BitVec.ofNat 32 (r.val + (i 0).val * 1024) := by
  pointwise [k0_pay4]
  show IntOp.addi (Ideal.reduceIndex ArgKind.argMin 0 reduces_S1024x784_S784 (k0_pay2 (F := Ideal) lb pt) (ix1 p)) _ = _
  rw [reduceIndex_first _ p r (by simpa only [pay2_at] using h), BitVec.ofNat_add, BitVec.ofNat_mul]
  rfl

theorem pay5_at (p : Fin 784) : k0_pay5 (F := Ideal) lb pt (ix2 0 p) = k0_pay3 (F := Ideal) lb pt (ix2 0 p) := by
  pointwise [k0_pay5]

theorem pay6_at (i : grid0.Coords) (p : Fin 784) : k0_pay6 (F := Ideal) i lb pt (ix2 0 p) = k0_pay4 (F := Ideal) i lb pt (ix2 0 p) := by
  pointwise [k0_pay6]

theorem pay8_at (cur : FVec Ideal S1x784 .f32) (p : Fin 784) :
    k0_pay8 (F := Ideal) lb pt cur (ix2 0 p) = min (k0_pay3 (F := Ideal) lb pt (ix2 0 p)) (cur (ix2 0 p)) := by
  pointwise [k0_pay8, k0_pay7]
  split
  · exact (min_eq_left (le_of_lt ‹_›)).symm
  · exact (min_eq_right (not_lt.1 ‹_›)).symm

theorem pay9_at (i : grid0.Coords) (cur : FVec Ideal S1x784 .f32) (im : IVec S1x784 32) (p : Fin 784) :
    k0_pay9 (F := Ideal) i lb pt cur im (ix2 0 p)
      = if k0_pay3 (F := Ideal) lb pt (ix2 0 p) < cur (ix2 0 p) then k0_pay4 (F := Ideal) i lb pt (ix2 0 p) else im (ix2 0 p) := by
  pointwise [k0_pay9, k0_pay7]

theorem pay11_at (p : Fin 784) : k0_pay11 (F := Ideal) pt (ix2 0 p) = ∑ d : Fin 1536, pt (ix2 d p) * pt (ix2 d p) := by
  pointwise [k0_pay11]

theorem pay12_at (cur : FVec Ideal S1x784 .f32) (p : Fin 784) : k0_pay12 (F := Ideal) pt cur (ix2 0 p)
    = Ideal.sqrt (max (cur (ix2 0 p) + ∑ d : Fin 1536, pt (ix2 d p) * pt (ix2 d p)) 0) := by
  pointwise [k0_pay12, k0_pay11]

/-- The greatest distance. -/
def top (pt : FVec Ideal S1536x784 .f32) (cur : FVec Ideal S1x784 .f32) : EReal :=
  Finset.univ.fold max ⊥ fun p : Fin 784 => k0_pay12 (F := Ideal) pt cur (ix2 0 p)

theorem pay13_at (cur : FVec Ideal S1x784 .f32) : k0_pay13 (F := Ideal) pt cur = top pt cur := by
  unfold k0_pay13
  pointwise
  rw [bot_bits, top, fold_pair max ⊥ fun p : Fin 784 => k0_pay12 (F := Ideal) pt cur (ix2 0 p)]

theorem pay16_at (cur : FVec Ideal S1x784 .f32) (k : Fin 784) (h : First (fun p : Fin 784 => k0_pay12 (F := Ideal) pt cur (ix2 0 p) = top pt cur) k) :
    k0_pay16 (F := Ideal) pt cur (ix2 0 0) = BitVec.ofNat 32 k.val := by
  pointwise [k0_pay16]
  simp only [pay13_at]
  exact fold_first (by norm_num) (fun p : Fin 784 => k0_pay12 (F := Ideal) pt cur (ix2 0 p) = top pt cur) _ rfl k h

theorem pay14_at (cur : FVec Ideal S1x784 .f32) (im : IVec S1x784 32) (k : Fin 784)
    (h : First (fun p : Fin 784 => k0_pay12 (F := Ideal) pt cur (ix2 0 p) = top pt cur) k) :
    k0_pay14 (F := Ideal) pt cur im (ix3 0 0 0) = im (ix2 0 k) := by
  pointwise [k0_pay14]
  simp only [pay13_at]
  rw [fold_first (by norm_num) (fun p : Fin 784 => k0_pay12 (F := Ideal) pt cur (ix2 0 p) = top pt cur) _ rfl k h]
  exact pick_sumI (by norm_num) k fun p => im (ix2 0 p)

end Cert.Values

end
-- ==== Proof.V2.lean ====
module

public import proofs.«01_k».proof.Proof.IRun
public import proofs.«01_k».proof.Proof.V0
public import Idealize.ShloMosaic.Lib.Pipeline.ValueKit.Geometry

@[expose] public section

set_option maxRecDepth 16384

noncomputable section

namespace Cert.Values

open Cert.KernelIdeal hiding ix2
open Cert.KernelIdeal.Gen Cert.KernelIdeal.Own Idealize.ShloMosaic Idealize.ShloMosaic.TcCoe Idealize.SL.Sem
open Idealize.ShloMosaic.Pipeline (Dat)

/-- Squared length of a row of the library. -/
def b2 (lib : FVec Ideal S16384x1536 .f32) (k : Fin 16384) : EReal := ∑ d : Fin 1536, lib (ix2 k d) * lib (ix2 k d)
/-- Squared length of a patch. -/
def a2 (pat : FVec Ideal S784x1536 .f32) (p : Fin 784) : EReal := ∑ d : Fin 1536, pat (ix2 p d) * pat (ix2 p d)
/-- Product of a row of the library with a patch. -/
def gg (lib : FVec Ideal S16384x1536 .f32) (pat : FVec Ideal S784x1536 .f32) (k : Fin 16384) (p : Fin 784) : EReal :=
  ∑ d : Fin 1536, lib (ix2 k d) * pat (ix2 p d)
/-- The part of the squared distance that depends on the row. -/
def cc (lib : FVec Ideal S16384x1536 .f32) (pat : FVec Ideal S784x1536 .f32) (k : Fin 16384) (p : Fin 784) : EReal :=
  b2 lib k - two * gg lib pat k p

/-- A row of the library by its block and its place in it. -/
def rowOf (t : Fin 16) (r : Fin 1024) : Fin 16384 := ⟨t.val * 1024 + r.val, by omega⟩

variable (V : Entry Ideal) (c : Dev nD) (lib : FVec Ideal S16384x1536 .f32) (pat : FVec Ideal S784x1536 .f32)

theorem lib_at (hl : V c main_arg1 = lib) (t : Fin 16) (r : Fin 1024) (d : Fin 1536) :
    blk0 V c 1 t (ix2 r d) = lib (ix2 (rowOf t r) d) := by
  subst hl
  have h0 : (cfg0.win 1).index t 0 = t.val := by revert t; decide +kernel
  have h1 : (cfg0.win 1).index t 1 = 0 := by revert t; decide +kernel
  blk_simp [blk0]
  congr 1
  funext a
  apply Fin.ext
  match a with
  | ⟨0, _⟩ =>
    refine (ValueKit.view_emb_slice_whole_unit_val _ _ _ _ _ _).trans ?_
    show win0_1.index t 0 * 1024 + _ = _
    rw [show win0_1.index t 0 = t.val from h0]
    rfl
  | ⟨1, _⟩ =>
    refine (ValueKit.view_emb_slice_whole_unit_val _ _ _ _ _ _).trans ?_
    show win0_1.index t 1 * 1536 + _ = _
    rw [show win0_1.index t 1 = 0 from h1]
    exact Nat.zero_add _

theorem pat_at (hp : ∀ d p, V c main_v0 (ix2 d p) = pat (ix2 p d)) (t : Fin 16) (d : Fin 1536) (p : Fin 784) :
    blk0 V c 0 t (ix2 d p) = pat (ix2 p d) := by
  rw [← hp]
  have h0 : (cfg0.win 0).index t 0 = 0 := by revert t; decide +kernel
  have h1 : (cfg0.win 0).index t 1 = 0 := by revert t; decide +kernel
  blk_simp [blk0]
  congr 1
  funext a
  apply Fin.ext
  match a with
  | ⟨0, _⟩ =>
    refine (ValueKit.view_emb_slice_whole_unit_val _ _ _ _ _ _).trans ?_
    show win0_0.index t 0 * 1536 + _ = _
    rw [show win0_0.index t 0 = 0 from h0]
    exact Nat.zero_add _
  | ⟨1, _⟩ =>
    refine (ValueKit.view_emb_slice_whole_unit_val _ _ _ _ _ _).trans ?_
    show win0_0.index t 1 * 784 + _ = _
    rw [show win0_0.index t 1 = 0 from h1]
    exact Nat.zero_add _

/-- The last point of the grid. -/
def last0 : Fin cfg0.N := ⟨15, by decide⟩

theorem arr2 (x : FVec Ideal S1x784 .f32) (h : (dat0 V c).after 2 last0 = x) : (dat0 V c).arrAt 2 cfg0.N = x := by
  refine (dat0 V c).arrAt_eq_of_after_last 2 last0 (by decide +kernel) x fun j => ?_
  rw [h]
  exact congrArg x (funext fun a => rfl)
theorem arr3 (x : FVec Ideal S1x1 .f32) (h : (dat0 V c).after 3 last0 = x) : (dat0 V c).arrAt 3 cfg0.N = x := by
  refine (dat0 V c).arrAt_eq_of_after_last 3 last0 (by decide +kernel) x fun j => ?_
  rw [h]
  exact congrArg x (funext fun a => rfl)
theorem arr4 (x : IVec S1x1 32) (h : (dat0 V c).after 4 last0 = x) : (dat0 V c).arrAt 4 cfg0.N = x := by
  refine (dat0 V c).arrAt_eq_of_after_last 4 last0 (by decide +kernel) x fun j => ?_
  rw [h]
  exact congrArg x (funext fun a => rfl)
theorem arr5 (x : IVec S1x1 32) (h : (dat0 V c).after 5 last0 = x) : (dat0 V c).arrAt 5 cfg0.N = x := by
  refine (dat0 V c).arrAt_eq_of_after_last 5 last0 (by decide +kernel) x fun j => ?_
  rw [h]
  exact congrArg x (funext fun a => rfl)
theorem arr7 (x : FVec Ideal S1x784 .f32) (h : (dat0 V c).after 7 last0 = x) : (dat0 V c).arrAt 7 cfg0.N = x := by
  refine (dat0 V c).arrAt_eq_of_after_last 7 last0 (by decide +kernel) x fun j => ?_
  rw [h]
  exact congrArg x (funext fun a => rfl)

/-- The whole column of squared lengths, as the blocks write it. -/
def colB2 : FVec Ideal S16384x1 .f32 := fun j => b2 lib (j 0)

theorem arr6 (hl : V c main_arg1 = lib) : (dat0 V c).arrAt 6 cfg0.N = colB2 lib := by
  refine (dat0 V c).arrAt_eq_of_covers 6 (colB2 lib) (by decide +kernel) fun t hf y => ?_
  blk_simp
  rw [after0_6]
  have hy : y = ix2 (y 0) 0 := by
    rw [eq_ix2 y]
    congr 1
    exact Subsingleton.elim (α := Fin 1) _ _
  have h0 : ∀ t : Fin 16, (cfg0.win 6).index t 0 = t.val := by decide +kernel
  have e : ((win0_6.blk t).view.emb y) 0 = rowOf t (y 0) := by
    apply Fin.ext
    refine (ValueKit.view_emb_slice_whole_unit_val _ _ _ _ _ _).trans ?_
    show win0_6.index t 0 * 1024 + _ = _
    rw [show win0_6.index t 0 = t.val from h0 t]
    rfl
  show k0_pay1 (F := Ideal) (blk0 V c 1 t) y = b2 lib (((win0_6.blk t).view.emb y) 0)
  rw [e]
  refine (congrArg (k0_pay1 (F := Ideal) (blk0 V c 1 t)) hy).trans ((pay1_at (blk0 V c 1 t) (y 0)).trans ?_)
  unfold b2
  exact Finset.sum_congr rfl fun d _ => congrArg₂ (· * ·) (lib_at V c lib hl t (y 0) d) (lib_at V c lib hl t (y 0) d)

theorem acc0_zero {F : FTy → Type} [FloatOps F] (V : Entry F) (c : Dev nD) (h : 0 < cfg0.N) (t : Fin cfg0.N) (ht : t.val = 0) :
    acc0 V c 0 h = (k0_pay5 (blk0 V c 1 t) (blk0 V c 0 t), k0_pay6 (grid0.coords t) (blk0 V c 1 t) (blk0 V c 0 t)) := by
  obtain ⟨n, hn⟩ := t
  obtain rfl : n = 0 := ht
  rfl

/-- What the scratch rows hold after point `t`: the least value over the rows so far, and the first row that has it. -/
theorem acc_inv (hl : V c main_arg1 = lib) (hp : ∀ d p, V c main_v0 (ix2 d p) = pat (ix2 p d)) (p : Fin 784) (n : ℕ) :
    ∀ h : n < cfg0.N, ∃ k : Fin 16384, k.val < 1024 * (n + 1) ∧ (∀ j : Fin 16384, j.val < 1024 * (n + 1) → cc lib pat k p ≤ cc lib pat j p)
      ∧ (∀ j, j < k → cc lib pat k p < cc lib pat j p)
      ∧ (acc0 V c n h).1 (ix2 0 p) = cc lib pat k p ∧ (acc0 V c n h).2 (ix2 0 p) = BitVec.ofNat 32 k.val := by
  have hg : ∀ t : Fin 16, (grid0.coords t 0).val = t.val := by decide +kernel
  have hcol : ∀ (t : Fin cfg0.N) (r : Fin 1024), col (blk0 V c 1 t) (blk0 V c 0 t) r p = cc lib pat (rowOf t r) p := fun t r => by
    unfold col cc b2 gg
    exact congrArg₂ (fun x y : EReal => x - two * y)
      (Finset.sum_congr rfl fun d _ => congrArg₂ (· * ·) (lib_at V c lib hl t r d) (lib_at V c lib hl t r d))
      (Finset.sum_congr rfl fun d _ => congrArg₂ (· * ·) (lib_at V c lib hl t r d) (pat_at V c pat hp t d p))
  have hmin : ∀ (t : Fin cfg0.N) (r : Fin 1024), Least (fun r => cc lib pat (rowOf t r) p) r →
      k0_pay3 (F := Ideal) (blk0 V c 1 t) (blk0 V c 0 t) (ix2 0 p) = cc lib pat (rowOf t r) p := fun t r hr => by
    rw [pay3_at, show (fun r => col (blk0 V c 1 t) (blk0 V c 0 t) r p) = fun r => cc lib pat (rowOf t r) p from funext fun r => hcol t r, hr.fold]
  have hidx : ∀ (t : Fin cfg0.N) (r : Fin 1024), Least (fun r => cc lib pat (rowOf t r) p) r →
      k0_pay4 (F := Ideal) (grid0.coords t) (blk0 V c 1 t) (blk0 V c 0 t) (ix2 0 p) = BitVec.ofNat 32 (rowOf t r).val := fun t r hr => by
    rw [pay4_at _ _ _ p r (show Least (fun r => col (blk0 V c 1 t) (blk0 V c 0 t) r p) r from (funext fun r => hcol t r : (fun r => col (blk0 V c 1 t) (blk0 V c 0 t) r p) = fun r => cc lib pat (rowOf t r) p) ▸ hr)]
    rw [show (grid0.coords t 0).val = t.val from hg t, Nat.add_comm]
    rfl
  have h5 : ∀ (t : Fin cfg0.N) (r : Fin 1024), Least (fun r => cc lib pat (rowOf t r) p) r →
      k0_pay5 (F := Ideal) (blk0 V c 1 t) (blk0 V c 0 t) (ix2 0 p) = cc lib pat (rowOf t r) p := fun t r hr =>
    (pay5_at (blk0 V c 1 t) (blk0 V c 0 t) p).trans (hmin t r hr)
  have h6 : ∀ (t : Fin cfg0.N) (r : Fin 1024), Least (fun r => cc lib pat (rowOf t r) p) r →
      k0_pay6 (F := Ideal) (grid0.coords t) (blk0 V c 1 t) (blk0 V c 0 t) (ix2 0 p) = BitVec.ofNat 32 (rowOf t r).val := fun t r hr =>
    (pay6_at (blk0 V c 1 t) (blk0 V c 0 t) (grid0.coords t) p).trans (hidx t r hr)
  induction n with
  | zero =>
    intro h
    obtain ⟨t, ht⟩ : ∃ t : Fin cfg0.N, t.val = 0 := ⟨⟨0, h⟩, rfl⟩
    rw [acc0_zero V c h t ht]
    obtain ⟨r, hr⟩ := exists_least (fun r => cc lib pat (rowOf t r) p) (by norm_num)
    refine ⟨rowOf t r, ?_, ?_, ?_, ?_, ?_⟩
    · show t.val * 1024 + r.val < _; omega
    · intro j hj
      have := hr.1 ⟨j.val, by omega⟩
      have ej : rowOf t ⟨j.val, by omega⟩ = j := Fin.ext (show t.val * 1024 + j.val = j.val by omega)
      exact ej ▸ this
    · intro j hj
      have hj' : j.val < t.val * 1024 + r.val := hj
      have := hr.2 ⟨j.val, by omega⟩ (show j.val < r.val by omega)
      have ej : rowOf t ⟨j.val, by omega⟩ = j := Fin.ext (show t.val * 1024 + j.val = j.val by omega)
      exact ej ▸ this
    · dsimp only
      exact h5 t r hr
    · dsimp only
      exact h6 t r hr
  | succ n ih =>
    intro h
    have h16 : n + 1 < 16 := h
    obtain ⟨k, hk1, hk2, hk3, hk4, hk5⟩ := ih (Nat.lt_of_succ_lt h)
    obtain ⟨r, hr⟩ := exists_least (fun r => cc lib pat (rowOf ⟨n + 1, h⟩ r) p) (by norm_num)
    have e1 : (acc0 V c (n + 1) h).1 (ix2 0 p) = min (cc lib pat (rowOf ⟨n + 1, h⟩ r) p) (cc lib pat k p) := by
      refine (pay8_at (blk0 V c 1 ⟨n + 1, h⟩) (blk0 V c 0 ⟨n + 1, h⟩) (acc0 V c n (Nat.lt_of_succ_lt h)).1 p).trans ?_
      exact congrArg₂ min (hmin ⟨n + 1, h⟩ r hr) hk4
    have e2 : (acc0 V c (n + 1) h).2 (ix2 0 p) = if cc lib pat (rowOf ⟨n + 1, h⟩ r) p < cc lib pat k p
        then BitVec.ofNat 32 (rowOf ⟨n + 1, h⟩ r).val else BitVec.ofNat 32 k.val := by
      refine (pay9_at (blk0 V c 1 ⟨n + 1, h⟩) (blk0 V c 0 ⟨n + 1, h⟩) (grid0.coords ⟨n + 1, h⟩) (acc0 V c n (Nat.lt_of_succ_lt h)).1
        (acc0 V c n (Nat.lt_of_succ_lt h)).2 p).trans ?_
      have hpick : ∀ (x x' y y' : EReal) (u u' v v' : BitVec 32), x = x' → y = y' → u = u' → v = v' →
          (if x < y then u else v) = if x' < y' then u' else v' := fun x x' y y' u u' v v' hx hy hu hv => by
        subst hx; subst hy; subst hu; subst hv; rfl
      exact hpick _ _ _ _ _ _ _ _ (hmin ⟨n + 1, h⟩ r hr) hk4 (hidx ⟨n + 1, h⟩ r hr) hk5
    -- a row of the new block is above the least of it
    have hnew : ∀ j : Fin 16384, ¬ j.val < 1024 * (n + 1) → j.val < 1024 * (n + 1 + 1) →
        cc lib pat (rowOf ⟨n + 1, h⟩ r) p ≤ cc lib pat j p ∧ (j < rowOf ⟨n + 1, h⟩ r → cc lib pat (rowOf ⟨n + 1, h⟩ r) p < cc lib pat j p) := by
      intro j h1 h2
      have ej : rowOf ⟨n + 1, h⟩ ⟨j.val - 1024 * (n + 1), by omega⟩ = j :=
        Fin.ext (show (n + 1) * 1024 + (j.val - 1024 * (n + 1)) = j.val by omega)
      constructor
      · have := hr.1 ⟨j.val - 1024 * (n + 1), by omega⟩
        exact ej ▸ this
      · intro hj
        have hj' : j.val < (n + 1) * 1024 + r.val := hj
        have := hr.2 ⟨j.val - 1024 * (n + 1), by omega⟩ (show j.val - 1024 * (n + 1) < r.val by omega)
        exact ej ▸ this
    by_cases hlt : cc lib pat (rowOf ⟨n + 1, h⟩ r) p < cc lib pat k p
    · refine ⟨rowOf ⟨n + 1, h⟩ r, ?_, ?_, ?_, ?_, ?_⟩
      · show (n + 1) * 1024 + r.val < _; omega
      · intro j hj
        by_cases hj' : j.val < 1024 * (n + 1)
        · exact hlt.le.trans (hk2 j hj')
        · exact (hnew j hj' hj).1
      · intro j hj
        by_cases hj' : j.val < 1024 * (n + 1)
        · exact hlt.trans_le (hk2 j hj')
        · exact (hnew j hj' (by have : j.val < (n + 1) * 1024 + r.val := hj; omega)).2 hj
      · rw [e1, min_eq_left hlt.le]
      · rw [e2, if_pos hlt]
    · refine ⟨k, by omega, ?_, hk3, ?_, ?_⟩
      · intro j hj
        by_cases hj' : j.val < 1024 * (n + 1)
        · exact hk2 j hj'
        · exact (not_lt.1 hlt).trans (hnew j hj' hj).1
      · rw [e1, min_eq_right (not_lt.1 hlt)]
      · rw [e2, if_neg hlt]

/-- The least value and the row it comes from, after the last point. -/
theorem acc_last (hl : V c main_arg1 = lib) (hp : ∀ d p, V c main_v0 (ix2 d p) = pat (ix2 p d)) (p : Fin 784) (k : Fin 16384)
    (hk : Least (fun k => cc lib pat k p) k) :
    (acc0 V c 15 (by decide)).1 (ix2 0 p) = cc lib pat k p ∧ (acc0 V c 15 (by decide)).2 (ix2 0 p) = BitVec.ofNat 32 k.val := by
  obtain ⟨l, h1, h2, h3, h4, h5⟩ := acc_inv V c lib pat hl hp p 15 (by decide)
  have : l = k := Least.unique (f := fun k => cc lib pat k p) ⟨fun j => h2 j (by omega), h3⟩ hk
  subst this
  exact ⟨h4, h5⟩

end Cert.Values

end
-- ==== Proof.V4.lean ====
module

public import proofs.«01_k».proof.Proof.V2
public import proofs.«01_k».proof.Proof.V3

@[expose] public section

set_option maxRecDepth 16384

noncomputable section

namespace Cert.Values

open Idealize.ShloMosaic Idealize.ShloMosaic.TcCoe Idealize.SL.Sem

/-- The reference's distance between a patch and a row. -/
def dd (lib : FVec Ideal Cert.KernelIdeal.S16384x1536 .f32) (pat : FVec Ideal Cert.KernelIdeal.S784x1536 .f32) (k : Fin 16384) (p : Fin 784) : EReal :=
  Ideal.sqrt (max (cc lib pat k p + a2 pat p) 0)

theorem dist_sum (lib : FVec Ideal Cert.KernelIdeal.S16384x1536 .f32) (pat : FVec Ideal Cert.KernelIdeal.S784x1536 .f32) (k : Fin 16384) (p : Fin 784) :
    Ideal.sqrt (max (((∑ d : Fin 1536, pat (ix2 p d) * pat (ix2 p d)) + ∑ d : Fin 1536, lib (ix2 k d) * lib (ix2 k d))
      - Ideal.ofBits .f32 0x40000000#32 * ∑ d : Fin 1536, pat (ix2 p d) * lib (ix2 k d)) 0) = dd lib pat k p := by
  unfold dd cc b2 a2 gg two
  rw [sub_eq_add_neg, sub_eq_add_neg, add_assoc, add_comm]
  simp only [mul_comm (pat _) (lib _)]

/-- The least of the reference's distances of a patch. -/
def dmin (lib : FVec Ideal Cert.KernelIdeal.S16384x1536 .f32) (pat : FVec Ideal Cert.KernelIdeal.S784x1536 .f32) (p : Fin 784) : EReal :=
  Finset.univ.fold min ⊤ fun k => dd lib pat k p

/-- The greatest of a family of values. -/
def most {n : ℕ} (f : Fin n → EReal) : EReal := Finset.univ.fold max ⊥ f

/-- The square root of the number of features. -/
def scale : EReal := Ideal.sqrt (Ideal.ofBits .f32 0x44C00000#32)

/-- The weighted score of a distance, given the sum in the weight's denominator. -/
def weigh (s z : EReal) : EReal := (1 - Ideal.div (Ideal.exp (Ideal.div s scale)) z) * s

/-- The reference's distance between the row `m` and a row of the library. -/
def ww (m : Fin 1536 → EReal) (lib : FVec Ideal Cert.KernelIdeal.S16384x1536 .f32) (k : Fin 16384) : EReal :=
  Ideal.sqrt (max (((∑ d : Fin 1536, m d * m d) + ∑ d : Fin 1536, lib (ix2 k d) * lib (ix2 k d))
    - Ideal.ofBits .f32 0x40000000#32 * ∑ d : Fin 1536, m d * lib (ix2 k d)) 0)

theorem dist_min (lib : FVec Ideal Cert.KernelIdeal.S16384x1536 .f32) (pat : FVec Ideal Cert.KernelIdeal.S784x1536 .f32) (p : Fin 784) :
    (Finset.univ.fold min ⊤ fun k : Fin 16384 => Ideal.sqrt (max (((∑ d : Fin 1536, pat (ix2 p d) * pat (ix2 p d)) + ∑ d : Fin 1536, lib (ix2 k d) * lib (ix2 k d))
      - Ideal.ofBits .f32 0x40000000#32 * ∑ d : Fin 1536, pat (ix2 p d) * lib (ix2 k d)) 0)) = dmin lib pat p := by
  simp only [dist_sum]
  rfl

section

open Cert.ReferenceIdeal
open Cert.ReferenceIdeal.Gen Cert.ReferenceIdeal.Own

variable (W : Valuation τ sig (Elt Ideal))

theorem dist_at (p : Fin 784) (k : Fin 16384) :
    (StableHlo.after rows W (Proc.devRef .tc main_v16) : FVec Ideal S784x16384 .f32) (ix2 p k)
      = dd (W (Proc.devRef .tc main_arg1)) (W (Proc.devRef .tc main_arg0)) k p := by
  after_reads_simp
  pointwise
  exact dist_sum (W (Proc.devRef .tc main_arg1)) (W (Proc.devRef .tc main_arg0)) k p

theorem min_at (p : Fin 784) :
    (StableHlo.after rows W (Proc.devRef .tc main_v17) : FVec Ideal S784 .f32) (ix1 p)
      = dmin (W (Proc.devRef .tc main_arg1)) (W (Proc.devRef .tc main_arg0)) p := by
  after_reads_simp
  pointwise
  rw [top_bits]
  exact dist_min (W (Proc.devRef .tc main_arg1)) (W (Proc.devRef .tc main_arg0)) p

variable (mn : FVec Ideal S784 .f32) (hmn : W (Proc.devRef .tc main_v17) = mn)
include hmn

theorem image_at (j i : Fin 28) : (StableHlo.after score W (Proc.devRef .tc main_v83) : FVec Ideal S1x1x28x28 .f32) (ix4 0 0 j i)
    = mn (ix1 ⟨j.val * 28 + i.val, by omega⟩) := by
  subst hmn
  after_reads_simp
  try simp only [StableHlo.TRef.toBuf, StableHlo.TRef.ofBuf, cast_eq]
  pointwise

theorem most_at : (StableHlo.after picks W (Proc.devRef .tc main_v20) : FVec Ideal S_ .f32) ix0
    = most fun p => mn (ix1 p) := by
  subst hmn
  after_reads_simp
  try simp only [StableHlo.TRef.toBuf, StableHlo.TRef.ofBuf, cast_eq]
  pointwise
  rw [bot_bits]
  rfl

omit hmn

theorem resize_at (im : FVec Ideal S1x1x28x28 .f32) (h : W (Proc.devRef .tc main_v83) = im)
    (l r : FVec Ideal S28x224 .f32) (hl : W (Proc.devRef .tc main_call3_v42) = l) (hr : W (Proc.devRef .tc main_call3_v85) = r) (y x : Fin 224) :
    (StableHlo.after resize W (Proc.devRef .tc main_v84) : FVec Ideal S1x1x224x224 .f32) (ix4 0 0 y x)
      = ∑ i : Fin 28, (∑ j : Fin 28, l (ix2 j y) * im (ix4 0 0 j i)) * r (ix2 i x) := by
  subst h hl hr
  after_reads_simp
  try simp only [StableHlo.TRef.toBuf, StableHlo.TRef.ofBuf, cast_eq]
  pointwise

theorem score_at (s : FVec Ideal S_ .f32) (h : W (Proc.devRef .tc main_v20) = s) (v : FVec Ideal S2x1536 .f32) (hv : W (Proc.devRef .tc main_v71) = v) :
    (StableHlo.after score W (Proc.devRef .tc main_v82) : FVec Ideal S_ .f32) ix0
      = weigh (s ix0) (∑ x : Fin 2, Ideal.exp (Ideal.div (Ideal.sqrt (∑ d : Fin 1536, v (ix2 x d) * v (ix2 x d))) scale)) := by
  subst h hv
  after_reads_simp
  try simp only [StableHlo.TRef.toBuf, StableHlo.TRef.ofBuf, cast_eq]
  pointwise
  rfl

theorem around_at (lib : FVec Ideal S16384x1536 .f32) (h : W (Proc.devRef .tc main_arg1) = lib) (m : FVec Ideal S1x1536 .f32) (hm : W (Proc.devRef .tc main_v43) = m) (k : Fin 16384) :
    (StableHlo.after around W (Proc.devRef .tc main_v60) : FVec Ideal S1x16384 .f32) (ix2 0 k)
      = - ww (fun d => m (ix2 0 d)) lib k := by
  subst h hm
  after_reads_simp
  try simp only [StableHlo.TRef.toBuf, StableHlo.TRef.ofBuf, cast_eq]
  pointwise
  rfl

end

end Cert.Values

end
-- ==== Proof.V6.lean ====
module

public import proofs.«01_k».proof.Proof.V4
public import Idealize.ShloMosaic.Lib.SortPrefix
public import Idealize.ShloMosaic.Lib.Routing.Ops

@[expose] public section

set_option maxRecDepth 16384

noncomputable section

namespace Cert.Values

open Idealize.ShloMosaic Idealize.ShloMosaic.TcCoe Idealize.SL.Sem

/-! ## The index a fold of pairs keeps -/

/-- A fold whose step keeps the element `e` on either side gives `e` once it has met it. -/
theorem foldl_keep {α : Type} (f : α → α → α) (S : α → Prop) (hS : ∀ a b, S a → S b → S (f a b)) (e : α)
    (h1 : ∀ a, S a → f a e = e) (h2 : ∀ a, S a → f e a = e) : ∀ (l : List α) (a : α), S a → (∀ x ∈ l, S x) → (e ∈ l ∨ a = e) → l.foldl f a = e := by
  intro l
  induction l with
  | nil => intro a _ _ h; exact h.resolve_left (by simp)
  | cons x l ih =>
    intro a ha hl h
    rw [List.foldl_cons]
    have hx : S x := hl x (by simp)
    refine ih _ (hS a x ha hx) (fun y hy => hl y (by simp [hy])) ?_
    rcases h with h | h
    · rcases List.mem_cons.1 h with h | h
      · subst h; exact Or.inr (h1 a ha)
      · exact Or.inl h
    · subst h; exact Or.inr (h2 x hx)

theorem small_lt {n : ℕ} (hn : n < 2 ^ 31) (j k : ℕ) (hj : j < n) (hk : k < n) :
    (IntOp.cmpi .slt (BitVec.ofNat 32 j) (BitVec.ofNat 32 k) = 1#1) ↔ j < k := by
  have e : IntOp.cmpi .slt (BitVec.ofNat 32 j) (BitVec.ofNat 32 k) = BitVec.ofBool ((BitVec.ofNat 32 j).slt (BitVec.ofNat 32 k)) := rfl
  rw [e, BitVec.slt, toInt_small j (by omega), toInt_small k (by omega)]
  by_cases h : j < k
  · have h' : (j : ℤ) < k := by omega
    simp [h]
  · have h' : ¬ (j : ℤ) < k := by omega
    simp [h]

theorem ofBool_or (a b : Bool) : IntOp.ori (BitVec.ofBool a) (BitVec.ofBool b) = BitVec.ofBool (a || b) := by
  cases a <;> cases b <;> rfl

theorem ofBool_and (a b : Bool) : IntOp.andi (BitVec.ofBool a) (BitVec.ofBool b) = BitVec.ofBool (a && b) := by
  cases a <;> cases b <;> rfl

theorem select_ofBool {α : Type} (c : Bool) (a b : α) : Scalar.select (BitVec.ofBool c) a b = if c then a else b := by
  cases c <;> rfl

/-- Where a word is moved up by `N` only if negative, a small one stays. -/
theorem wrap_word (k : ℕ) (h : k < 2 ^ 31) (N : BitVec 32) :
    Scalar.select (IntOp.cmpi .slt (BitVec.ofNat 32 k) 0#32) (IntOp.addi (BitVec.ofNat 32 k) N) (BitVec.ofNat 32 k) = BitVec.ofNat 32 k := by
  have e : IntOp.cmpi .slt (BitVec.ofNat 32 k) 0#32 = BitVec.ofBool ((BitVec.ofNat 32 k).slt 0#32) := rfl
  have f : ((BitVec.ofNat 32 k).slt 0#32) = false := by
    rw [BitVec.slt, toInt_small k h]
    simp
  rw [e, f]
  rfl

/-- The index `k` is the first of the greatest values. -/
def Greatest {n : ℕ} (f : Fin n → EReal) (k : Fin n) : Prop := (∀ j, f j ≤ f k) ∧ ∀ j, j < k → f j < f k

section

open Cert.ReferenceIdeal
open Cert.ReferenceIdeal.Gen Cert.ReferenceIdeal.Own

theorem step_min (a b : Ideal .f32 × BitVec 32) :
    reducer_argmin_f32_i32 (F := Ideal) a b = if (a.1 : EReal) < b.1 then a else if (a.1 : EReal) = b.1 ∧ IntOp.cmpi .slt a.2 b.2 = 1#1 then a else b := by
  have e : IntOp.cmpi .slt a.2 b.2 = BitVec.ofBool (a.2.slt b.2) := rfl
  obtain ⟨x, i⟩ := a
  obtain ⟨y, j⟩ := b
  simp only [reducer_argmin_f32_i32, Ideal.cmpf_def, Ideal.cmp] at e ⊢
  rw [e]
  simp only [ofBool_or, ofBool_and, select_ofBool]
  by_cases h : (x : EReal) < y
  · simp [h]
  · by_cases h' : (x : EReal) = y
    · subst h'
      cases i.slt j <;> simp
    · simp [h, h']

theorem step_max (a b : Ideal .f32 × BitVec 32) :
    reducer_argmax_f32_i32 (F := Ideal) a b = if (b.1 : EReal) < a.1 then a else if (a.1 : EReal) = b.1 ∧ IntOp.cmpi .slt a.2 b.2 = 1#1 then a else b := by
  have e : IntOp.cmpi .slt a.2 b.2 = BitVec.ofBool (a.2.slt b.2) := rfl
  obtain ⟨x, i⟩ := a
  obtain ⟨y, j⟩ := b
  simp only [reducer_argmax_f32_i32, Ideal.cmpf_def, Ideal.cmp] at e ⊢
  rw [e]
  simp only [ofBool_or, ofBool_and, select_ofBool]
  by_cases h : (y : EReal) < x
  · simp [h]
  · by_cases h' : (x : EReal) = y
    · subst h'
      cases i.slt j <;> simp
    · simp [h, h']

/-- Folding the pairs of values and positions by the smaller value gives the first least one. -/
theorem fold_argmin {n : ℕ} (hn : n < 2 ^ 31) (f : Fin n → EReal) (k : Fin n) (hk : Least f k) (l : List (Ideal .f32 × BitVec 32))
    (hl : ∀ x ∈ l, ∃ j : Fin n, x = (f j, BitVec.ofNat 32 j.val)) (hm : (f k, BitVec.ofNat 32 k.val) ∈ l) :
    l.foldl (reducer_argmin_f32_i32 (F := Ideal)) ((⊤ : EReal), 0#32) = (f k, BitVec.ofNat 32 k.val) := by
  have hpos : 0 < n := k.pos
  refine foldl_keep _ (fun a => (∃ j : Fin n, a = (f j, BitVec.ofNat 32 j.val)) ∨ a = ((⊤ : EReal), 0#32)) ?_ _ ?_ ?_ l _ (Or.inr rfl) (fun x hx => Or.inl (hl x hx)) (Or.inl hm)
  · intro a b ha hb
    rw [step_min]
    split
    · exact ha
    · split
      · exact ha
      · exact hb
  · rintro a (⟨j, rfl⟩ | rfl)
    · rw [step_min, if_neg (not_lt.2 (hk.1 j))]
      split
      · rename_i h
        have hlt := (small_lt hn _ _ j.isLt k.isLt).1 h.2
        exact absurd h.1 (hk.2 j hlt).ne'
      · rfl
    · rw [step_min, if_neg (not_lt.2 le_top)]
      split
      · rename_i h
        have hlt := (small_lt hn 0 _ hpos k.isLt).1 h.2
        have := hk.2 ⟨0, hpos⟩ hlt
        have h1 : (⊤ : EReal) = f k := h.1
        rw [← h1] at this
        exact absurd this not_top_lt
      · rfl
  · rintro a (⟨j, rfl⟩ | rfl)
    · rw [step_min]
      split
      · rfl
      · rename_i h
        have he : f k = f j := le_antisymm (hk.1 j) (not_lt.1 h)
        split
        · rfl
        · rename_i h'
          have hjk : ¬ k.val < j.val := fun hlt => h' ⟨he, (small_lt hn _ _ k.isLt j.isLt).2 hlt⟩
          rcases lt_or_eq_of_le (not_lt.1 hjk) with hlt | heq
          · exact absurd he (hk.2 j hlt).ne
          · rw [Fin.ext heq]
    · rw [step_min]
      split
      · rfl
      · rename_i h
        have he : f k = ⊤ := le_antisymm le_top (not_lt.1 h)
        have hk0 : k.val = 0 := by
          by_contra hne
          have := hk.2 ⟨0, hpos⟩ (show (0 : ℕ) < k.val by omega)
          rw [he] at this
          exact absurd this not_top_lt
        split
        · rfl
        · rw [he, hk0]

/-- Folding the pairs of values and positions by the greater value gives the first greatest one. -/
theorem fold_argmax {n : ℕ} (hn : n < 2 ^ 31) (f : Fin n → EReal) (k : Fin n) (hk : Greatest f k) (l : List (Ideal .f32 × BitVec 32))
    (hl : ∀ x ∈ l, ∃ j : Fin n, x = (f j, BitVec.ofNat 32 j.val)) (hm : (f k, BitVec.ofNat 32 k.val) ∈ l) :
    l.foldl (reducer_argmax_f32_i32 (F := Ideal)) ((⊥ : EReal), 0#32) = (f k, BitVec.ofNat 32 k.val) := by
  have hpos : 0 < n := k.pos
  refine foldl_keep _ (fun a => (∃ j : Fin n, a = (f j, BitVec.ofNat 32 j.val)) ∨ a = ((⊥ : EReal), 0#32)) ?_ _ ?_ ?_ l _ (Or.inr rfl) (fun x hx => Or.inl (hl x hx)) (Or.inl hm)
  · intro a b ha hb
    rw [step_max]
    split
    · exact ha
    · split
      · exact ha
      · exact hb
  · rintro a (⟨j, rfl⟩ | rfl)
    · rw [step_max, if_neg (not_lt.2 (hk.1 j))]
      split
      · rename_i h
        have hlt := (small_lt hn _ _ j.isLt k.isLt).1 h.2
        exact absurd h.1 (hk.2 j hlt).ne
      · rfl
    · rw [step_max, if_neg (not_lt.2 bot_le)]
      split
      · rename_i h
        have hlt := (small_lt hn 0 _ hpos k.isLt).1 h.2
        have := hk.2 ⟨0, hpos⟩ hlt
        have h1 : (⊥ : EReal) = f k := h.1
        rw [← h1] at this
        exact absurd this not_lt_bot
      · rfl
  · rintro a (⟨j, rfl⟩ | rfl)
    · rw [step_max]
      split
      · rfl
      · rename_i h
        have he : f k = f j := le_antisymm (not_lt.1 h) (hk.1 j)
        split
        · rfl
        · rename_i h'
          have hjk : ¬ k.val < j.val := fun hlt => h' ⟨he, (small_lt hn _ _ k.isLt j.isLt).2 hlt⟩
          rcases lt_or_eq_of_le (not_lt.1 hjk) with hlt | heq
          · exact absurd he (hk.2 j hlt).ne'
          · rw [Fin.ext heq]
    · rw [step_max]
      split
      · rfl
      · rename_i h
        have he : f k = ⊥ := le_antisymm (not_lt.1 h) bot_le
        have hk0 : k.val = 0 := by
          by_contra hne
          have := hk.2 ⟨0, hpos⟩ (show (0 : ℕ) < k.val by omega)
          rw [he] at this
          exact absurd this not_lt_bot
        split
        · rfl
        · rw [he, hk0]

/-- The pairs a fold at `j` meets are those of the indices that drop to `j`. -/
theorem mem_fiber {s t : Shape} {α β : Type} {axes : List (Fin s.rank)} (x : s.Idx → α) (y : s.Idx → β) (h : s.ReducesTo axes t) (j : t.Idx) (a : α × β) :
    a ∈ Host.argReduceFiber x y h j ↔ ∃ i, h.drop i = j ∧ a = (x i, y i) := by
  unfold Host.argReduceFiber
  rw [List.mem_map]
  constructor
  · rintro ⟨n, hn, rfl⟩
    exact ⟨_, of_decide_eq_true (List.mem_filter.1 hn).2, rfl⟩
  · rintro ⟨i, hi, rfl⟩
    refine ⟨s.rowMajor i, List.mem_filter.2 ⟨List.mem_finRange _, decide_eq_true ?_⟩, ?_⟩
    · rw [Equiv.symm_apply_apply]; exact hi
    · rw [Equiv.symm_apply_apply]

theorem argmin_read (x : FVec Ideal S784x16384 .f32) (p : Fin 784) (k : Fin 16384) (hk : Least (fun k => x (ix2 p k)) k) :
    (Host.argReduce reducer_argmin_f32_i32 x (iotaInDim S784x16384 32 1)
        (constant S_ FTy.f32 0x7F800000#32) (constantI S_ 32 0#32) reducesTo_S784x16384_S784_d1 h_S_ (ix1 p)).2 = BitVec.ofNat 32 k.val := by
  rw [Ideal.argReduce_eq_reduce2, Host.reduce2_eq_foldl_fiber]
  have hl : ∀ a ∈ Host.argReduceFiber x (iotaInDim S784x16384 32 1) reducesTo_S784x16384_S784_d1 (ix1 p), ∃ q : Fin 16384, a = (x (ix2 p q), BitVec.ofNat 32 q.val) := fun a ha => by
    obtain ⟨i, hi, rfl⟩ := (mem_fiber _ _ _ _ _).1 ha
    have h0 : i 0 = p := congrFun hi 0
    refine ⟨i 1, Prod.ext (congrArg x ?_) rfl⟩
    exact (eq_ix2 i).trans (congrArg (fun q => ix2 q (i 1)) h0)
  have hm : (x (ix2 p k), BitVec.ofNat 32 k.val) ∈ Host.argReduceFiber x (iotaInDim S784x16384 32 1) reducesTo_S784x16384_S784_d1 (ix1 p) :=
    (mem_fiber _ _ _ _ _).2 ⟨ix2 p k, by funext a; match a with | ⟨0, _⟩ => rfl, rfl⟩
  have hb : (constant (F := Ideal) S_ FTy.f32 0x7F800000#32 (Shape.Idx.first h_S_), constantI S_ 32 0#32 (Shape.Idx.first h_S_)) = ((⊤ : EReal), 0#32) := Prod.ext top_bits rfl
  rw [hb]
  generalize Host.argReduceFiber x (iotaInDim S784x16384 32 1) reducesTo_S784x16384_S784_d1 (ix1 p) = L at hl hm ⊢
  exact congrArg Prod.snd (fold_argmin (by norm_num) (fun k => x (ix2 p k)) k hk L hl hm)

theorem argmax_read (x : FVec Ideal S784 .f32) (k : Fin 784) (hk : Greatest (fun k => x (ix1 k)) k) :
    (Host.argReduce reducer_argmax_f32_i32 x (iotaInDim S784 32 0)
        (constant S_ FTy.f32 0xFF800000#32) (constantI S_ 32 0#32) reducesTo_S784_S_d0 h_S_ ix0).2 = BitVec.ofNat 32 k.val := by
  rw [Ideal.argReduce_eq_reduce2, Host.reduce2_eq_foldl_fiber]
  have hl : ∀ a ∈ Host.argReduceFiber x (iotaInDim S784 32 0) reducesTo_S784_S_d0 ix0, ∃ q : Fin 784, a = (x (ix1 q), BitVec.ofNat 32 q.val) := fun a ha => by
    obtain ⟨i, hi, rfl⟩ := (mem_fiber _ _ _ _ _).1 ha
    exact ⟨i 0, Prod.ext (congrArg x (eq_ix1 i)) rfl⟩
  have hm : (x (ix1 k), BitVec.ofNat 32 k.val) ∈ Host.argReduceFiber x (iotaInDim S784 32 0) reducesTo_S784_S_d0 ix0 :=
    (mem_fiber _ _ _ _ _).2 ⟨ix1 k, by funext a; exact a.elim0, rfl⟩
  have hb : (constant (F := Ideal) S_ FTy.f32 0xFF800000#32 (Shape.Idx.first h_S_), constantI S_ 32 0#32 (Shape.Idx.first h_S_)) = ((⊥ : EReal), 0#32) := Prod.ext bot_bits rfl
  rw [hb]
  generalize Host.argReduceFiber x (iotaInDim S784 32 0) reducesTo_S784_S_d0 ix0 = L at hl hm ⊢
  exact congrArg Prod.snd (fold_argmax (by norm_num) (fun k => x (ix1 k)) k hk L hl hm)

/-! ## The first places of a stable sort -/

/-- Place `x` comes before place `y` when its value is smaller, or the same at an earlier place. -/
def Ahead {n : ℕ} (f : Fin n → EReal) (x y : Fin n) : Prop := f x < f y ∨ (f x = f y ∧ x < y)

/-- The first three places in the order of `f`. -/
structure Three {n : ℕ} (f : Fin n → EReal) (a b c : Fin n) : Prop where
  ab : Ahead f a b
  bc : Ahead f b c
  rest : ∀ p, p ≠ a → p ≠ b → p ≠ c → Ahead f c p

theorem Ahead.trans {n : ℕ} {f : Fin n → EReal} {x y z : Fin n} (h : Ahead f x y) (h' : Ahead f y z) : Ahead f x z := by
  rcases h with h | ⟨e, h⟩ <;> rcases h' with h' | ⟨e', h'⟩
  · exact Or.inl (h.trans h')
  · exact Or.inl (e' ▸ h)
  · exact Or.inl (e ▸ h')
  · exact Or.inr ⟨e.trans e', h.trans h'⟩

theorem Ahead.irrefl {n : ℕ} {f : Fin n → EReal} {x : Fin n} : ¬ Ahead f x x := by
  rintro (h | ⟨-, h⟩)
  · exact lt_irrefl _ h
  · exact lt_irrefl _ h

theorem Ahead.ne {n : ℕ} {f : Fin n → EReal} {x y : Fin n} (h : Ahead f x y) : x ≠ y := by
  rintro rfl
  exact Ahead.irrefl h

/-- Sorting by a relation that agrees, from earlier to later places, with another. -/
theorem stableSort_agree {ι : Type} (R R' : ι → ι → Bool) (l : List ι) (h : l.Pairwise fun a b => R b a = R' b a) : stableSort R l = stableSort R' l := by
  induction l with
  | nil => rfl
  | cons a l ih =>
    obtain ⟨h1, h2⟩ := List.pairwise_cons.1 h
    unfold stableSort
    rw [ih h2]
    exact insertBefore_congr R R' a _ fun b hb => h1 b ((perm_stableSort R' l).mem_iff.1 hb)

theorem sorted_three {n : ℕ} (hn : 3 ≤ n) (g f : Fin n → EReal) (hg : ∀ k, g k = - f k) (a b c : Fin n) (h : Three f a b c) (i : Fin 3) :
    sortedFrom (fun k k' => Ideal.cmp .ogt (g k) (g k') == 1#1) (i.castLE hn) = ![a, b, c] i := by
  classical
  have hB := StrictTotalBefore.of_key_then_position (fun x y : EReal => decide (x < y)) f (by simp)
    (fun x y z h1 h2 => by simp only [decide_eq_true_eq] at *; exact h1.trans h2)
    (fun x y => by simp only [decide_eq_true_eq]; exact lt_trichotomy x y)
  have hA : ∀ k k', ((fun k k' : Fin n => (fun x y : EReal => decide (x < y)) (f k) (f k') || (decide (f k = f k') && decide (k < k'))) k k' = true) ↔ Ahead f k k' := fun k k' => by
    simp [Ahead]
  have hN : ∀ k k', Ahead f k' k → (fun k k' : Fin n => (fun x y : EReal => decide (x < y)) (f k) (f k') || (decide (f k = f k') && decide (k < k'))) k k' = false := fun k k' hk => by
    rw [Bool.eq_false_iff]
    intro he
    exact Ahead.irrefl (((hA k k').1 he).trans hk)
  have hs : sortPositions n (fun k k' => Ideal.cmp .ogt (g k) (g k') == 1#1)
      = sortPositions n (fun k k' : Fin n => (fun x y : EReal => decide (x < y)) (f k) (f k') || (decide (f k = f k') && decide (k < k'))) := by
    refine stableSort_agree _ _ _ ((List.pairwise_lt_finRange n).imp fun {x y} hxy => ?_)
    have e : Ideal.cmp .ogt (g y) (g x) = BitVec.ofBool (decide (g x < g y)) := rfl
    rw [e, hg, hg]
    have h2 : decide (y < x) = false := decide_eq_false (not_lt.2 hxy.le)
    have h3 : (-f x < -f y) ↔ (f y < f x) := EReal.neg_lt_neg_iff
    rw [h2, Bool.and_false, Bool.or_false]
    by_cases hl : f y < f x
    · simp [h3, hl]
    · simp [h3, hl]
  have hs' : sortedFrom (fun k k' => Ideal.cmp .ogt (g k) (g k') == 1#1)
      = sortedFrom (fun k k' : Fin n => (fun x y : EReal => decide (x < y)) (f k) (f k') || (decide (f k = f k') && decide (k < k'))) := by
    funext k
    unfold sortedFrom
    rw [List.get_of_eq hs]
    rfl
  rw [hs']
  have hac := h.ab.trans h.bc
  refine hB.sortedFrom_eq_of_prefix hn ![a, b, c] ?_ ?_ ?_ i
  · intro x y hxy
    have h1 := h.ab.ne
    have h2 := h.bc.ne
    have h3 := hac.ne
    fin_cases x <;> fin_cases y <;> simp_all
  · intro x y hxy
    refine hN _ _ ?_
    fin_cases x <;> fin_cases y <;> first | exact absurd hxy (by decide) | exact h.ab | exact h.bc | exact hac
  · intro x p hp
    have hr := h.rest p (fun e => hp 0 e.symm) (fun e => hp 1 e.symm) (fun e => hp 2 e.symm)
    refine hN _ _ ?_
    fin_cases x
    · exact hac.trans hr
    · exact h.bc.trans hr
    · exact hr

theorem sort_places {m : ℕ} (x : FVec Ideal (⟨2, ![1, m]⟩ : Shape) .f32) (J : (⟨2, ![1, m]⟩ : Shape).Idx) :
    (Host.sort2 (⟨2, ![1, m]⟩ : Shape) 1 (fun l r => FloatOps.cmpfTotal .gt l.1 r.1) x
        (fun i => if hd : 1 < (⟨2, ![1, m]⟩ : Shape).rank then iotaInDim (⟨2, ![1, m]⟩ : Shape) 32 ⟨1, hd⟩ i else 0#32)).2 J
      = BitVec.ofNat 32 (sortedFrom (n := m) (fun k k' => Ideal.cmp .ogt (x (ix2 0 k)) (x (ix2 0 k')) == 1#1) (J 1)).val := by
  have h0 : J 0 = (0 : Fin 1) := Subsingleton.elim (α := Fin 1) _ _
  have hx' : ∀ k : Fin m, x (J.along (1 : Fin 2) k) = x (ix2 0 k) := fun k => by
    refine congrArg x (funext fun a => ?_)
    match a with
    | ⟨0, _⟩ => exact h0
    | ⟨1, _⟩ => rfl
  unfold Host.sort2
  rw [dif_pos (show 1 < (⟨2, ![1, m]⟩ : Shape).rank from Nat.one_lt_two)]
  show BitVec.ofNat 32 (sortedFrom (n := m) (fun k k' => Ideal.cmp .ogt (x (J.along (1 : Fin 2) k)) (x (J.along (1 : Fin 2) k')) == 1#1) (J 1)).val = _
  simp only [hx']

theorem topK_any {m : ℕ} (hm : 3 ≤ m) (x : FVec Ideal (⟨2, ![1, m]⟩ : Shape) .f32) (f : Fin m → EReal) (hx : ∀ k, x (ix2 0 k) = - f k) (a b c : Fin m) (h : Three f a b c) (i : Fin 3)
    (hs : (⟨2, ![1, m]⟩ : Shape).Slices (fun _ => 0) S1x3) :
    (Host.topK S1x3 1 (FloatOps.cmpfTotal .gt) x hs).2 (ix2 0 i) = BitVec.ofNat 32 (![a, b, c] i).val := by
  rw [← sorted_three hm (fun k => x (ix2 0 k)) f hx a b c h i]
  unfold Host.topK
  refine (sort_places x _).trans ?_
  refine congrArg (fun q => BitVec.ofNat 32 (sortedFrom _ q).val) (Fin.ext ?_)
  exact Nat.zero_add i.val

theorem topK_at (x : FVec Ideal S1x16384 .f32) (f : Fin 16384 → EReal) (hx : ∀ k, x (ix2 0 k) = - f k) (a b c : Fin 16384) (h : Three f a b c) (i : Fin 3) :
    (Host.topK S1x3 1 (FloatOps.cmpfTotal .gt) x sliceFits_S1x16384_S1x3).2 (ix2 0 i) = BitVec.ofNat 32 (![a, b, c] i).val :=
  topK_any (by norm_num) x f hx a b c h i _

theorem argmin_read' (x X : FVec Ideal S784x16384 .f32) (hX : X = x) (Y : IVec S784x16384 32) (hY : Y = iotaInDim S784x16384 32 1) (c : FVec Ideal S_ .f32)
    (hc : c = constant S_ FTy.f32 0x7F800000#32) (e : IVec S_ 32) (he : e = constantI S_ 32 0#32) (p : Fin 784) (k : Fin 16384) (hk : Least (fun k => x (ix2 p k)) k) :
    (Host.argReduce reducer_argmin_f32_i32 X Y c e reducesTo_S784x16384_S784_d1 h_S_ (ix1 p)).2 = BitVec.ofNat 32 k.val := by
  subst hX hY hc he
  exact argmin_read X p k hk

theorem argmax_read' (x X : FVec Ideal S784 .f32) (hX : X = x) (Y : IVec S784 32) (hY : Y = iotaInDim S784 32 0) (c : FVec Ideal S_ .f32)
    (hc : c = constant S_ FTy.f32 0xFF800000#32) (e : IVec S_ 32) (he : e = constantI S_ 32 0#32) (k : Fin 784) (hk : Greatest (fun k => x (ix1 k)) k) :
    (Host.argReduce reducer_argmax_f32_i32 X Y c e reducesTo_S784_S_d0 h_S_ ix0).2 = BitVec.ofNat 32 k.val := by
  subst hX hY hc he
  exact argmax_read X k hk

/-- A row cut out of an array at a place inside it. -/
theorem row_cut {n : ℕ} (x : FVec Ideal (⟨2, ![n, 1536]⟩ : Shape) .f32) (f : Fin 2 → Int) (k : Fin n) (h0 : f 0 = k.val) (h1 : f 1 = 0)
    (hs : (⟨2, ![n, 1536]⟩ : Shape).Slices (fun _ => 0) S1x1536) (d : Fin 1536) :
    Host.dynamicSlice S1x1536 x f hs (ix2 0 d) = x (ix2 k d) := by
  rw [Host.dynamicSlice_apply]
  refine congrArg x (funext fun a => Fin.ext ?_)
  match a with
  | ⟨0, _⟩ =>
    show Host.clampedStart _ S1x1536 hs.1 f 0 + 0 = k.val
    rw [Host.clampedStart_of_le hs.1 f 0 k.val h0 (show k.val + 1 ≤ n from k.isLt), Nat.add_zero]
  | ⟨1, _⟩ =>
    show Host.clampedStart _ S1x1536 hs.1 f 1 + d.val = d.val
    rw [Host.clampedStart_of_le hs.1 f 1 0 h1 (show 0 + 1536 ≤ 1536 from le_rfl), Nat.zero_add]

end

end Cert.Values

end
-- ==== Proof.V7.lean ====
module

public import proofs.«01_k».proof.Proof.V6

@[expose] public section

set_option maxRecDepth 16384

noncomputable section

namespace Cert.Values

open Idealize.ShloMosaic Idealize.ShloMosaic.TcCoe Idealize.SL.Sem
open Cert.ReferenceIdeal
open Cert.ReferenceIdeal.Gen Cert.ReferenceIdeal.Own

variable (W : Valuation τ sig (Elt Ideal))

theorem argmin_at (x : FVec Ideal S784x16384 .f32) (h : W (Proc.devRef .tc main_v16) = x) (p : Fin 784) (k : Fin 16384) (hk : Least (fun k => x (ix2 p k)) k) :
    (StableHlo.after picks W (Proc.devRef .tc main_v18) : IVec S784 32) (ix1 p) = BitVec.ofNat 32 k.val := by
  have key : ∀ h1 h2 h3 (f : IVec S784 32), ((StableHlo.TRef.of (T := ⟨S784, .i32⟩) main_v18 h1 h2 h3).toBuf (Val := Elt Ideal) f : IVec S784 32) = f := fun _ _ _ _ => rfl
  after_reads_simp
  refine (congrFun (key _ _ _ _) (ix1 p)).trans ?_
  beta_reduce
  exact argmin_read' x _ h _ rfl _ rfl _ rfl p k hk

theorem argmax_at (x : FVec Ideal S784 .f32) (h : W (Proc.devRef .tc main_v17) = x) (k : Fin 784) (hk : Greatest (fun k => x (ix1 k)) k) :
    (StableHlo.after picks W (Proc.devRef .tc main_v19) : IVec S_ 32) ix0 = BitVec.ofNat 32 k.val := by
  have key : ∀ h1 h2 h3 (f : IVec S_ 32), ((StableHlo.TRef.of (T := ⟨S_, .i32⟩) main_v19 h1 h2 h3).toBuf (Val := Elt Ideal) f : IVec S_ 32) = f := fun _ _ _ _ => rfl
  after_reads_simp
  refine (congrFun (key _ _ _ _) ix0).trans ?_
  beta_reduce
  exact argmax_read' x _ h _ rfl _ rfl _ rfl k hk

/-- A row cut out, made a vector and a row again. -/
theorem row_again {n : ℕ} (x : FVec Ideal (⟨2, ![n, 1536]⟩ : Shape) .f32) (f : Fin 2 → Int) (k : Fin n) (h0 : f 0 = k.val) (h1 : f 1 = 0)
    (hs : (⟨2, ![n, 1536]⟩ : Shape).Slices (fun _ => 0) S1x1536) (d : Fin 1536) :
    broadcastInDim S1x1536 ![1] bcast_S1536_S1x1536_1 (fun i => shapeCast S1536 (Host.dynamicSlice S1x1536 x f hs) shapeCasts_S1x1536_S1536 i) (ix2 0 d) = x (ix2 k d) := by
  rw [← row_cut x f k h0 h1 hs d]
  generalize Host.dynamicSlice S1x1536 x f hs = y
  pointwise

theorem patch_at (pat : FVec Ideal S784x1536 .f32) (hp : W (Proc.devRef .tc main_arg0) = pat) (k : Fin 784) (x : IVec S_ 32) (hx : W (Proc.devRef .tc main_v19) = x) (h : x ix0 = BitVec.ofNat 32 k.val) (d : Fin 1536) :
    (StableHlo.after patch W (Proc.devRef .tc main_v29) : FVec Ideal S1x1536 .f32) (ix2 0 d) = pat (ix2 k d) := by
  have hc : x = fun _ => BitVec.ofNat 32 k.val := funext fun i => (congrArg x (Subsingleton.elim i ix0)).trans h
  subst hp
  after_reads_simp
  refine row_again _ _ k ?_ ?_ sliceFits_S784x1536_S1x1536 d
  · show BitVec.toInt (StableHlo.upto patch W 13 (Proc.devRef .tc main_v23) (Shape.Idx.first h_S_)) = _
    after_reads_simp
    rw [hx, hc]
    exact (congrArg BitVec.toInt (wrap_word k.val (by omega) 784#32)).trans (toInt_small _ (by omega))
  · show BitVec.toInt (StableHlo.upto patch W 13 (Proc.devRef .tc main_v26) (Shape.Idx.first h_S_)) = _
    after_reads_simp
    rfl

theorem word_cut (y : IVec S784 32) (f : Fin 1 → Int) (k : Fin 784) (h0 : f 0 = k.val) {w : BitVec 32} (hw : y (ix1 k) = w) (i : S_.Idx) :
    shapeCast S_ (Host.dynamicSlice S1 y f sliceFits_S784_S1) shapeCasts_S1_S_ i = w := by
  have e : Host.dynamicSlice S1 y f sliceFits_S784_S1 (ix1 0) = w := by
    rw [Host.dynamicSlice_apply, ← hw]
    refine congrArg y (funext fun a => Fin.ext ?_)
    match a with
    | ⟨0, _⟩ =>
      show Host.clampedStart _ S1 sliceFits_S784_S1.1 f 0 + 0 = k.val
      rw [Host.clampedStart_of_le sliceFits_S784_S1.1 f 0 k.val h0 (show k.val + 1 ≤ 784 from k.isLt), Nat.add_zero]
  rw [← e]
  generalize Host.dynamicSlice S1 y f sliceFits_S784_S1 = z
  rw [Subsingleton.elim i ix0]
  pointwise

theorem wrap_at (Z : IVec S_ 32) (k : ℕ) (h : k < 2 ^ 31) (N : BitVec 32) (hz : Z (Shape.Idx.first h_S_) = BitVec.ofNat 32 k) :
    BitVec.toInt (select (cmpi CmpIPredicate.slt Z (constantI S_ 32 0#32)) (addi Z (constantI S_ 32 N)) Z (Shape.Idx.first h_S_)) = k := by
  show BitVec.toInt (Scalar.select (IntOp.cmpi .slt (Z (Shape.Idx.first h_S_)) 0#32) (IntOp.addi (Z (Shape.Idx.first h_S_)) N) (Z (Shape.Idx.first h_S_))) = k
  rw [hz, wrap_word k h N, toInt_small k h]

theorem center_at (lib : FVec Ideal S16384x1536 .f32) (hl : W (Proc.devRef .tc main_arg1) = lib) (k : Fin 784) (x : IVec S_ 32) (hx : W (Proc.devRef .tc main_v19) = x) (h : x ix0 = BitVec.ofNat 32 k.val)
    (y : IVec S784 32) (hy : W (Proc.devRef .tc main_v18) = y) (l : Fin 16384) (h' : y (ix1 k) = BitVec.ofNat 32 l.val) (d : Fin 1536) :
    (StableHlo.after center (StableHlo.after nearest W) (Proc.devRef .tc main_v43) : FVec Ideal S1x1536 .f32) (ix2 0 d) = lib (ix2 l d) := by
  have hc : x = fun _ => BitVec.ofNat 32 k.val := funext fun i => (congrArg x (Subsingleton.elim i ix0)).trans h
  subst hl hy
  after_reads_simp
  refine row_again _ _ l ?_ ?_ sliceFits_S16384x1536_S1x1536 d
  · show BitVec.toInt (StableHlo.upto center (StableHlo.after nearest W) 3 (Proc.devRef .tc main_v37) (Shape.Idx.first h_S_)) = _
    after_reads_simp
    refine wrap_at _ l.val (by omega) _ (word_cut _ _ k ?_ h' _)
    show BitVec.toInt (StableHlo.upto nearest W 5 (Proc.devRef .tc main_v32) (Shape.Idx.first h_S_)) = _
    after_reads_simp
    rw [hx, hc]
    exact (congrArg BitVec.toInt (wrap_word k.val (by omega) 784#32)).trans (toInt_small _ (by omega))
  · show BitVec.toInt (StableHlo.upto center (StableHlo.after nearest W) 3 (Proc.devRef .tc main_v40) (Shape.Idx.first h_S_)) = _
    after_reads_simp
    rfl

theorem next_at (lib : FVec Ideal S16384x1536 .f32) (hl : W (Proc.devRef .tc main_arg1) = lib) (m : FVec Ideal S1x1536 .f32) (hm : W (Proc.devRef .tc main_v29) = m)
    (x : FVec Ideal S1x16384 .f32) (hx : W (Proc.devRef .tc main_v60) = x) (f : Fin 16384 → EReal) (hf : ∀ k, x (ix2 0 k) = - f k) (a b c : Fin 16384) (h : Three f a b c) (i : Fin 2) (d : Fin 1536) :
    (StableHlo.after next W (Proc.devRef .tc main_v71) : FVec Ideal S2x1536 .f32) (ix2 i d) = (m (ix2 0 d) - lib (ix2 (![b, c] i) d) : EReal) := by
  have ht := fun j => topK_at x f hf a b c h j
  subst hl hm hx
  after_reads_simp
  try simp only [StableHlo.TRef.toBuf, StableHlo.TRef.ofBuf, cast_eq]
  generalize Host.topK S1x3 1 (FloatOps.cmpfTotal (F := Ideal) .gt) (W (Proc.devRef .tc main_v60)) sliceFits_S1x16384_S1x3 = T at ht ⊢
  refine congrArg₂ (fun u v : EReal => u - v) ?_ ?_
  · pointwise
  · refine Routing.gather_row gather_S16384x1536_S2x1_S2x1536_1_0_n_n_0_1_11536 rfl rfl rfl rfl rfl (W (Proc.devRef .tc main_arg1)) _ i d (![b, c] i) ?_ (by norm_num)
    have e : T.2 (ix2 0 ⟨1 + i.val, by omega⟩) = BitVec.ofNat 32 (![b, c] i).val := by
      have h1 := ht 1
      have h2 := ht 2
      match i with
      | ⟨0, _⟩ => exact h1
      | ⟨1, _⟩ => exact h2
    have w := wrap_word (![b, c] i).val (by omega) 16384#32
    rw [← e] at w
    pointwise
    exact w.trans e

end Cert.Values

end
-- ==== Proof.V8.lean ====
module

public import proofs.«01_k».proof.Proof.V4

@[expose] public section

set_option maxRecDepth 16384

noncomputable section

namespace Cert.Values

open Cert.KernelIdeal hiding ix2
open Cert.KernelIdeal.Gen Cert.KernelIdeal.Own Idealize.ShloMosaic Idealize.ShloMosaic.TcCoe Idealize.SL.Sem
open Idealize.ShloMosaic.Pipeline (Dat)

/-! ## The second call -/

variable (V : Entry Ideal) (c : Dev nD) (lib : FVec Ideal S16384x1536 .f32) (mm : FVec Ideal S1536x2 .f32)

/-- Products of the rows of the library with the two query rows. -/
def prods : FVec Ideal S16384x2 .f32 := fun j => ∑ d : Fin 1536, lib (ix2 (j 0) d) * mm (ix2 d (j 1))

theorem lib1_at (hl : V c main_arg1 = lib) (t : Fin 16) (r : Fin 1024) (d : Fin 1536) :
    blk1 V c 0 t (ix2 r d) = lib (ix2 (rowOf t r) d) := by
  subst hl
  have h0 : (cfg1.win 0).index t 0 = t.val := by revert t; decide +kernel
  have h1 : (cfg1.win 0).index t 1 = 0 := by revert t; decide +kernel
  blk_simp [blk1]
  congr 1
  funext a
  apply Fin.ext
  match a with
  | ⟨0, _⟩ =>
    refine (ValueKit.view_emb_slice_whole_unit_val _ _ _ _ _ _).trans ?_
    show win1_0.index t 0 * 1024 + _ = _
    rw [show win1_0.index t 0 = t.val from h0]
    rfl
  | ⟨1, _⟩ =>
    refine (ValueKit.view_emb_slice_whole_unit_val _ _ _ _ _ _).trans ?_
    show win1_0.index t 1 * 1536 + _ = _
    rw [show win1_0.index t 1 = 0 from h1]
    exact Nat.zero_add _

theorem mm_at (hm : V c main_v13 = mm) (t : Fin 16) (d : Fin 1536) (q : Fin 2) :
    blk1 V c 1 t (ix2 d q) = mm (ix2 d q) := by
  subst hm
  have h0 : (cfg1.win 1).index t 0 = 0 := by revert t; decide +kernel
  have h1 : (cfg1.win 1).index t 1 = 0 := by revert t; decide +kernel
  blk_simp [blk1]
  congr 1
  funext a
  apply Fin.ext
  match a with
  | ⟨0, _⟩ =>
    refine (ValueKit.view_emb_slice_whole_unit_val _ _ _ _ _ _).trans ?_
    show win1_1.index t 0 * 1536 + _ = _
    rw [show win1_1.index t 0 = 0 from h0]
    exact Nat.zero_add _
  | ⟨1, _⟩ =>
    refine (ValueKit.view_emb_slice_whole_unit_val _ _ _ _ _ _).trans ?_
    show win1_1.index t 1 * 2 + _ = _
    rw [show win1_1.index t 1 = 0 from h1]
    exact Nat.zero_add _

theorem prod_at (x : FVec Ideal S1024x1536 .f32) (y : FVec Ideal S1536x2 .f32) (r : Fin 1024) (q : Fin 2) :
    k1_pay1 (F := Ideal) x y (ix2 r q) = ∑ d : Fin 1536, x (ix2 r d) * y (ix2 d q) := by
  pointwise [k1_pay1]

theorem arr1_2 (hl : V c main_arg1 = lib) (hm : V c main_v13 = mm) : (dat1 V c).arrAt 2 cfg1.N = prods lib mm := by
  refine (dat1 V c).arrAt_eq_of_covers 2 (prods lib mm) (by decide +kernel) fun t hf y => ?_
  blk_simp
  rw [after1_2]
  have h0 : ∀ t : Fin 16, (cfg1.win 2).index t 0 = t.val := by decide +kernel
  have h1 : ∀ t : Fin 16, (cfg1.win 2).index t 1 = 0 := by decide +kernel
  have e : ((win1_2.blk t).view.emb y) 0 = rowOf t (y 0) := by
    apply Fin.ext
    refine (ValueKit.view_emb_slice_whole_unit_val _ _ _ _ _ _).trans ?_
    show win1_2.index t 0 * 1024 + _ = _
    rw [show win1_2.index t 0 = t.val from h0 t]
    rfl
  have e' : ((win1_2.blk t).view.emb y) 1 = y 1 := by
    apply Fin.ext
    refine (ValueKit.view_emb_slice_whole_unit_val _ _ _ _ _ _).trans ?_
    show win1_2.index t 1 * 2 + _ = _
    rw [show win1_2.index t 1 = 0 from h1 t]
    exact Nat.zero_add _
  show k1_pay1 (F := Ideal) (blk1 V c 0 t) (blk1 V c 1 t) y = ∑ d : Fin 1536, lib (ix2 (((win1_2.blk t).view.emb y) 0) d) * mm (ix2 d (((win1_2.blk t).view.emb y) 1))
  rw [e, e']
  refine (congrArg (k1_pay1 (F := Ideal) (blk1 V c 0 t) (blk1 V c 1 t)) (eq_ix2 y)).trans ((prod_at (blk1 V c 0 t) (blk1 V c 1 t) (y 0) (y 1)).trans ?_)
  exact Finset.sum_congr rfl fun d _ => congrArg₂ (· * ·) (lib1_at V c lib hl t (y 0) d) (mm_at V c mm hm t d (y 1))

/-! ## The third call -/

/-- The call's only point. -/
def last2 : Fin (cfgT V).N := ⟨0, by show 0 < grid2.N; decide⟩

theorem only2 (t : Fin (cfgT V).N) : t = last2 V := by
  apply Fin.ext
  have h : t.val < 1 := t.isLt
  show t.val = 0
  omega

theorem arr2_8 (x : FVec Ideal S1x1 .f32) (h : (dat2 V c).after 8 (last2 V) = x) : (dat2 V c).arrAt 8 (cfgT V).N = x := by
  refine (dat2 V c).arrAt_eq_of_after_last 8 (last2 V) ⟨rfl, fun t _ => only2 V t, fun a => ?_⟩ x fun j => ?_
  · match a with
    | ⟨0, _⟩ => exact ⟨rfl, rfl⟩
    | ⟨1, _⟩ => exact ⟨rfl, rfl⟩
  · rw [h]
    exact congrArg x (funext fun a => rfl)

theorem arr2_9 (x : FVec Ideal S224x224 .f32) (h : (dat2 V c).after 9 (last2 V) = x) : (dat2 V c).arrAt 9 (cfgT V).N = x := by
  refine (dat2 V c).arrAt_eq_of_after_last 9 (last2 V) ⟨rfl, fun t _ => only2 V t, fun a => ?_⟩ x fun j => ?_
  · match a with
    | ⟨0, _⟩ => exact ⟨rfl, rfl⟩
    | ⟨1, _⟩ => exact ⟨rfl, rfl⟩
  · rw [h]
    exact congrArg x (funext fun a => rfl)

theorem whole2_0 (x : FVec Ideal S1x16384 .f32) (h : V c main_v61 = x) : blk2 V c 0 (last2 V) = x := by
  subst h
  funext j
  blk_simp [blk2]
  refine congrArg (V c main_v61) (funext fun a => Fin.ext ?_)
  match a with
  | ⟨0, _⟩ => exact (ValueKit.view_emb_slice_whole_unit_val _ _ _ _ _ _).trans (Nat.zero_add _)
  | ⟨1, _⟩ =>
    refine (ValueKit.view_emb_slice_whole_unit_val _ _ _ _ _ _).trans ?_
    show 0 * 16384 + _ = _
    rw [Nat.zero_mul, Nat.zero_add]

theorem whole2_1 (x : FVec Ideal S1x16384 .f32) (h : V c main_v64 = x) : blk2 V c 1 (last2 V) = x := by
  subst h
  funext j
  blk_simp [blk2]
  refine congrArg (V c main_v64) (funext fun a => Fin.ext ?_)
  match a with
  | ⟨0, _⟩ => exact (ValueKit.view_emb_slice_whole_unit_val _ _ _ _ _ _).trans (Nat.zero_add _)
  | ⟨1, _⟩ =>
    refine (ValueKit.view_emb_slice_whole_unit_val _ _ _ _ _ _).trans ?_
    show 0 * 16384 + _ = _
    rw [Nat.zero_mul, Nat.zero_add]

theorem whole2_2 (x : FVec Ideal S1x16384 .f32) (h : V c main_v65 = x) : blk2 V c 2 (last2 V) = x := by
  subst h
  funext j
  blk_simp [blk2]
  refine congrArg (V c main_v65) (funext fun a => Fin.ext ?_)
  match a with
  | ⟨0, _⟩ => exact (ValueKit.view_emb_slice_whole_unit_val _ _ _ _ _ _).trans (Nat.zero_add _)
  | ⟨1, _⟩ =>
    refine (ValueKit.view_emb_slice_whole_unit_val _ _ _ _ _ _).trans ?_
    show 0 * 16384 + _ = _
    rw [Nat.zero_mul, Nat.zero_add]

theorem whole2_3 (x : FVec Ideal S1x784 .f32) (h : V c main_v1_5 = x) : blk2 V c 3 (last2 V) = x := by
  subst h
  funext j
  blk_simp [blk2]
  refine congrArg (V c main_v1_5) (funext fun a => Fin.ext ?_)
  match a with
  | ⟨0, _⟩ => exact (ValueKit.view_emb_slice_whole_unit_val _ _ _ _ _ _).trans (Nat.zero_add _)
  | ⟨1, _⟩ => exact (ValueKit.view_emb_slice_whole_unit_val _ _ _ _ _ _).trans (Nat.zero_add _)

theorem whole2_4 (x : FVec Ideal S1x1 .f32) (h : V c main_v1_1 = x) : blk2 V c 4 (last2 V) = x := by
  subst h
  funext j
  blk_simp [blk2]
  refine congrArg (V c main_v1_1) (funext fun a => Fin.ext ?_)
  match a with
  | ⟨0, _⟩ => exact (ValueKit.view_emb_slice_whole_unit_val _ _ _ _ _ _).trans (Nat.zero_add _)
  | ⟨1, _⟩ => exact (ValueKit.view_emb_slice_whole_unit_val _ _ _ _ _ _).trans (Nat.zero_add _)

theorem whole2_5 (x : FVec Ideal S28x28 .f32) (h : V c main_v58 = x) : blk2 V c 5 (last2 V) = x := by
  subst h
  funext j
  blk_simp [blk2]
  refine congrArg (V c main_v58) (funext fun a => Fin.ext ?_)
  match a with
  | ⟨0, _⟩ => exact (ValueKit.view_emb_slice_whole_unit_val _ _ _ _ _ _).trans (Nat.zero_add _)
  | ⟨1, _⟩ => exact (ValueKit.view_emb_slice_whole_unit_val _ _ _ _ _ _).trans (Nat.zero_add _)

theorem whole2_6 (x : FVec Ideal S224x28 .f32) (h : V c main_v57 = x) : blk2 V c 6 (last2 V) = x := by
  subst h
  funext j
  blk_simp [blk2]
  refine congrArg (V c main_v57) (funext fun a => Fin.ext ?_)
  match a with
  | ⟨0, _⟩ => exact (ValueKit.view_emb_slice_whole_unit_val _ _ _ _ _ _).trans (Nat.zero_add _)
  | ⟨1, _⟩ => exact (ValueKit.view_emb_slice_whole_unit_val _ _ _ _ _ _).trans (Nat.zero_add _)

theorem whole2_7 (x : FVec Ideal S28x224 .f32) (h : V c main_v67 = x) : blk2 V c 7 (last2 V) = x := by
  subst h
  funext j
  blk_simp [blk2]
  refine congrArg (V c main_v67) (funext fun a => Fin.ext ?_)
  match a with
  | ⟨0, _⟩ => exact (ValueKit.view_emb_slice_whole_unit_val _ _ _ _ _ _).trans (Nat.zero_add _)
  | ⟨1, _⟩ => exact (ValueKit.view_emb_slice_whole_unit_val _ _ _ _ _ _).trans (Nat.zero_add _)

theorem smooth_at (A : FVec Ideal S224x28 .f32) (M : FVec Ideal S28x28 .f32) (At : FVec Ideal S28x224 .f32) (y x : Fin 224) :
    k2_pay2 (F := Ideal) A M At (ix2 y x) = ∑ i : Fin 28, (∑ j : Fin 28, A (ix2 y j) * M (ix2 j i)) * At (ix2 i x) := by
  pointwise [k2_pay2]

end Cert.Values

end
-- ==== Proof.V9.lean ====
module

public import proofs.«01_k».proof.Proof.V7
public import proofs.«01_k».proof.Proof.V8

@[expose] public section

set_option maxRecDepth 16384

noncomputable section

namespace Cert.Values

open Cert.KernelIdeal hiding ix2
open Cert.KernelIdeal.Gen Cert.KernelIdeal.Own Idealize.ShloMosaic Idealize.ShloMosaic.TcCoe Idealize.SL.Sem

variable (W : Valuation τ sig (Elt Ideal))

theorem turned_at (d : Fin 1536) (p : Fin 784) :
    (StableHlo.after hostOps0 W (Proc.devRef .tc main_v0) : FVec Ideal S1536x784 .f32) (ix2 d p) = (W (Proc.devRef .tc main_arg0) : FVec Ideal S784x1536 .f32) (ix2 p d) := by
  after_reads_simp
  pointwise

theorem wrapK_at (Z : IVec S_ 32) (k : ℕ) (h : k < 2 ^ 31) (N : BitVec 32) (hz : Z (Shape.Idx.first h_S_) = BitVec.ofNat 32 k) :
    BitVec.toInt (select (cmpi CmpIPredicate.slt Z (constantI S_ 32 0#32)) (addi Z (constantI S_ 32 N)) Z (Shape.Idx.first h_S_)) = k := by
  show BitVec.toInt (Scalar.select (IntOp.cmpi .slt (Z (Shape.Idx.first h_S_)) 0#32) (IntOp.addi (Z (Shape.Idx.first h_S_)) N) (Z (Shape.Idx.first h_S_))) = k
  rw [hz, wrap_word k h N, toInt_small k h]

theorem lone_word (y : IVec S1x1 32) (w : BitVec 32) (h : y (ix2 0 0) = w) (i : S_.Idx) : shapeCast S_ y shapeCasts_S1x1_S_ i = w := by
  rw [Subsingleton.elim i ix0, ← h]
  pointwise

theorem pair_at (lib : FVec Ideal S16384x1536 .f32) (hl : W (Proc.devRef .tc main_arg1) = lib) (pat : FVec Ideal S784x1536 .f32) (hp : W (Proc.devRef .tc main_arg0) = pat)
    (y : IVec S1x1 32) (hy : W (Proc.devRef .tc main_v1_2) = y) (l : Fin 16384) (h : y (ix2 0 0) = BitVec.ofNat 32 l.val)
    (z : IVec S1x1 32) (hz : W (Proc.devRef .tc main_v1_3) = z) (k : Fin 784) (h' : z (ix2 0 0) = BitVec.ofNat 32 k.val) (d : Fin 1536) :
    (StableHlo.after hostOps1 W (Proc.devRef .tc main_v13) : FVec Ideal S1536x2 .f32) (ix2 d 0) = lib (ix2 l d)
    ∧ (StableHlo.after hostOps1 W (Proc.devRef .tc main_v13) : FVec Ideal S1536x2 .f32) (ix2 d 1) = pat (ix2 k d) := by
  subst hl hp hy hz
  after_reads_simp
  constructor
  · pointwise
    after_reads_simp
    refine row_cut _ _ l ?_ ?_ sliceFits_S16384x1536_S1x1536 d
    · show BitVec.toInt (StableHlo.upto hostOps1 W 7 (Proc.devRef .tc main_v5) (Shape.Idx.first h_S_)) = _
      after_reads_simp
      exact wrapK_at _ l.val (by omega) _ (lone_word _ _ h _)
    · show BitVec.toInt (StableHlo.upto hostOps1 W 7 (Proc.devRef .tc main_c_1) (Shape.Idx.first h_S_)) = _
      after_reads_simp
      rfl
  · pointwise
    after_reads_simp
    refine row_cut _ _ k ?_ ?_ sliceFits_S784x1536_S1x1536 d
    · show BitVec.toInt (StableHlo.upto hostOps1 W 15 (Proc.devRef .tc main_v10) (Shape.Idx.first h_S_)) = _
      after_reads_simp
      exact wrapK_at _ k.val (by omega) _ (lone_word _ _ h' _)
    · show BitVec.toInt (StableHlo.upto hostOps1 W 15 (Proc.devRef .tc main_c_4) (Shape.Idx.first h_S_)) = _
      after_reads_simp
      rfl

variable (g : FVec Ideal S16384x2 .f32) (hg : W (Proc.devRef .tc main_v14) = g)
include hg

theorem gs_at (k : Fin 16384) : (StableHlo.after hostOps2_6 W (Proc.devRef .tc main_v61) : FVec Ideal S1x16384 .f32) (ix2 0 k) = g (ix2 k 0) := by
  subst hg
  after_reads_simp
  try simp only [StableHlo.TRef.toBuf, StableHlo.TRef.ofBuf, cast_eq]
  pointwise

theorem gt_at (k : Fin 16384) : (StableHlo.after hostOps2_6 W (Proc.devRef .tc main_v64) : FVec Ideal S1x16384 .f32) (ix2 0 k) = g (ix2 k 1) := by
  subst hg
  after_reads_simp
  try simp only [StableHlo.TRef.toBuf, StableHlo.TRef.ofBuf, cast_eq]
  pointwise

omit hg

theorem b2_at (b : FVec Ideal S16384x1 .f32) (h : W (Proc.devRef .tc main_v1_4) = b) (k : Fin 16384) : (StableHlo.after hostOps2_6 W (Proc.devRef .tc main_v65) : FVec Ideal S1x16384 .f32) (ix2 0 k) = b (ix2 k 0) := by
  subst h
  after_reads_simp
  try simp only [StableHlo.TRef.toBuf, StableHlo.TRef.ofBuf, cast_eq]
  pointwise

theorem word_at (z : IVec S1x1 32) (h : W (Proc.devRef .tc main_v1_3) = z) (i : S1.Idx) : (StableHlo.after hostOps2_6 W (Proc.devRef .tc main_v66) : IVec S1 32) i = z (ix2 0 0) := by
  subst h
  have hi : i = ix1 0 := (eq_ix1 i).trans (congrArg ix1 (Subsingleton.elim (α := Fin 1) _ _))
  subst hi
  after_reads_simp
  try simp only [StableHlo.TRef.toBuf, StableHlo.TRef.ofBuf, cast_eq]
  pointwise

theorem square_at (m : FVec Ideal S1x784 .f32) (h : W (Proc.devRef .tc main_v1_0) = m) (j i : Fin 28) :
    (StableHlo.after hostOps2_6 W (Proc.devRef .tc main_v58) : FVec Ideal S28x28 .f32) (ix2 j i) = m (ix2 0 ⟨j.val * 28 + i.val, by omega⟩) := by
  subst h
  after_reads_simp
  try simp only [StableHlo.TRef.toBuf, StableHlo.TRef.ofBuf, cast_eq]
  pointwise

variable (w : FVec Ideal S28x224 .f32) (hw : W (Proc.devRef .tc main_v56) = w)
include hw

theorem A_at (y : Fin 224) (j : Fin 28) : (StableHlo.after hostOps2_6 W (Proc.devRef .tc main_v57) : FVec Ideal S224x28 .f32) (ix2 y j) = w (ix2 j y) := by
  subst hw
  after_reads_simp
  try simp only [StableHlo.TRef.toBuf, StableHlo.TRef.ofBuf, cast_eq]
  pointwise

theorem At_at (y : Fin 224) (j : Fin 28) : (StableHlo.after hostOps2_6 W (Proc.devRef .tc main_v67) : FVec Ideal S28x224 .f32) (ix2 j y) = w (ix2 j y) := by
  subst hw
  after_reads_simp
  try simp only [StableHlo.TRef.toBuf, StableHlo.TRef.ofBuf, cast_eq]
  pointwise

omit hw

theorem end0 (s : FVec Ideal S1x1 .f32) (h : W (Proc.devRef .tc main_v68_0) = s) : (StableHlo.after hostOps3 W (Proc.devRef .tc main_v69) : FVec Ideal S_ .f32) ix0 = s (ix2 0 0) := by
  subst h
  after_reads_simp
  pointwise

theorem end1 (s : FVec Ideal S224x224 .f32) (h : W (Proc.devRef .tc main_v68_1) = s) (y x : Fin 224) : (StableHlo.after hostOps3 W (Proc.devRef .tc main_v70) : FVec Ideal S1x1x224x224 .f32) (ix4 0 0 y x) = s (ix2 y x) := by
  subst h
  after_reads_simp
  pointwise

end Cert.Values

end
-- ==== Proof.V10.lean ====
module

public import proofs.«01_k».proof.Proof.V6

@[expose] public section

set_option maxRecDepth 16384

noncomputable section

namespace Cert.Values

open Cert.KernelIdeal hiding ix2
open Cert.KernelIdeal.Gen Cert.KernelIdeal.Own Idealize.ShloMosaic Idealize.ShloMosaic.TcCoe Idealize.SL.Sem

/-- The values with one place set to the top. -/
def masked {n : ℕ} (q : Fin n → EReal) (i : Fin n) : Fin n → EReal := fun k => if k = i then ⊤ else q k

variable (b gs gt : FVec Ideal S1x16384 .f32) (av : FVec Ideal S1x784 .f32)

theorem q_at (k : Fin 16384) : k2_pay4 (F := Ideal) b gs (ix2 0 k) = b (ix2 0 k) - Ideal.ofBits .f32 0x40000000#32 * gs (ix2 0 k) := by
  pointwise [k2_pay4, k2_pay3]

theorem pick_rows {n : ℕ} (hn : n < 2 ^ 31) (k : Fin n) (v : Fin n → EReal) :
    (∑ _x : Fin 1, ∑ x : Fin n, Scalar.select (IntOp.cmpi .eq (BitVec.ofNat 32 x.val) (BitVec.ofNat 32 k.val)) (v x) 0) = v k :=
  (Fintype.sum_prod_type fun x : Fin 1 × Fin n => Scalar.select (IntOp.cmpi .eq (BitVec.ofNat 32 x.2.val) (BitVec.ofNat 32 k.val)) (v x.2) 0).symm.trans (pick_sum hn k v)

theorem dt_at (p : Fin 784) (k : Fin 16384) : k2_pay5 (F := Ideal) b (BitVec.ofNat 32 p.val) av gt (ix2 0 k)
    = Ideal.sqrt (max (b (ix2 0 k) + av (ix2 0 p) - Ideal.ofBits .f32 0x40000000#32 * gt (ix2 0 k)) 0) := by
  pointwise [k2_pay5, k2_pay3]
  rw [pick_rows (by norm_num) p fun p => av (ix2 0 p)]

/-- The first place of the least value of a row, as the kernel looks for it. -/
def place (v : FVec Ideal S1x16384 .f32) : IVec S1x1x1 32 :=
  have low : FVec Ideal S1 .f32 := multiReduction .minimumf [1, 2] S1 (shapeCast S1x1x16384 v shapeCasts_S1x16384_S1x1x16384) 0x7F800000#32 reduces_S1x1x16384_S1 (.inl rfl) rfl
  have low : FVec Ideal S1x16384 .f32 := broadcast S1x16384 (extractAt ![0, 0, 0] (shapeCast S1x1x1 low shapeCasts_S1_S1x1x1) inpos_S1x1x1_p0_0_0)
  have hit : IVec S1x16384 32 := select (cmpf .oeq v low) (iota .tc S1x16384 32 [1] iota_S1x16384_d1_w32) (broadcast S1x16384 16384#32)
  shapeCast S1x1x1 (multiReductionI .minsi [1, 2] S1 (shapeCast S1x1x16384 hit shapeCasts_S1x16384_S1x1x16384) 2147483647#32 reduces_S1x1x16384_S1 rfl) shapeCasts_S1_S1x1x1

/-- One value of a row, chosen by the word of its place. -/
def chosen (v : FVec Ideal S1x16384 .f32) (w : BitVec 32) : FVec Ideal S1x1x1 .f32 :=
  have one : FVec Ideal S1x16384 .f32 := select (cmpi .eq (iota .tc S1x16384 32 [1] iota_S1x16384_d1_w32) (broadcast S1x16384 w)) v (broadcast S1x16384 (Scalar.ofBits .f32 0x00000000#32 : Ideal .f32))
  shapeCast S1x1x1 (multiReduction .add [1, 2] S1 (shapeCast S1x1x16384 one shapeCasts_S1x16384_S1x1x16384) 0x00000000#32 reduces_S1x1x16384_S1 (.inl rfl) rfl) shapeCasts_S1_S1x1x1

theorem fold_least {n : ℕ} (hn : n < 2 ^ 31) (v : Fin n → EReal) (i : Fin n) (h : Least v i) (N : BitVec 32) (hN : N = BitVec.ofNat 32 n) :
    (Finset.univ : Finset (Fin 1 × Fin n)).fold IntOp.minsi 2147483647#32
      (fun x => if v x.2 = (Finset.univ : Finset (Fin 1 × Fin n)).fold min ⊤ (fun x => v x.2) then BitVec.ofNat 32 x.2.val else N) = BitVec.ofNat 32 i.val := by
  rw [fold_pair min ⊤ v]
  exact fold_first hn (fun k : Fin n => v k = Finset.univ.fold min ⊤ v) N hN i h.first

theorem place_at (v : FVec Ideal S1x16384 .f32) (i : Fin 16384) (h : Least (fun k => v (ix2 0 k)) i) : place v (ix3 0 0 0) = BitVec.ofNat 32 i.val := by
  pointwise [place]
  rw [top_bits]
  exact fold_least (by norm_num) (fun k => v (ix2 0 k)) i h _ rfl

theorem chosen_at (v : FVec Ideal S1x16384 .f32) (i : Fin 16384) : chosen v (BitVec.ofNat 32 i.val) (ix3 0 0 0) = v (ix2 0 i) := by
  pointwise [chosen]
  rw [pick_rows (by norm_num) i fun k => v (ix2 0 k)]

theorem corner (i : S1x1x1.Idx) : i = ix3 0 0 0 :=
  (eq_ix3 i).trans (by rw [Subsingleton.elim (α := Fin 1) (i 0) 0, Subsingleton.elim (α := Fin 1) (i 1) 0, Subsingleton.elim (α := Fin 1) (i 2) 0])

theorem place_word (v : FVec Ideal S1x16384 .f32) (i : Fin 16384) (h : Least (fun k => v (ix2 0 k)) i) :
    extractAt ![0, 0, 0] (place v) inpos_S1x1x1_p0_0_0 = BitVec.ofNat 32 i.val :=
  (congrArg (place v) (corner _)).trans (place_at v i h)

theorem i1_at (i : Fin 16384) (h : Least (fun k => k2_pay4 (F := Ideal) b gs (ix2 0 k)) i) :
    extractAt ![0, 0, 0] (k2_pay6 (F := Ideal) b gs) inpos_S1x1x1_p0_0_0 = BitVec.ofNat 32 i.val :=
  (show _ = extractAt ![0, 0, 0] (place (k2_pay4 (F := Ideal) b gs)) inpos_S1x1x1_p0_0_0 from rfl).trans (place_word _ i h)

variable (q dt : FVec Ideal S1x16384 .f32)

theorem mask_at (i k : Fin 16384) : k2_pay7 (F := Ideal) q (iota .tc S1x16384 32 [1] iota_S1x16384_d1_w32) (BitVec.ofNat 32 i.val) (ix2 0 k) = masked (fun k => q (ix2 0 k)) i k := by
  pointwise [k2_pay7]
  rw [pick_word (by norm_num), top_bits]
  rfl

theorem t2_at (i1 i2 : Fin 16384) (h : Least (masked (fun k => q (ix2 0 k)) i1) i2) :
    k2_pay8 (F := Ideal) q dt (iota .tc S1x16384 32 [1] iota_S1x16384_d1_w32) (BitVec.ofNat 32 i1.val) = dt (ix2 0 i2) := by
  show extractAt ![0, 0, 0] (chosen dt (extractAt ![0, 0, 0] (place (k2_pay7 (F := Ideal) q (iota .tc S1x16384 32 [1] iota_S1x16384_d1_w32) (BitVec.ofNat 32 i1.val))) inpos_S1x1x1_p0_0_0)) inpos_S1x1x1_p0_0_0 = _
  rw [place_word _ i2 ((funext (mask_at q i1)).symm ▸ h)]
  exact (congrArg (chosen dt _) (corner _)).trans (chosen_at dt i2)

theorem t3_at (i1 i2 i3 : Fin 16384) (h : Least (masked (fun k => q (ix2 0 k)) i1) i2) (h' : Least (masked (masked (fun k => q (ix2 0 k)) i1) i2) i3) :
    k2_pay9 (F := Ideal) q dt (iota .tc S1x16384 32 [1] iota_S1x16384_d1_w32) (BitVec.ofNat 32 i1.val) = dt (ix2 0 i3) := by
  have e := place_word _ i2 ((funext (mask_at q i1)).symm ▸ h)
  show extractAt ![0, 0, 0] (chosen dt (extractAt ![0, 0, 0] (place (k2_pay7 (F := Ideal) (k2_pay7 (F := Ideal) q (iota .tc S1x16384 32 [1] iota_S1x16384_d1_w32) (BitVec.ofNat 32 i1.val)) (iota .tc S1x16384 32 [1] iota_S1x16384_d1_w32)
    (extractAt ![0, 0, 0] (place (k2_pay7 (F := Ideal) q (iota .tc S1x16384 32 [1] iota_S1x16384_d1_w32) (BitVec.ofNat 32 i1.val))) inpos_S1x1x1_p0_0_0))) inpos_S1x1x1_p0_0_0)) inpos_S1x1x1_p0_0_0 = _
  rw [e, place_word _ i3 ((funext fun k => (mask_at _ i2 k).trans (congrArg (masked · i2 k) (funext (mask_at q i1)))).symm ▸ h')]
  exact (congrArg (chosen dt _) (corner _)).trans (chosen_at dt i3)

theorem weigh_at (t2 t3 : EReal) (s : FVec Ideal S1x1 .f32) : k2_pay1 (F := Ideal) t2 t3 s (ix2 0 0)
    = weigh (s (ix2 0 0)) (Ideal.exp (Ideal.div t2 scale) + Ideal.exp (Ideal.div t3 scale)) := by
  pointwise [k2_pay1]
  rfl

variable (x3 : FVec Ideal S1x784 .f32) (x4 : FVec Ideal S1x1 .f32)

/-- The score from the three nearest places of the first row's distances. -/
theorem score2_at (p : Fin 784) (i1 i2 i3 : Fin 16384) (f : Fin 16384 → EReal) (hf : ∀ k, b (ix2 0 k) - Ideal.ofBits .f32 0x40000000#32 * gs (ix2 0 k) = f k)
    (h1 : Least f i1) (h2 : Least (masked f i1) i2) (h3 : Least (masked (masked f i1) i2) i3) :
    score2 (F := Ideal) gs gt b x3 x4 (BitVec.ofNat 32 p.val) (ix2 0 0) = weigh (x4 (ix2 0 0))
      (Ideal.exp (Ideal.div (Ideal.sqrt (max (b (ix2 0 i2) + x3 (ix2 0 p) - Ideal.ofBits .f32 0x40000000#32 * gt (ix2 0 i2)) 0)) scale)
        + Ideal.exp (Ideal.div (Ideal.sqrt (max (b (ix2 0 i3) + x3 (ix2 0 p) - Ideal.ofBits .f32 0x40000000#32 * gt (ix2 0 i3)) 0)) scale)) := by
  have e : (fun k => k2_pay4 (F := Ideal) b gs (ix2 0 k)) = f := funext fun k => (q_at b gs k).trans (hf k)
  subst e
  unfold score2
  rw [weigh_at, i1_at b gs i1 h1, t2_at _ _ i1 i2 h2, t3_at _ _ i1 i2 i3 h2 h3, dt_at, dt_at]

end Cert.Values

end
-- ==== Proof.V11.lean ====
module

public import proofs.«01_k».proof.Proof.V10

@[expose] public section

set_option maxRecDepth 16384

noncomputable section

namespace Cert.Values

open Cert.KernelIdeal hiding ix2
open Cert.KernelIdeal.Gen Cert.KernelIdeal.Own Idealize.ShloMosaic Idealize.ShloMosaic.TcCoe Idealize.SL.Sem

/-! ## Constants and the square root -/

theorem two_bits : Ideal.ofBits .f32 0x40000000#32 = ((2 : ℝ) : EReal) := by
  simp [Ideal.ofBits, Ideal.ieee, -EReal.coe_mul]
  norm_num

theorem scale_bits : Ideal.ofBits .f32 0x44C00000#32 = ((1536 : ℝ) : EReal) := by
  simp [Ideal.ofBits, Ideal.ieee, -EReal.coe_mul]
  norm_num

theorem sqrt_real (r : ℝ) (h : 0 ≤ r) : Ideal.sqrt (r : EReal) = (Real.sqrt r : EReal) := if_neg (not_lt.2 h)

theorem scale_real : scale = ((Real.sqrt 1536 : ℝ) : EReal) := by
  unfold scale
  rw [scale_bits, sqrt_real _ (by norm_num)]

theorem exp_top : Ideal.exp (Ideal.div ⊤ scale) = ⊤ := by
  have h : (0 : ℝ) < Real.sqrt 1536 := Real.sqrt_pos.2 (by norm_num)
  have e : Ideal.div ⊤ scale = ⊤ := by
    rw [scale_real]
    unfold Ideal.div
    rw [if_neg (by exact_mod_cast h.ne'), ← EReal.coe_inv]
    exact EReal.top_mul_coe_of_pos (inv_pos.2 h)
  rw [e]
  rfl

theorem sqrt_nonneg (x : EReal) (h : 0 ≤ x) : 0 ≤ Ideal.sqrt x := by
  induction x with
  | bot => exact absurd h (by simp)
  | top => exact le_top
  | coe r =>
    rw [sqrt_real r (by exact_mod_cast h)]
    exact_mod_cast Real.sqrt_nonneg r

theorem sqrt_mono {x y : EReal} (h : 0 ≤ x) (hxy : x ≤ y) : Ideal.sqrt x ≤ Ideal.sqrt y := by
  induction y with
  | bot => exact absurd (h.trans hxy) (by simp)
  | top => exact le_top
  | coe s =>
    induction x with
    | bot => exact absurd h (by simp)
    | top => exact absurd hxy (by simp)
    | coe r =>
      have hr : 0 ≤ r := by exact_mod_cast h
      have hs : r ≤ s := by exact_mod_cast hxy
      rw [sqrt_real r hr, sqrt_real s (hr.trans hs)]
      exact_mod_cast Real.sqrt_le_sqrt hs

theorem sqrt_eq_top {x : EReal} (h : Ideal.sqrt x = ⊤) : x = ⊤ := by
  induction x with
  | bot => exact absurd (show (⊥ : EReal) = ⊤ from h) (by simp)
  | top => rfl
  | coe r =>
    by_cases hr : r < 0
    · exact absurd ((if_pos hr).symm.trans h) (by simp)
    · exact absurd ((sqrt_real r (not_lt.1 hr)).symm.trans h) (by simp)

theorem root_real (r : ℝ) (h : 0 ≤ r) : Ideal.sqrt (max (r : EReal) 0) = (Real.sqrt r : EReal) := by
  rw [max_eq_left (by exact_mod_cast h), sqrt_real r h]

theorem root_lt {r s : ℝ} (hr : 0 ≤ r) : (Real.sqrt r : EReal) < (Real.sqrt s : EReal) ↔ r < s := by
  rw [EReal.coe_lt_coe_iff, Real.sqrt_lt_sqrt_iff hr]

/-! ## Sums of real numbers -/

theorem sum_real {n : ℕ} (f : Fin n → ℝ) : (∑ d, (f d : EReal)) = ((∑ d, f d : ℝ) : EReal) := by
  have : ∀ S : Finset (Fin n), (∑ d ∈ S, (f d : EReal)) = ((∑ d ∈ S, f d : ℝ) : EReal) := fun S => by
    induction S using Finset.induction_on with
    | empty => simp
    | insert a S ha ih => rw [Finset.sum_insert ha, Finset.sum_insert ha, ih, EReal.coe_add]
  exact this _

/-- Squared distance of two real rows. -/
def gap {n : ℕ} (x l : Fin n → ℝ) : ℝ := ∑ d, (x d - l d) * (x d - l d)

theorem gap_nonneg {n : ℕ} (x l : Fin n → ℝ) : 0 ≤ gap x l := Finset.sum_nonneg fun d _ => mul_self_nonneg _

theorem gap_expand {n : ℕ} (x l : Fin n → ℝ) : gap x l = (∑ d, l d * l d) - 2 * (∑ d, l d * x d) + ∑ d, x d * x d := by
  unfold gap
  rw [Finset.mul_sum, ← Finset.sum_sub_distrib, ← Finset.sum_add_distrib]
  exact Finset.sum_congr rfl fun d _ => by ring

theorem gap_sum {n : ℕ} (x l : Fin n → ℝ) : (∑ d, ((x d : EReal) - l d) * ((x d : EReal) - l d)) = (gap x l : EReal) := by
  unfold gap
  rw [← sum_real]
  exact Finset.sum_congr rfl fun d _ => by rw [EReal.coe_mul, EReal.coe_sub]

theorem dot_real {n : ℕ} (x l : Fin n → ℝ) : (∑ d, (x d : EReal) * l d) = ((∑ d, x d * l d : ℝ) : EReal) := by
  rw [← sum_real]
  exact Finset.sum_congr rfl fun d _ => (EReal.coe_mul _ _).symm

/-! ## Orders -/

theorem Least.map {n : ℕ} {f g : Fin n → EReal} (h : ∀ j k, f j < f k ↔ g j < g k) {k : Fin n} (hk : Least f k) : Least g k :=
  ⟨fun j => not_lt.1 fun e => absurd ((h j k).2 e) (not_lt.2 (hk.1 j)), fun j hj => (h k j).1 (hk.2 j hj)⟩

theorem Least.ahead {n : ℕ} {f : Fin n → EReal} {k j : Fin n} (h : Least f k) (hj : j ≠ k) : Ahead f k j := by
  rcases lt_or_gt_of_ne hj with e | e
  · exact Or.inl (h.2 j e)
  · rcases lt_or_eq_of_le (h.1 j) with l | l
    · exact Or.inl l
    · exact Or.inr ⟨l, e⟩

theorem Ahead.map {n : ℕ} {f g : Fin n → EReal} (h : ∀ j k, f j < f k ↔ g j < g k) {j k : Fin n} (a : Ahead f j k) : Ahead g j k := by
  rcases a with a | ⟨a, b⟩
  · exact Or.inl ((h j k).1 a)
  · exact Or.inr ⟨le_antisymm (not_lt.1 fun e => absurd ((h k j).2 e) (by rw [a]; exact lt_irrefl _)) (not_lt.1 fun e => absurd ((h j k).2 e) (by rw [a]; exact lt_irrefl _)), b⟩

theorem masked_ne {n : ℕ} (f : Fin n → EReal) {i k : Fin n} (h : k ≠ i) : masked f i k = f k := if_neg h

theorem masked_self {n : ℕ} (f : Fin n → EReal) (i : Fin n) : masked f i i = ⊤ := if_pos rfl

theorem other {n : ℕ} (hn : 3 ≤ n) (i j : Fin n) : ∃ k, k ≠ i ∧ k ≠ j := by
  by_contra h
  push Not at h
  have h0 := h ⟨0, by omega⟩
  have h1 := h ⟨1, by omega⟩
  have h2 := h ⟨2, by omega⟩
  simp only [ne_eq, Fin.ext_iff] at h0 h1 h2
  omega

/-- The least place, the least of the others, and the least of the rest are the first three in order. -/
theorem three_of_least {n : ℕ} (hn : 3 ≤ n) {f : Fin n → EReal} (hf : ∀ k, f k < ⊤) {a b c : Fin n}
    (h1 : Least f a) (h2 : Least (masked f a) b) (h3 : Least (masked (masked f a) b) c) : Three f a b c := by
  obtain ⟨k, ka, kb⟩ := other hn a b
  have ba : b ≠ a := by
    rintro rfl
    have := h2.1 k
    rw [masked_self, masked_ne f ka] at this
    exact absurd this (not_le.2 (hf k))
  have cc : masked (masked f a) b c < ⊤ := lt_of_le_of_lt (h3.1 k) (by rw [masked_ne _ kb, masked_ne _ ka]; exact hf k)
  have cb : c ≠ b := by rintro rfl; rw [masked_self] at cc; exact absurd cc (lt_irrefl _)
  have ca : c ≠ a := by rintro rfl; rw [masked_ne _ cb, masked_self] at cc; exact absurd cc (lt_irrefl _)
  have move : ∀ {g : Fin n → EReal} {x y : Fin n} (i : Fin n), x ≠ i → y ≠ i → Ahead (masked g i) x y → Ahead g x y := by
    intro g x y i hx hy h
    unfold Ahead at h ⊢
    rwa [masked_ne g hx, masked_ne g hy] at h
  exact ⟨h1.ahead ba, move a ba ca (h2.ahead cb), fun p pa pb pc => move a ca pa (move b cb pb (h3.ahead pc))⟩

theorem Three.map {n : ℕ} {f g : Fin n → EReal} (h : ∀ j k, f j < f k ↔ g j < g k) {a b c : Fin n} (t : Three f a b c) : Three g a b c :=
  ⟨t.ab.map h, t.bc.map h, fun p pa pb pc => (t.rest p pa pb pc).map h⟩

theorem first_greatest {n : ℕ} {f : Fin n → EReal} {k : Fin n} (h : First (fun j => f j = most f) k) : Greatest f k :=
  have top : ∀ j, f j ≤ f k := fun j => (Finset.le_fold_max (f j)).2 (Or.inr ⟨j, Finset.mem_univ j, le_refl _⟩) |>.trans_eq h.1.symm
  ⟨top, fun j hj => lt_of_le_of_ne (top j) fun e => h.2 j hj (e.trans h.1)⟩

/-! ## Infinite entries -/

theorem sq_nonneg' (x : EReal) : 0 ≤ x * x := by
  induction x with
  | bot => simp
  | top => simp
  | coe r => exact_mod_cast mul_self_nonneg r

theorem sum_top {n : ℕ} (v : Fin n → EReal) (h : ∃ d, v d = ⊤ ∨ v d = ⊥) : (∑ d, v d * v d) = ⊤ := by
  obtain ⟨d, h⟩ := h
  refine top_le_iff.1 (le_trans (le_of_eq ?_) (Finset.single_le_sum (fun i _ => sq_nonneg' (v i)) (Finset.mem_univ d)))
  rcases h with h | h <;> rw [h] <;> simp

theorem real_or {n : ℕ} (v : Fin n → EReal) : (∃ x : Fin n → ℝ, ∀ d, v d = x d) ∨ ∃ d, v d = ⊤ ∨ v d = ⊥ := by
  by_cases h : ∃ d, v d = ⊤ ∨ v d = ⊥
  · exact Or.inr h
  · push Not at h
    exact Or.inl ⟨fun d => (v d).toReal, fun d => (EReal.coe_toReal (h d).1 (h d).2).symm⟩

/-! ## The two scores -/

section

variable (lib : FVec Ideal S16384x1536 .f32) (pat : FVec Ideal S784x1536 .f32) (p : Fin 784)

/-- The part of the squared distance of two library rows that depends on the second. -/
def qq (m k : Fin 16384) : EReal :=
  b2 lib k - Ideal.ofBits .f32 0x40000000#32 * ∑ d : Fin 1536, lib (ix2 k d) * lib (ix2 m d)

/-- The kernel's distance of a patch and a library row. -/
def tt (k : Fin 16384) : EReal := Ideal.sqrt (max (b2 lib k + a2 pat p - Ideal.ofBits .f32 0x40000000#32 * gg lib pat k p) 0)

/-- The reference's distance of a patch and a library row. -/
def nn (k : Fin 16384) : EReal :=
  Ideal.sqrt (∑ d : Fin 1536, (pat (ix2 p d) - lib (ix2 k d)) * (pat (ix2 p d) - lib (ix2 k d)))

theorem dd_least {k : Fin 16384} (h : Least (fun k => cc lib pat k p) k) : dd lib pat k p = dmin lib pat p :=
  le_antisymm
    ((Finset.le_fold_min _).2 ⟨le_top, fun j _ => sqrt_mono (le_max_right _ _) (max_le_max (add_le_add (h.1 j) le_rfl) le_rfl)⟩)
    ((Finset.fold_min_le _).2 (Or.inr ⟨k, Finset.mem_univ k, le_rfl⟩))

variable (l : Fin 16384 → Fin 1536 → ℝ)

/-- The part of the squared distance that depends on the row, over the reals. -/
def base (x : Fin 1536 → ℝ) (k : Fin 16384) : ℝ := (∑ d, l k d * l k d) - 2 * ∑ d, l k d * x d

theorem gap_base (x : Fin 1536 → ℝ) (k : Fin 16384) : gap x (l k) = base l x k + ∑ d, x d * x d := gap_expand x (l k)

variable (hl : ∀ k d, lib (ix2 k d) = (l k d : EReal))

include hl

theorem b2_real (k : Fin 16384) : b2 lib k = ((∑ d, l k d * l k d : ℝ) : EReal) := by
  unfold b2
  simp only [hl]
  exact dot_real _ _

theorem qq_real (m k : Fin 16384) : qq lib m k = (base l (l m) k : EReal) := by
  unfold qq base
  rw [b2_real lib l hl, two_bits]
  simp only [hl]
  rw [dot_real, ← EReal.coe_mul, ← EReal.coe_sub]

theorem ww_real (m k : Fin 16384) : ww (fun d => lib (ix2 m d)) lib k = (Real.sqrt (gap (l m) (l k)) : EReal) := by
  unfold ww
  simp only [hl, dot_real]
  rw [two_bits, ← EReal.coe_mul, ← EReal.coe_add, ← EReal.coe_sub, ← root_real _ (gap_nonneg _ _), gap_expand]
  congr 3
  simp only [mul_comm (l m _) (l k _)]
  ring

theorem near_order (m j k : Fin 16384) : qq lib m j < qq lib m k ↔ ww (fun d => lib (ix2 m d)) lib j < ww (fun d => lib (ix2 m d)) lib k := by
  rw [qq_real lib l hl, qq_real lib l hl, ww_real lib l hl, ww_real lib l hl, root_lt (gap_nonneg _ _), EReal.coe_lt_coe_iff, gap_base, gap_base, add_lt_add_iff_right]

section

variable (x : Fin 1536 → ℝ) (hx : ∀ d, pat (ix2 p d) = (x d : EReal))

include hx

theorem a2_real : a2 pat p = ((∑ d, x d * x d : ℝ) : EReal) := by
  unfold a2
  simp only [hx]
  exact dot_real _ _

theorem gg_real (k : Fin 16384) : gg lib pat k p = ((∑ d, l k d * x d : ℝ) : EReal) := by
  unfold gg
  simp only [hl, hx]
  exact dot_real _ _

theorem cc_real (k : Fin 16384) : cc lib pat k p = (base l x k : EReal) := by
  unfold cc base
  rw [b2_real lib l hl, gg_real lib pat p l hl x hx, two, two_bits, ← EReal.coe_mul, ← EReal.coe_sub]

theorem dd_real (k : Fin 16384) : dd lib pat k p = (Real.sqrt (gap x (l k)) : EReal) := by
  unfold dd
  rw [cc_real lib pat p l hl x hx, a2_real lib pat p l hl x hx, ← EReal.coe_add, ← gap_base, root_real _ (gap_nonneg _ _)]

theorem row_order (j k : Fin 16384) : cc lib pat j p < cc lib pat k p ↔ dd lib pat j p < dd lib pat k p := by
  rw [cc_real lib pat p l hl x hx, cc_real lib pat p l hl x hx, dd_real lib pat p l hl x hx, dd_real lib pat p l hl x hx, root_lt (gap_nonneg _ _), EReal.coe_lt_coe_iff, gap_base, gap_base, add_lt_add_iff_right]

theorem tt_real (k : Fin 16384) : tt lib pat p k = nn lib pat p k := by
  unfold tt nn
  simp only [hl, hx, gap_sum]
  rw [b2_real lib l hl, gg_real lib pat p l hl x hx, a2_real lib pat p l hl x hx, two_bits, ← EReal.coe_mul, ← EReal.coe_add, ← EReal.coe_sub, sqrt_real _ (gap_nonneg _ _),
    ← root_real _ (gap_nonneg _ _), gap_expand]
  congr 3
  ring

end

section

variable (hx : ∃ d, pat (ix2 p d) = ⊤ ∨ pat (ix2 p d) = ⊥)

include hx

theorem nn_top (k : Fin 16384) : nn lib pat p k = ⊤ := by
  unfold nn
  rw [sum_top]
  · rfl
  · obtain ⟨d, h⟩ := hx
    refine ⟨d, ?_⟩
    rw [hl]
    rcases h with h | h <;> rw [h]
    · exact Or.inl (EReal.top_sub_coe _)
    · exact Or.inr (EReal.bot_sub _)

theorem tt_top (k : Fin 16384) (h : dd lib pat k p = ⊤) : tt lib pat p k = ⊤ := by
  have ha : a2 pat p = ⊤ := sum_top _ hx
  have hs : max (cc lib pat k p + a2 pat p) 0 = ⊤ := sqrt_eq_top h
  have hc : cc lib pat k p ≠ ⊥ := by
    intro e
    rw [e, EReal.bot_add] at hs
    simp at hs
  unfold tt
  unfold cc two at hc
  rw [b2_real lib l hl] at hc
  rw [ha, b2_real lib l hl, EReal.coe_add_top, sub_eq_add_neg, EReal.top_add_of_ne_bot, max_eq_left le_top]
  · rfl
  · intro e
    rw [sub_eq_add_neg, e, EReal.add_bot] at hc
    exact hc rfl

end

theorem agree (k1 k2 : Fin 16384) (hk1 : Least (fun k => cc lib pat k p) k1) (hk2 : Least (fun k => dd lib pat k p) k2)
    (i1 i2 i3 j1 j2 j3 : Fin 16384) (h1 : Least (qq lib k1) i1) (h2 : Least (masked (qq lib k1) i1) i2) (h3 : Least (masked (masked (qq lib k1) i1) i2) i3)
    (g1 : Least (qq lib k2) j1) (g2 : Least (masked (qq lib k2) j1) j2) (g3 : Least (masked (masked (qq lib k2) j1) j2) j3) :
    weigh (dmin lib pat p) (Ideal.exp (Ideal.div (tt lib pat p i2) scale) + Ideal.exp (Ideal.div (tt lib pat p i3) scale))
      = weigh (dmin lib pat p) (Ideal.exp (Ideal.div (nn lib pat p j2) scale) + Ideal.exp (Ideal.div (nn lib pat p j3) scale)) := by
  rcases real_or fun d => pat (ix2 p d) with ⟨x, hx⟩ | hx
  · have e : k1 = k2 := (hk1.map (row_order lib pat p l hl x hx)).unique hk2
    subst e
    have e1 := h1.unique g1
    subst e1
    have e2 := h2.unique g2
    subst e2
    have e3 := h3.unique g3
    subst e3
    rw [tt_real lib pat p l hl x hx, tt_real lib pat p l hl x hx]
  · by_cases e : dmin lib pat p = 0
    · rw [e]
      unfold weigh
      rw [mul_zero, mul_zero]
    · have all : ∀ k, dd lib pat k p = ⊤ := fun k => by
        have hm : dmin lib pat p ≤ dd lib pat k p := (Finset.fold_min_le _).2 (Or.inr ⟨k, Finset.mem_univ k, le_rfl⟩)
        have ha : a2 pat p = ⊤ := sum_top _ hx
        have two : ∀ k, dd lib pat k p = ⊤ ∨ dd lib pat k p = 0 := fun k => by
          unfold dd
          rw [ha]
          by_cases hc : cc lib pat k p = ⊥
          · refine Or.inr ?_
            rw [hc, EReal.bot_add, max_eq_right bot_le, ← EReal.coe_zero, sqrt_real _ le_rfl, Real.sqrt_zero]
          · refine Or.inl ?_
            rw [EReal.add_top_of_ne_bot hc, max_eq_left le_top]
            rfl
        rcases two k2 with h | h
        · exact top_le_iff.1 (h.symm.le.trans (hk2.1 k))
        · exact absurd (hk2.fold.trans h) e
      rw [tt_top lib pat p l hl hx _ (all _), tt_top lib pat p l hl hx _ (all _), nn_top lib pat p l hl hx, nn_top lib pat p l hl hx]

end

end Cert.Values

end
-- ==== Proof.V12.lean ====
module

public import proofs.«01_k».proof.Proof.RRun
public import proofs.«01_k».proof.Proof.V3
public import proofs.«01_k».proof.Proof.V9
public import proofs.«01_k».proof.Proof.V11

@[expose] public section

set_option maxRecDepth 16384

noncomputable section

namespace Cert.Values

open Idealize.ShloMosaic Idealize.ShloMosaic.TcCoe Idealize.SL.Sem
open Cert.ReferenceIdeal
open Cert.ReferenceIdeal.Gen Cert.ReferenceIdeal.Own

/-! # The reference's two results -/

variable (m : (ℓ : Loc nD τ sig) → Buf (Elt Ideal) ℓ) (c : Dev nD)
variable (pat : FVec Ideal S784x1536 .f32) (hp : u0 m c (Proc.devRef .tc main_arg0) = pat)
variable (lib : FVec Ideal S16384x1536 .f32) (hl : u0 m c (Proc.devRef .tc main_arg1) = lib)

include hp hl

theorem r_min (p : Fin 784) : (u1 m c (Proc.devRef .tc main_v17) : FVec Ideal S784 .f32) (ix1 p) = dmin lib pat p := by
  subst hp hl
  exact min_at (u0 m c) p

theorem r_map (W : Valuation Cert.KernelIdeal.τ Cert.KernelIdeal.sig (Elt Ideal)) (y x : Fin 224) :
    (u11 m c (Proc.devRef .tc main_v84) : FVec Ideal S1x1x224x224 .f32) (ix4 0 0 y x)
      = (∑ i : Fin 28, (∑ j : Fin 28, (kweights W (ix2 j y) : EReal) * dmin lib pat ⟨j.val * 28 + i.val, by omega⟩) * (kweights W (ix2 i x) : EReal) : EReal) := by
  have e17 : u7 m c (Proc.devRef .tc main_v17) = u1 m c (Proc.devRef .tc main_v17) :=
    (u7_of m c main_v17 (by decide)).trans <| (u6_of m c main_v17 (by decide)).trans <| (u5_of m c main_v17 (by decide)).trans <|
    (u4_of m c main_v17 (by decide)).trans <| (u3_of m c main_v17 (by decide)).trans (u2_of m c main_v17 (by decide))
  have e83 : u10 m c (Proc.devRef .tc main_v83) = u8 m c (Proc.devRef .tc main_v83) :=
    (u10_of m c main_v83 (by decide)).trans (u9_of m c main_v83 (by decide))
  have el : (u10 m c (Proc.devRef .tc main_call3_v42) : FVec Ideal S28x224 .f32) = kweights W :=
    (u10_of m c main_call3_v42 (by decide)).trans (left_eq W (u8 m c))
  have er : (u10 m c (Proc.devRef .tc main_call3_v85) : FVec Ideal S28x224 .f32) = kweights W := right_eq W (u9 m c)
  have inner : ∀ i j : Fin 28, (u10 m c (Proc.devRef .tc main_v83) : FVec Ideal S1x1x28x28 .f32) (ix4 0 0 j i) = dmin lib pat ⟨j.val * 28 + i.val, by omega⟩ := fun i j =>
    (congrFun e83 (ix4 0 0 j i)).trans ((image_at (u7 m c) _ e17 j i).trans (r_min m c pat hp lib hl _))
  refine (resize_at (u10 m c) _ rfl _ _ el er y x).trans ?_
  simp only [inner]

theorem r_score (k : Fin 784) (hk : Greatest (dmin lib pat) k) (l : Fin 16384) (hkl : Least (fun l => dd lib pat l k) l)
    (i1 i2 i3 : Fin 16384) (h : Three (ww (fun d => lib (ix2 l d)) lib) i1 i2 i3) :
    (u11 m c (Proc.devRef .tc main_v82) : FVec Ideal S_ .f32) ix0
      = weigh (most (dmin lib pat)) (Ideal.exp (Ideal.div (nn lib pat k i2) scale) + Ideal.exp (Ideal.div (nn lib pat k i3) scale)) := by
  have arg0 : ∀ r, r = main_arg0 ∨ r = main_arg1 → u2 m c (Proc.devRef .tc r) = u0 m c (Proc.devRef .tc r) := by
    rintro r (rfl | rfl)
    · exact (u2_of m c _ (by decide)).trans (u1_of m c _ (by decide))
    · exact (u2_of m c _ (by decide)).trans (u1_of m c _ (by decide))
  have p2 : u2 m c (Proc.devRef .tc main_arg0) = pat := (arg0 _ (Or.inl rfl)).trans hp
  have l2 : u2 m c (Proc.devRef .tc main_arg1) = lib := (arg0 _ (Or.inr rfl)).trans hl
  have l3 : u3 m c (Proc.devRef .tc main_arg1) = lib := (u3_of m c _ (by decide)).trans l2
  have l5 : u5 m c (Proc.devRef .tc main_arg1) = lib := (u5_of m c _ (by decide)).trans <| (u4_of m c _ (by decide)).trans l3
  have l6 : u6 m c (Proc.devRef .tc main_arg1) = lib := (u6_of m c _ (by decide)).trans l5
  have mins : (fun p => (u1 m c (Proc.devRef .tc main_v17) : FVec Ideal S784 .f32) (ix1 p)) = dmin lib pat := funext fun p => r_min m c pat hp lib hl p
  have i19 : (u2 m c (Proc.devRef .tc main_v19) : IVec S_ 32) ix0 = BitVec.ofNat 32 k.val := argmax_at (u1 m c) _ rfl k (mins.symm ▸ hk)
  have d16 : (fun l => (u1 m c (Proc.devRef .tc main_v16) : FVec Ideal S784x16384 .f32) (ix2 k l)) = fun l => dd lib pat l k := by
    subst hp hl
    exact funext fun l => dist_at (u0 m c) k l
  have i18 : (u2 m c (Proc.devRef .tc main_v18) : IVec S784 32) (ix1 k) = BitVec.ofNat 32 l.val := argmin_at (u1 m c) _ rfl k l (d16.symm ▸ hkl)
  have s20 : (u2 m c (Proc.devRef .tc main_v20) : FVec Ideal S_ .f32) ix0 = most (dmin lib pat) := (most_at (u1 m c) _ rfl).trans (congrArg most mins)
  have v29 : ∀ d, (u3 m c (Proc.devRef .tc main_v29) : FVec Ideal S1x1536 .f32) (ix2 0 d) = pat (ix2 k d) := patch_at (u2 m c) pat p2 k _ rfl i19
  have v43 : ∀ d, (u5 m c (Proc.devRef .tc main_v43) : FVec Ideal S1x1536 .f32) (ix2 0 d) = lib (ix2 l d) :=
    center_at (u3 m c) lib l3 k _ (u3_of m c main_v19 (by decide)) i19 _ (u3_of m c main_v18 (by decide)) l i18
  have v60 : ∀ j, (u6 m c (Proc.devRef .tc main_v60) : FVec Ideal S1x16384 .f32) (ix2 0 j) = - ww (fun d => lib (ix2 l d)) lib j := fun j =>
    (around_at (u5 m c) lib l5 _ rfl j).trans (congrArg (fun f => - ww f lib j) (funext v43))
  have v71 : ∀ i d, (u7 m c (Proc.devRef .tc main_v71) : FVec Ideal S2x1536 .f32) (ix2 i d) = (pat (ix2 k d) - lib (ix2 (![i2, i3] i) d) : EReal) := fun i d =>
    (next_at (u6 m c) lib l6 _ ((u6_of m c main_v29 (by decide)).trans <| (u5_of m c main_v29 (by decide)).trans (u4_of m c main_v29 (by decide))) _ rfl _ v60 i1 i2 i3 h i d).trans
      (congrArg (fun z : EReal => z - lib (ix2 (![i2, i3] i) d)) (v29 d))
  have e82 : u11 m c (Proc.devRef .tc main_v82) = u8 m c (Proc.devRef .tc main_v82) :=
    (u11_of m c _ (by decide)).trans <| (u10_of m c _ (by decide)).trans (u9_of m c _ (by decide))
  have e20 : u7 m c (Proc.devRef .tc main_v20) = u2 m c (Proc.devRef .tc main_v20) :=
    (u7_of m c _ (by decide)).trans <| (u6_of m c _ (by decide)).trans <| (u5_of m c _ (by decide)).trans <| (u4_of m c _ (by decide)).trans (u3_of m c _ (by decide))
  refine (congrFun e82 ix0).trans ((score_at (u7 m c) _ e20 _ rfl).trans ?_)
  rw [s20, Fin.sum_univ_two]
  simp only [v71]
  rfl

end Cert.Values

end
-- ==== Proof.V13.lean ====
module

public import proofs.«01_k».proof.Proof.V3
public import proofs.«01_k».proof.Proof.V9
public import proofs.«01_k».proof.Proof.V11

@[expose] public section

set_option maxRecDepth 16384

noncomputable section

namespace Cert.Values

open Cert.KernelIdeal hiding ix2
open Cert.KernelIdeal.Gen Cert.KernelIdeal.Own Idealize.ShloMosaic Idealize.ShloMosaic.TcCoe Idealize.SL.Sem

/-! # What the kernel's first call ends with -/

section

variable (lib : FVec Ideal S16384x1536 .f32) (pat : FVec Ideal S784x1536 .f32) (pt : FVec Ideal S1536x784 .f32) (cur : FVec Ideal S1x784 .f32)
variable (hpt : ∀ d p, pt (ix2 d p) = pat (ix2 p d)) (hcur : ∀ p k, Least (fun k => cc lib pat k p) k → cur (ix2 0 p) = cc lib pat k p)

include hpt hcur

/-- The distances the first call ends with. -/
theorem least_of (p : Fin 784) : k0_pay12 (F := Ideal) pt cur (ix2 0 p) = dmin lib pat p := by
  obtain ⟨k, hk⟩ := exists_least (fun k => cc lib pat k p) (by norm_num)
  rw [pay12_at, hcur p k hk]
  simp only [hpt]
  exact dd_least lib pat p hk

theorem top_of : top pt cur = most (dmin lib pat) := by
  unfold top most
  simp only [least_of lib pat pt cur hpt hcur]

omit hpt hcur in
theorem pay15_at : k0_pay15 (F := Ideal) pt cur (ix2 0 0) = k0_pay13 (F := Ideal) pt cur := by
  pointwise [k0_pay15]

omit hpt hcur in
theorem star_at (im : IVec S1x784 32) (i : S1x1.Idx) : star0 (F := Ideal) pt cur im i = k0_pay14 (F := Ideal) pt cur im (ix3 0 0 0) := by
  unfold star0 k0_pay10
  generalize k0_pay14 (F := Ideal) pt cur im = z
  exact congrArg z (corner _)

theorem first_of {k : Fin 784} (h : First (fun p => dmin lib pat p = most (dmin lib pat)) k) :
    First (fun p => k0_pay12 (F := Ideal) pt cur (ix2 0 p) = top pt cur) k := by
  rw [top_of lib pat pt cur hpt hcur]
  simp only [least_of lib pat pt cur hpt hcur]
  exact h

end

variable (m : (ℓ : Loc nD τ sig) → Buf (Elt Ideal) ℓ) (c : Dev nD)

/-- What the first call ends with: the patches' block and its two scratch rows. -/
def lastPt : FVec Ideal S1536x784 .f32 := blk0 (entry (w1 m)) c 0 last0
@[inherit_doc lastPt] def lastCur : FVec Ideal S1x784 .f32 := (acc0 (entry (w1 m)) c 15 (by decide)).1
@[inherit_doc lastPt] def lastArg : IVec S1x784 32 := (acc0 (entry (w1 m)) c 15 (by decide)).2

theorem w2_0 : (w2 m c (Proc.devRef .tc main_v1_0) : FVec Ideal S1x784 .f32) = k0_pay12 (F := Ideal) (lastPt m c) (lastCur m c) :=
  (w2_arr m c 2).trans (arr2 (entry (w1 m)) c _ (after0_2 (entry (w1 m)) c last0))

theorem w2_1 : (w2 m c (Proc.devRef .tc main_v1_1) : FVec Ideal S1x1 .f32) = k0_pay15 (F := Ideal) (lastPt m c) (lastCur m c) :=
  (w2_arr m c 3).trans (arr3 (entry (w1 m)) c _ (after0_3 (entry (w1 m)) c last0))

theorem w2_2 : (w2 m c (Proc.devRef .tc main_v1_2) : IVec S1x1 32) = star0 (F := Ideal) (lastPt m c) (lastCur m c) (lastArg m c) :=
  (w2_arr m c 4).trans (arr4 (entry (w1 m)) c _ (after0_4 (entry (w1 m)) c last0))

theorem w2_3 : (w2 m c (Proc.devRef .tc main_v1_3) : IVec S1x1 32) = k0_pay16 (F := Ideal) (lastPt m c) (lastCur m c) :=
  (w2_arr m c 5).trans (arr5 (entry (w1 m)) c _ (after0_5 (entry (w1 m)) c last0))

theorem w2_5 : (w2 m c (Proc.devRef .tc main_v1_5) : FVec Ideal S1x784 .f32) = k0_pay11 (F := Ideal) (lastPt m c) :=
  (w2_arr m c 7).trans (arr7 (entry (w1 m)) c _ (after0_7 (entry (w1 m)) c last0))

variable (pat : FVec Ideal S784x1536 .f32) (hp : w0 m c (Proc.devRef .tc main_arg0) = pat)
variable (lib : FVec Ideal S16384x1536 .f32) (hl : w0 m c (Proc.devRef .tc main_arg1) = lib)

include hl in
theorem k_lib : entry (w1 m) c main_arg1 = lib := (w1_of m c _ (by decide)).trans hl

include hp in
theorem k_pat (d : Fin 1536) (p : Fin 784) : (entry (w1 m) c main_v0 : FVec Ideal S1536x784 .f32) (ix2 d p) = pat (ix2 p d) := by
  subst hp
  exact turned_at (w0 m c) d p

include hp in
theorem k_pt (d : Fin 1536) (p : Fin 784) : lastPt m c (ix2 d p) = pat (ix2 p d) :=
  pat_at (entry (w1 m)) c pat (k_pat m c pat hp) last0 d p

include hp hl

theorem k_cur (p : Fin 784) (k : Fin 16384) (hk : Least (fun k => cc lib pat k p) k) : lastCur m c (ix2 0 p) = cc lib pat k p :=
  (acc_last (entry (w1 m)) c lib pat (k_lib m c lib hl) (k_pat m c pat hp) p k hk).1

theorem k_arg (p : Fin 784) (k : Fin 16384) (hk : Least (fun k => cc lib pat k p) k) : lastArg m c (ix2 0 p) = BitVec.ofNat 32 k.val :=
  (acc_last (entry (w1 m)) c lib pat (k_lib m c lib hl) (k_pat m c pat hp) p k hk).2

theorem k_v1_0 (p : Fin 784) : (w2 m c (Proc.devRef .tc main_v1_0) : FVec Ideal S1x784 .f32) (ix2 0 p) = dmin lib pat p :=
  (congrFun (w2_0 m c) (ix2 0 p)).trans (least_of lib pat _ _ (k_pt m c pat hp) (k_cur m c pat hp lib hl) p)

theorem k_v1_1 : (w2 m c (Proc.devRef .tc main_v1_1) : FVec Ideal S1x1 .f32) (ix2 0 0) = most (dmin lib pat) :=
  (congrFun (w2_1 m c) (ix2 0 0)).trans <| (pay15_at _ _).trans <| (pay13_at _ _).trans (top_of lib pat _ _ (k_pt m c pat hp) (k_cur m c pat hp lib hl))

theorem k_v1_2 (k : Fin 784) (h : First (fun p => dmin lib pat p = most (dmin lib pat)) k) (l : Fin 16384) (hkl : Least (fun l => cc lib pat l k) l) :
    (w2 m c (Proc.devRef .tc main_v1_2) : IVec S1x1 32) (ix2 0 0) = BitVec.ofNat 32 l.val :=
  (congrFun (w2_2 m c) (ix2 0 0)).trans <| (star_at _ _ _ _).trans <|
    (pay14_at _ _ _ k (first_of lib pat _ _ (k_pt m c pat hp) (k_cur m c pat hp lib hl) h)).trans (k_arg m c pat hp lib hl k l hkl)

theorem k_v1_3 (k : Fin 784) (h : First (fun p => dmin lib pat p = most (dmin lib pat)) k) :
    (w2 m c (Proc.devRef .tc main_v1_3) : IVec S1x1 32) (ix2 0 0) = BitVec.ofNat 32 k.val :=
  (congrFun (w2_3 m c) (ix2 0 0)).trans (pay16_at _ _ k (first_of lib pat _ _ (k_pt m c pat hp) (k_cur m c pat hp lib hl) h))

omit hp in
theorem k_v1_4 : (w2 m c (Proc.devRef .tc main_v1_4) : FVec Ideal S16384x1 .f32) = colB2 lib :=
  (w2_arr m c 6).trans (arr6 (entry (w1 m)) c lib (k_lib m c lib hl))

omit hl in
theorem k_v1_5 (p : Fin 784) : (w2 m c (Proc.devRef .tc main_v1_5) : FVec Ideal S1x784 .f32) (ix2 0 p) = a2 pat p := by
  rw [w2_5, pay11_at]
  simp only [k_pt m c pat hp]
  rfl

end Cert.Values

end
-- ==== Proof.V14.lean ====
module

public import proofs.«01_k».proof.Proof.V13

@[expose] public section

set_option maxRecDepth 16384

noncomputable section

namespace Cert.Values

open Cert.KernelIdeal hiding ix2
open Cert.KernelIdeal.Gen Cert.KernelIdeal.Own Idealize.ShloMosaic Idealize.ShloMosaic.TcCoe Idealize.SL.Sem

/-! # The kernel's two results, at the end of the program -/

variable (m : (ℓ : Loc nD τ sig) → Buf (Elt Ideal) ℓ) (c : Dev nD)

/-- The host operations between the calls leave the first call's results alone. -/
theorem keep (r : Ref sig .tc) (h : r ∈ [main_v1_0, main_v1_1, main_v1_3, main_v1_4, main_v1_5]) : w10 m c (Proc.devRef .tc r) = w2 m c (Proc.devRef .tc r) := by
  have hr : r = main_v1_0 ∨ r = main_v1_1 ∨ r = main_v1_3 ∨ r = main_v1_4 ∨ r = main_v1_5 := by simpa using h
  rcases hr with rfl | rfl | rfl | rfl | rfl
  all_goals
    exact (w10_of m c _ (by decide)).trans <| (w9_of m c _ (by decide)).trans <| (w8_of m c _ (by decide)).trans <| (w7_of m c _ (by decide)).trans <|
      (w6_of m c _ (by decide)).trans <| (w5_of m c _ (by decide)).trans <| (w4_of m c _ (by decide)).trans (w3_of m c _ (by decide))

theorem w12_8 (x0 x1 x2 : FVec Ideal S1x16384 .f32) (x3 : FVec Ideal S1x784 .f32) (x4 : FVec Ideal S1x1 .f32) (k : BitVec 32)
    (h0 : w11 m c (Proc.devRef .tc main_v61) = x0) (h1 : w11 m c (Proc.devRef .tc main_v64) = x1) (h2 : w11 m c (Proc.devRef .tc main_v65) = x2)
    (h3 : w11 m c (Proc.devRef .tc main_v1_5) = x3) (h4 : w11 m c (Proc.devRef .tc main_v1_1) = x4) (hk : (w11 m c (Proc.devRef .tc main_v66) : IVec S1 32) first2 = k) :
    (w12 m c (Proc.devRef .tc main_v68_0) : FVec Ideal S1x1 .f32) = score2 (F := Ideal) x0 x1 x2 x3 x4 k := by
  have e0 := whole2_0 (entry (w11 m)) c x0 h0
  have e1 := whole2_1 (entry (w11 m)) c x1 h1
  have e2 := whole2_2 (entry (w11 m)) c x2 h2
  have e3 := whole2_3 (entry (w11 m)) c x3 h3
  have e4 := whole2_4 (entry (w11 m)) c x4 h4
  have ek : tbl2 (entry (w11 m)) 0 first2 = k :=
    (congrArg (fun d : Dev nD => (w11 m d (Proc.devRef .tc main_v66) : IVec S1 32) first2) (Subsingleton.elim (0 : Dev nD) c)).trans hk
  refine (w12_arr m c 8).trans (arr2_8 (entry (w11 m)) c _ ((after2_8 (entry (w11 m)) c (last2 _)).trans ?_))
  rw [e0, e1, e2, e3, e4, ek]

theorem w12_9 (A : FVec Ideal S224x28 .f32) (M : FVec Ideal S28x28 .f32) (At : FVec Ideal S28x224 .f32)
    (h5 : w11 m c (Proc.devRef .tc main_v58) = M) (h6 : w11 m c (Proc.devRef .tc main_v57) = A) (h7 : w11 m c (Proc.devRef .tc main_v67) = At) :
    (w12 m c (Proc.devRef .tc main_v68_1) : FVec Ideal S224x224 .f32) = k2_pay2 (F := Ideal) A M At := by
  have e5 := whole2_5 (entry (w11 m)) c M h5
  have e6 := whole2_6 (entry (w11 m)) c A h6
  have e7 := whole2_7 (entry (w11 m)) c At h7
  refine (w12_arr m c 9).trans (arr2_9 (entry (w11 m)) c _ ((after2_9 (entry (w11 m)) c (last2 _)).trans ?_))
  rw [e5, e6, e7]

variable (pat : FVec Ideal S784x1536 .f32) (hp : w0 m c (Proc.devRef .tc main_arg0) = pat)
variable (lib : FVec Ideal S16384x1536 .f32) (hl : w0 m c (Proc.devRef .tc main_arg1) = lib)

include hp hl

theorem k_map (y x : Fin 224) :
    (w13 m c (Proc.devRef .tc main_v70) : FVec Ideal S1x1x224x224 .f32) (ix4 0 0 y x)
      = (∑ i : Fin 28, (∑ j : Fin 28, (kweights (w4 m c) (ix2 j y) : EReal) * dmin lib pat ⟨j.val * 28 + i.val, by omega⟩) * (kweights (w4 m c) (ix2 i x) : EReal) : EReal) := by
  have hw : (w10 m c (Proc.devRef .tc main_v56) : FVec Ideal S28x224 .f32) = kweights (w4 m c) := rfl
  have e0 := keep m c main_v1_0 (by decide)
  have sq : ∀ j i : Fin 28, (w11 m c (Proc.devRef .tc main_v58) : FVec Ideal S28x28 .f32) (ix2 j i) = dmin lib pat ⟨j.val * 28 + i.val, by omega⟩ := fun j i =>
    (square_at (w10 m c) _ e0 j i).trans (k_v1_0 m c pat hp lib hl _)
  have hA : ∀ j, (w11 m c (Proc.devRef .tc main_v57) : FVec Ideal S224x28 .f32) (ix2 y j) = kweights (w4 m c) (ix2 j y) := fun j => A_at (w10 m c) _ hw y j
  have hAt : ∀ i, (w11 m c (Proc.devRef .tc main_v67) : FVec Ideal S28x224 .f32) (ix2 i x) = kweights (w4 m c) (ix2 i x) := fun i => At_at (w10 m c) _ hw x i
  refine (end1 (w12 m c) _ (w12_9 m c _ _ _ rfl rfl rfl) y x).trans ((smooth_at _ _ _ y x).trans ?_)
  simp only [sq, hA, hAt]

theorem k_score (k : Fin 784) (h : First (fun p => dmin lib pat p = most (dmin lib pat)) k) (l : Fin 16384) (hkl : Least (fun l => cc lib pat l k) l)
    (i1 i2 i3 : Fin 16384) (h1 : Least (qq lib l) i1) (h2 : Least (masked (qq lib l) i1) i2) (h3 : Least (masked (masked (qq lib l) i1) i2) i3) :
    (w13 m c (Proc.devRef .tc main_v69) : FVec Ideal S_ .f32) ix0
      = weigh (most (dmin lib pat)) (Ideal.exp (Ideal.div (tt lib pat k i2) scale) + Ideal.exp (Ideal.div (tt lib pat k i3) scale)) := by
  have a0 : w2 m c (Proc.devRef .tc main_arg0) = pat := (w2_of m c _ (by decide)).trans <| (w1_of m c _ (by decide)).trans hp
  have a1 : w2 m c (Proc.devRef .tc main_arg1) = lib := (w2_of m c _ (by decide)).trans <| (w1_of m c _ (by decide)).trans hl
  have a3 : w3 m c (Proc.devRef .tc main_arg1) = lib := (w3_of m c _ (by decide)).trans a1
  have pairs := pair_at (w2 m c) lib a1 pat a0 _ rfl l (k_v1_2 m c pat hp lib hl k h l hkl) _ rfl k (k_v1_3 m c pat hp lib hl k h)
  have v14 : (w10 m c (Proc.devRef .tc main_v14) : FVec Ideal S16384x2 .f32) = prods lib (w3 m c (Proc.devRef .tc main_v13)) :=
    (w10_of m c _ (by decide)).trans <| (w9_of m c _ (by decide)).trans <| (w8_of m c _ (by decide)).trans <| (w7_of m c _ (by decide)).trans <|
      (w6_of m c _ (by decide)).trans <| (w5_of m c _ (by decide)).trans <| (w4_arr m c 2).trans (arr1_2 (entry (w3 m)) c lib _ a3 rfl)
  have p0 : ∀ j, (∑ d : Fin 1536, lib (ix2 j d) * (w3 m c (Proc.devRef .tc main_v13) : FVec Ideal S1536x2 .f32) (ix2 d 0) : EReal) = ∑ d : Fin 1536, lib (ix2 j d) * lib (ix2 l d) := fun j =>
    Finset.sum_congr rfl fun d _ => congrArg (fun z : EReal => lib (ix2 j d) * z) (pairs d).1
  have p1 : ∀ j, (∑ d : Fin 1536, lib (ix2 j d) * (w3 m c (Proc.devRef .tc main_v13) : FVec Ideal S1536x2 .f32) (ix2 d 1) : EReal) = ∑ d : Fin 1536, lib (ix2 j d) * pat (ix2 k d) := fun j =>
    Finset.sum_congr rfl fun d _ => congrArg (fun z : EReal => lib (ix2 j d) * z) (pairs d).2
  have gs : ∀ j, (w11 m c (Proc.devRef .tc main_v61) : FVec Ideal S1x16384 .f32) (ix2 0 j) = ∑ d : Fin 1536, lib (ix2 j d) * lib (ix2 l d) := fun j =>
    (gs_at (w10 m c) _ v14 j).trans (p0 j)
  have gt : ∀ j, (w11 m c (Proc.devRef .tc main_v64) : FVec Ideal S1x16384 .f32) (ix2 0 j) = gg lib pat j k := fun j =>
    (gt_at (w10 m c) _ v14 j).trans (p1 j)
  have hb : ∀ j, (w11 m c (Proc.devRef .tc main_v65) : FVec Ideal S1x16384 .f32) (ix2 0 j) = b2 lib j := fun j =>
    b2_at (w10 m c) _ ((keep m c main_v1_4 (by decide)).trans (k_v1_4 m c lib hl)) j
  have word : (w11 m c (Proc.devRef .tc main_v66) : IVec S1 32) first2 = BitVec.ofNat 32 k.val :=
    (word_at (w10 m c) _ (keep m c main_v1_3 (by decide)) first2).trans (k_v1_3 m c pat hp lib hl k h)
  have s4 : (w11 m c (Proc.devRef .tc main_v1_1) : FVec Ideal S1x1 .f32) (ix2 0 0) = most (dmin lib pat) :=
    (congrFun ((w11_of m c main_v1_1 (by decide)).trans (keep m c main_v1_1 (by decide))) (ix2 0 0)).trans (k_v1_1 m c pat hp lib hl)
  have s3 : (w11 m c (Proc.devRef .tc main_v1_5) : FVec Ideal S1x784 .f32) (ix2 0 k) = a2 pat k :=
    (congrFun ((w11_of m c main_v1_5 (by decide)).trans (keep m c main_v1_5 (by decide))) (ix2 0 k)).trans (k_v1_5 m c pat hp k)
  refine (end0 (w12 m c) _ (w12_8 m c _ _ _ _ _ _ rfl rfl rfl rfl rfl word)).trans ?_
  refine (score2_at _ _ _ _ _ k i1 i2 i3 (qq lib l) (fun j => ?_) h1 h2 h3).trans ?_
  · rw [hb, gs]
    rfl
  · rw [hb, hb, gt, gt, s3, s4]
    rfl

end Cert.Values

end
-- ==== Proof.V15.lean ====
module

public import proofs.«01_k».proof.Defs
public import proofs.«01_k».proof.Proof.Gen.Pre_separated
public import proofs.«01_k».proof.Proof.V12
public import proofs.«01_k».proof.Proof.V14
public import Idealize.ShloMosaic.Lib.ReduceAll
public import Idealize.ShloMosaic.Adequacy
public import Idealize.ShloMosaic.Init

@[expose] public section

set_option maxRecDepth 16384

noncomputable section

namespace Cert.Values

open Idealize.ShloMosaic Idealize.ShloMosaic.TcCoe Idealize.SL.Sem

/-! # The two programs end with the same results -/

theorem finite_lib (pat : FVec Ideal Cert.KernelIdeal.S784x1536 .f32) (lib : FVec Ideal Cert.KernelIdeal.S16384x1536 .f32)
    (h : Cert.Pre_separated.fn (F := Ideal) pat lib = fun _ => 1#1) :
    ∃ l : Fin 16384 → Fin 1536 → ℝ, ∀ k d, lib (ix2 k d) = (l k d : EReal) := by
  have h1 := (IntOp.andi_eq_one.1 (congrFun h ix0)).1
  haveI : Subsingleton Cert.Pre_separated.S_.Idx := ⟨fun a b => funext fun i => i.elim0⟩
  have h2 : ∀ k d, lib (ix2 k d) ≠ ⊤ ∧ lib (ix2 k d) ≠ (⊥ : EReal) := fun k d => by
    have h3 := Host.reduce_andi_all _ _ _ _ ix0 h1 (ix2 k d)
    have h4 : Ideal.cmp .olt (max (lib (ix2 k d) : EReal) (-lib (ix2 k d) : EReal)) (Ideal.ofBits .f32 0x7F800000#32) = 1#1 := h3
    rw [top_bits] at h4
    have h5 : max (lib (ix2 k d) : EReal) (-lib (ix2 k d) : EReal) < ⊤ := by
      by_contra hn
      simp [Ideal.cmp, hn] at h4
    generalize (lib (ix2 k d) : EReal) = x at h5
    exact ⟨fun e => by rw [e] at h5; simp at h5, fun e => by rw [e] at h5; simp at h5⟩
  exact ⟨fun k d => (lib (ix2 k d) : EReal).toReal, fun k d => (EReal.coe_toReal (h2 k d).1 (h2 k d).2).symm⟩

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
variable (c : Dev Cert.KernelIdeal.nD)
variable (pat : FVec Ideal Cert.KernelIdeal.S784x1536 .f32) (lib : FVec Ideal Cert.KernelIdeal.S16384x1536 .f32)
  (hp : Cert.KernelIdeal.Own.w0 m c (Proc.devRef .tc Cert.KernelIdeal.main_arg0) = pat) (hl : Cert.KernelIdeal.Own.w0 m c (Proc.devRef .tc Cert.KernelIdeal.main_arg1) = lib)
  (hp' : Cert.ReferenceIdeal.Own.u0 m' c (Proc.devRef .tc Cert.ReferenceIdeal.main_arg0) = pat) (hl' : Cert.ReferenceIdeal.Own.u0 m' c (Proc.devRef .tc Cert.ReferenceIdeal.main_arg1) = lib)

include hp hl hp' hl'

theorem same_map : (Cert.ReferenceIdeal.Own.u11 m' c (Proc.devRef .tc Cert.ReferenceIdeal.main_v84) : FVec Ideal Cert.KernelIdeal.S1x1x224x224 .f32)
    = Cert.KernelIdeal.Own.w13 m c (Proc.devRef .tc Cert.KernelIdeal.main_v70) := by
  funext i
  have hi : i = ix4 0 0 (i 2) (i 3) :=
    (eq_ix4 i).trans (by rw [Subsingleton.elim (α := Fin 1) (i 0) 0, Subsingleton.elim (α := Fin 1) (i 1) 0]; rfl)
  rw [hi]
  exact (r_map m' c pat hp' lib hl' (Cert.KernelIdeal.Own.w4 m c) (i 2) (i 3)).trans (k_map m c pat hp lib hl (i 2) (i 3)).symm

theorem same_score (l : Fin 16384 → Fin 1536 → ℝ) (hfin : ∀ k d, lib (ix2 k d) = (l k d : EReal)) :
    (Cert.ReferenceIdeal.Own.u11 m' c (Proc.devRef .tc Cert.ReferenceIdeal.main_v82) : FVec Ideal Cert.KernelIdeal.S_ .f32)
    = Cert.KernelIdeal.Own.w13 m c (Proc.devRef .tc Cert.KernelIdeal.main_v69) := by
  funext i
  have hi : i = ix0 := funext fun a => a.elim0
  rw [hi]
  obtain ⟨k, hk, -⟩ := first_max (dmin lib pat) (by norm_num)
  obtain ⟨k1, hk1⟩ := exists_least (fun l => cc lib pat l k) (by norm_num)
  obtain ⟨k2, hk2⟩ := exists_least (fun l => dd lib pat l k) (by norm_num)
  obtain ⟨i1, h1⟩ := exists_least (qq lib k1) (by norm_num)
  obtain ⟨i2, h2⟩ := exists_least (masked (qq lib k1) i1) (by norm_num)
  obtain ⟨i3, h3⟩ := exists_least (masked (masked (qq lib k1) i1) i2) (by norm_num)
  obtain ⟨j1, g1⟩ := exists_least (qq lib k2) (by norm_num)
  obtain ⟨j2, g2⟩ := exists_least (masked (qq lib k2) j1) (by norm_num)
  obtain ⟨j3, g3⟩ := exists_least (masked (masked (qq lib k2) j1) j2) (by norm_num)
  have three : Three (ww (fun d => lib (ix2 k2 d)) lib) j1 j2 j3 :=
    (three_of_least (by norm_num) (fun j => by rw [qq_real lib l hfin]; exact EReal.coe_lt_top _) g1 g2 g3).map (near_order lib l hfin k2)
  have top : most (dmin lib pat) = dmin lib pat k := hk.1.symm
  refine (r_score m' c pat hp' lib hl' k (first_greatest hk) k2 hk2 j1 j2 j3 three).trans ?_
  refine Eq.trans ?_ (k_score m c pat hp lib hl k hk k1 hk1 i1 i2 i3 h1 h2 h3).symm
  rw [top]
  exact (agree lib pat k l hfin k1 k2 hk1 hk2 i1 i2 i3 j1 j2 j3 h1 h2 h3 g1 g2 g3).symm

end

/-- The kernel and the reference end with the same score and the same map. -/
theorem same_results : Cert.algebraic_KernelIdeal_ReferenceIdeal := fun m g m' g' hpre hargs => by
  refine ⟨fun c => Cert.KernelIdeal.Own.w13 m c (Proc.devRef .tc Cert.KernelIdeal.main_v69), fun c => Cert.KernelIdeal.Own.w13 m c (Proc.devRef .tc Cert.KernelIdeal.main_v70), ?_, ?_⟩
  · exact θ_run_mono (Cert.KernelIdeal.Own.run_whole m g) fun r h c =>
      ⟨h.1 c _ (Cert.KernelIdeal.Own.mem_held Cert.KernelIdeal.main_v69 (by decide)), h.1 c _ (Cert.KernelIdeal.Own.mem_held Cert.KernelIdeal.main_v70 (by decide)),
       (h.1 c _ (Cert.KernelIdeal.Own.mem_held Cert.KernelIdeal.main_arg0 (by decide))).trans (Cert.KernelIdeal.Own.w13_arg m c Cert.KernelIdeal.main_arg0 (by decide)),
       (h.1 c _ (Cert.KernelIdeal.Own.mem_held Cert.KernelIdeal.main_arg1 (by decide))).trans (Cert.KernelIdeal.Own.w13_arg m c Cert.KernelIdeal.main_arg1 (by decide))⟩
  · refine θ_run_mono (Cert.ReferenceIdeal.Own.run_ops m' g') fun r h c => ?_
    obtain ⟨l, hfin⟩ := finite_lib _ _ (hpre c)
    have e : ∀ b, r.2.mem ((c.tc : Thread Cert.ReferenceIdeal.nD Cert.ReferenceIdeal.τ).loc b) = Cert.ReferenceIdeal.Own.u11 m' c (Proc.devRef .tc b) := fun b =>
      (h.1 c b).trans (congrFun (Cert.ReferenceIdeal.Own.after_ops m' c) _)
    exact ⟨(e _).trans (same_score m m' c _ _ rfl rfl (hargs c).1 (hargs c).2 l hfin), (e _).trans (same_map m m' c _ _ rfl rfl (hargs c).1 (hargs c).2),
      (e _).trans (Cert.ReferenceIdeal.Own.u11_arg m' c _ (by decide)), (e _).trans (Cert.ReferenceIdeal.Own.u11_arg m' c _ (by decide))⟩

end Cert.Values

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_separated
public import proofs.«01_k».proof.Proof.KRun
public import proofs.«01_k».proof.Proof.IRun
public import proofs.«01_k».proof.Proof.RRun
public import proofs.«01_k».proof.Proof.V15
public import Idealize.ShloMosaic.Adequacy
public import Idealize.ShloMosaic.Init

@[expose] public section

noncomputable section

namespace Cert.Proof

open Idealize.ShloMosaic Idealize.SL.Sem

/-- The kernel runs, keeps its arguments and ends with every counter at zero. -/
theorem frame_kernel : Cert.quiescent_Kernel := fun m g _ =>
  θ_run_mono (Cert.Kernel.Own.run_whole m g) fun r h =>
    ⟨fun c =>
      ⟨(h.1 c _ (Cert.Kernel.Own.mem_held Cert.Kernel.main_arg0 (by decide))).trans (Cert.Kernel.Own.w13_arg m c Cert.Kernel.main_arg0 (by decide)),
       (h.1 c _ (Cert.Kernel.Own.mem_held Cert.Kernel.main_arg1 (by decide))).trans (Cert.Kernel.Own.w13_arg m c Cert.Kernel.main_arg1 (by decide))⟩, h.2⟩

/-- So does its idealization. -/
theorem frame_ideal : Cert.quiescent_KernelIdeal := fun m g _ =>
  θ_run_mono (Cert.KernelIdeal.Own.run_whole m g) fun r h =>
    ⟨fun c =>
      ⟨(h.1 c _ (Cert.KernelIdeal.Own.mem_held Cert.KernelIdeal.main_arg0 (by decide))).trans (Cert.KernelIdeal.Own.w13_arg m c Cert.KernelIdeal.main_arg0 (by decide)),
       (h.1 c _ (Cert.KernelIdeal.Own.mem_held Cert.KernelIdeal.main_arg1 (by decide))).trans (Cert.KernelIdeal.Own.w13_arg m c Cert.KernelIdeal.main_arg1 (by decide))⟩, h.2⟩

/-- So does the reference. -/
theorem frame_reference : Cert.quiescent_ReferenceIdeal := fun m g _ =>
  θ_run_mono (Cert.ReferenceIdeal.Own.run_ops m g) fun r h =>
    ⟨fun c =>
      ⟨((h.1 c Cert.ReferenceIdeal.main_arg0).trans (congrFun (Cert.ReferenceIdeal.Own.after_ops m c) _)).trans (Cert.ReferenceIdeal.Own.u11_arg m c _ (by decide)),
       ((h.1 c Cert.ReferenceIdeal.main_arg1).trans (congrFun (Cert.ReferenceIdeal.Own.after_ops m c) _)).trans (Cert.ReferenceIdeal.Own.u11_arg m c _ (by decide))⟩, h.2⟩

theorem claim : Cert.Claim :=
  ⟨Cert.Kernel.Gen.facts, Cert.KernelIdeal.Gen.facts, Cert.ReferenceIdeal.Gen.facts, Cert.Pre_separated.Gen.facts,
    frame_kernel, fun m g _ => frame_kernel m g trivial, frame_ideal, frame_reference,
    fun m g _ => frame_reference m g trivial, trivial, Cert.Values.same_results⟩

end Cert.Proof

end
